-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S4096x2048 : Shape := ⟨2, ![4096, 2048]⟩
abbrev S64x2048 : Shape := ⟨2, ![64, 2048]⟩
abbrev S8x128 : Shape := ⟨2, ![8, 128]⟩
abbrev S16x8x128 : Shape := ⟨3, ![16, 8, 128]⟩
abbrev S4 : Shape := ⟨1, ![4]⟩
abbrev S4x15 : Shape := ⟨2, ![4, 15]⟩
abbrev S15 : Shape := ⟨1, ![15]⟩
abbrev S16 : Shape := ⟨1, ![16]⟩
abbrev S_ : Shape := ⟨0, ![]⟩
abbrev S64x256 : Shape := ⟨2, ![64, 256]⟩
abbrev S1 : Shape := ⟨1, ![1]⟩
abbrev S1x64x2048 : Shape := ⟨3, ![1, 64, 2048]⟩
abbrev S1x1x1 : Shape := ⟨3, ![1, 1, 1]⟩
abbrev S1x8x128 : Shape := ⟨3, ![1, 8, 128]⟩
abbrev S1x1 : Shape := ⟨2, ![1, 1]⟩

abbrev nBuf : Space → Nat
  | .hbm => 3
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .local _ .vmem, ⟨0, _⟩ => ⟨S4096x256, .f32⟩
  | .local _ .vmem, ⟨1, _⟩ => ⟨S256x2048, .f32⟩
  | .local _ .vmem, ⟨2, _⟩ => ⟨S4096x2048, .f32⟩
  | .local _ .vmem, ⟨3, _⟩ => ⟨S4096x2048, .fp8e4m3⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S8x128, .f32⟩
  | .local _ .vmem, ⟨13, _⟩ => ⟨S16x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  (ofTc nBuf bufTy 5 106 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v13 : BitVec 32 := Scalar.muli v2 c64_i32
  let v14 : BitVec 32 := Scalar.addi c0_i32_10 v13
  let v15 : Index := Scalar.indexCast v14
  let c0 : Index := 0#32
  ![v15.toNat, 0]
def k0_off2 (d0 : Dev nD) (c0_i32_10 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v13 : BitVec 32 := Scalar.muli v2 c64_i32
  let v14 : BitVec 32 := Scalar.addi c0_i32_10 v13
  let v21 : Index := Scalar.indexCast v14
  let c0_13 : Index := 0#32
  ![v21.toNat, 0]
def k0_off3 (d0 : Dev nD) (c0_i32_33 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_32 : BitVec 32 := 64#32
  let v53 : BitVec 32 := Scalar.muli v2 c64_i32_32
  let v54 : BitVec 32 := Scalar.addi c0_i32_33 v53
  let c0_i32_38 : BitVec 32 := 0#32
  ![v54.toNat, 0]
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_36 : BitVec 32 := 1#32
  let v55 : BitVec 32 := Scalar.muli v7 c1_i32_36
  let v56 : BitVec 32 := Scalar.addi c0_i32_37 v55
  v56.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_43 : BitVec 32 := 1#32
  let v64 : BitVec 32 := Scalar.muli v5 c1_i32_43
  let v65 : BitVec 32 := Scalar.addi c0_i32_44 v64
  v65.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_50 : BitVec 32 := 1#32
  let v73 : BitVec 32 := Scalar.muli v7 c1_i32_50
  let v74 : BitVec 32 := Scalar.addi c0_i32_51 v73
  v74.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_56 : BitVec 32 := 1#32
  let v82 : BitVec 32 := Scalar.muli v5 c1_i32_56
  let v83 : BitVec 32 := Scalar.addi c0_i32_57 v82
  v83.toNat
def k0_off4 (d0 : Dev nD) (c0_i32_63 : BitVec 32) (c1_i32_60 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v89 : BitVec 32 := Scalar.addi v2 c32_i32
  let c0_i32_59 : BitVec 32 := 0#32
  let v90 : BitVec 32 := Scalar.addi v89 c0_i32_59
  let v91 : BitVec 32 := Scalar.subi v90 c1_i32_60
  let c16_i32_61 : BitVec 32 := 16#32
  let v92 : BitVec 32 := Scalar.remsi v91 c16_i32_61
  let c64_i32_62 : BitVec 32 := 64#32
  let v93 : BitVec 32 := Scalar.muli v92 c64_i32_62
  let v94 : BitVec 32 := Scalar.addi c0_i32_63 v93
  let v95 : Index := Scalar.indexCast v94
  let c0_64 : Index := 0#32
  ![v95.toNat, 0]
def k0_off4_at (r : Fin 60) : BitVec 32 × BitVec 32 :=
  if r.val < 30 then
    if r.val < 15 then
      if r.val < 7 then
        if r.val < 3 then
          if r.val < 1 then
            (0#32, 1#32)
          else
            if r.val < 2 then
              (2048#32, 4294967295#32)
            else
              (1024#32, 1#32)
        else
          if r.val < 5 then
            if r.val < 4 then
              (3072#32, 4294967295#32)
            else
              (0#32, 2#32)
          else
            if r.val < 6 then
              (2048#32, 4294967294#32)
            else
              (1024#32, 2#32)
      else
        if r.val < 11 then
          if r.val < 9 then
            if r.val < 8 then
              (3072#32, 4294967294#32)
            else
              (0#32, 3#32)
          else
            if r.val < 10 then
              (2048#32, 4294967293#32)
            else
              (1024#32, 3#32)
        else
          if r.val < 13 then
            if r.val < 12 then
              (3072#32, 4294967293#32)
            else
              (0#32, 4#32)
          else
            if r.val < 14 then
              (2048#32, 4294967292#32)
            else
              (1024#32, 4#32)
    else
      if r.val < 22 then
        if r.val < 18 then
          if r.val < 16 then
            (3072#32, 4294967292#32)
          else
            if r.val < 17 then
              (0#32, 5#32)
            else
              (2048#32, 4294967291#32)
        else
          if r.val < 20 then
            if r.val < 19 then
              (1024#32, 5#32)
            else
              (3072#32, 4294967291#32)
          else
            if r.val < 21 then
              (0#32, 6#32)
            else
              (2048#32, 4294967290#32)
      else
        if r.val < 26 then
          if r.val < 24 then
            if r.val < 23 then
              (1024#32, 6#32)
            else
              (3072#32, 4294967290#32)
          else
            if r.val < 25 then
              (0#32, 7#32)
            else
              (2048#32, 4294967289#32)
        else
          if r.val < 28 then
            if r.val < 27 then
              (1024#32, 7#32)
            else
              (3072#32, 4294967289#32)
          else
            if r.val < 29 then
              (0#32, 8#32)
            else
              (2048#32, 4294967288#32)
  else
    if r.val < 45 then
      if r.val < 37 then
        if r.val < 33 then
          if r.val < 31 then
            (1024#32, 8#32)
          else
            if r.val < 32 then
              (3072#32, 4294967288#32)
            else
              (0#32, 9#32)
        else
          if r.val < 35 then
            if r.val < 34 then
              (2048#32, 4294967287#32)
            else
              (1024#32, 9#32)
          else
            if r.val < 36 then
              (3072#32, 4294967287#32)
            else
              (0#32, 10#32)
      else
        if r.val < 41 then
          if r.val < 39 then
            if r.val < 38 then
              (2048#32, 4294967286#32)
            else
              (1024#32, 10#32)
          else
            if r.val < 40 then
              (3072#32, 4294967286#32)
            else
              (0#32, 11#32)
        else
          if r.val < 43 then
            if r.val < 42 then
              (2048#32, 4294967285#32)
            else
              (1024#32, 11#32)
          else
            if r.val < 44 then
              (3072#32, 4294967285#32)
            else
              (0#32, 12#32)
    else
      if r.val < 52 then
        if r.val < 48 then
          if r.val < 46 then
            (2048#32, 4294967284#32)
          else
            if r.val < 47 then
              (1024#32, 12#32)
            else
              (3072#32, 4294967284#32)
        else
          if r.val < 50 then
            if r.val < 49 then
              (0#32, 13#32)
            else
              (2048#32, 4294967283#32)
          else
            if r.val < 51 then
              (1024#32, 13#32)
            else
              (3072#32, 4294967283#32)
      else
        if r.val < 56 then
          if r.val < 54 then
            if r.val < 53 then
              (0#32, 14#32)
            else
              (2048#32, 4294967282#32)
          else
            if r.val < 55 then
              (1024#32, 14#32)
            else
              (3072#32, 4294967282#32)
        else
          if r.val < 58 then
            if r.val < 57 then
              (0#32, 15#32)
            else
              (2048#32, 4294967281#32)
          else
            if r.val < 59 then
              (1024#32, 15#32)
            else
              (3072#32, 4294967281#32)
def k0_off5 (d0 : Dev nD) (c0_i32_63 : BitVec 32) (c0_i32_59 : BitVec 32) (c1_i32_60 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v89 : BitVec 32 := Scalar.addi v2 c32_i32
  let v90 : BitVec 32 := Scalar.addi v89 c0_i32_59
  let v91 : BitVec 32 := Scalar.subi v90 c1_i32_60
  let c16_i32_61 : BitVec 32 := 16#32
  let v92 : BitVec 32 := Scalar.remsi v91 c16_i32_61
  let c64_i32_62 : BitVec 32 := 64#32
  let v93 : BitVec 32 := Scalar.muli v92 c64_i32_62
  let v94 : BitVec 32 := Scalar.addi c0_i32_63 v93
  let v101 : Index := Scalar.indexCast v94
  let c0_68 : Index := 0#32
  ![v101.toNat, 0]
def k0_off5_at (r : Fin 68) : BitVec 32 × BitVec 32 × BitVec 32 :=
  if r.val < 34 then
    if r.val < 17 then
      if r.val < 8 then
        if r.val < 4 then
          if r.val < 2 then
            if r.val < 1 then
              (0#32, 0#32, 1#32)
            else
              (2048#32, 0#32, 4294967295#32)
          else
            if r.val < 3 then
              (1024#32, 0#32, 1#32)
            else
              (3072#32, 0#32, 4294967295#32)
        else
          if r.val < 6 then
            if r.val < 5 then
              (0#32, 0#32, 2#32)
            else
              (2048#32, 0#32, 4294967294#32)
          else
            if r.val < 7 then
              (1024#32, 0#32, 2#32)
            else
              (3072#32, 0#32, 4294967294#32)
      else
        if r.val < 12 then
          if r.val < 10 then
            if r.val < 9 then
              (0#32, 0#32, 3#32)
            else
              (2048#32, 0#32, 4294967293#32)
          else
            if r.val < 11 then
              (1024#32, 0#32, 3#32)
            else
              (3072#32, 0#32, 4294967293#32)
        else
          if r.val < 14 then
            if r.val < 13 then
              (0#32, 0#32, 4#32)
            else
              (2048#32, 0#32, 4294967292#32)
          else
            if r.val < 15 then
              (1024#32, 0#32, 4#32)
            else
              if r.val < 16 then
                (3072#32, 0#32, 4294967292#32)
              else
                (0#32, 0#32, 5#32)
    else
      if r.val < 25 then
        if r.val < 21 then
          if r.val < 19 then
            if r.val < 18 then
              (2048#32, 0#32, 4294967291#32)
            else
              (1024#32, 0#32, 5#32)
          else
            if r.val < 20 then
              (3072#32, 0#32, 4294967291#32)
            else
              (0#32, 0#32, 6#32)
        else
          if r.val < 23 then
            if r.val < 22 then
              (2048#32, 0#32, 4294967290#32)
            else
              (1024#32, 0#32, 6#32)
          else
            if r.val < 24 then
              (3072#32, 0#32, 4294967290#32)
            else
              (0#32, 0#32, 7#32)
      else
        if r.val < 29 then
          if r.val < 27 then
            if r.val < 26 then
              (2048#32, 0#32, 4294967289#32)
            else
              (1024#32, 0#32, 7#32)
          else
            if r.val < 28 then
              (3072#32, 0#32, 4294967289#32)
            else
              (0#32, 0#32, 8#32)
        else
          if r.val < 31 then
            if r.val < 30 then
              (2048#32, 0#32, 4294967288#32)
            else
              (1024#32, 0#32, 8#32)
          else
            if r.val < 32 then
              (3072#32, 0#32, 4294967288#32)
            else
              if r.val < 33 then
                (0#32, 0#32, 9#32)
              else
                (2048#32, 0#32, 4294967287#32)
  else
    if r.val < 51 then
      if r.val < 42 then
        if r.val < 38 then
          if r.val < 36 then
            if r.val < 35 then
              (1024#32, 0#32, 9#32)
            else
              (3072#32, 0#32, 4294967287#32)
          else
            if r.val < 37 then
              (0#32, 0#32, 10#32)
            else
              (2048#32, 0#32, 4294967286#32)
        else
          if r.val < 40 then
            if r.val < 39 then
              (1024#32, 0#32, 10#32)
            else
              (3072#32, 0#32, 4294967286#32)
          else
            if r.val < 41 then
              (0#32, 0#32, 11#32)
            else
              (2048#32, 0#32, 4294967285#32)
      else
        if r.val < 46 then
          if r.val < 44 then
            if r.val < 43 then
              (1024#32, 0#32, 11#32)
            else
              (3072#32, 0#32, 4294967285#32)
          else
            if r.val < 45 then
              (0#32, 0#32, 12#32)
            else
              (2048#32, 0#32, 4294967284#32)
        else
          if r.val < 48 then
            if r.val < 47 then
              (1024#32, 0#32, 12#32)
            else
              (3072#32, 0#32, 4294967284#32)
          else
            if r.val < 49 then
              (0#32, 0#32, 13#32)
            else
              if r.val < 50 then
                (2048#32, 0#32, 4294967283#32)
              else
                (1024#32, 0#32, 13#32)
    else
      if r.val < 59 then
        if r.val < 55 then
          if r.val < 53 then
            if r.val < 52 then
              (3072#32, 0#32, 4294967283#32)
            else
              (0#32, 0#32, 14#32)
          else
            if r.val < 54 then
              (2048#32, 0#32, 4294967282#32)
            else
              (1024#32, 0#32, 14#32)
        else
          if r.val < 57 then
            if r.val < 56 then
              (3072#32, 0#32, 4294967282#32)
            else
              (0#32, 0#32, 15#32)
          else
            if r.val < 58 then
              (2048#32, 0#32, 4294967281#32)
            else
              (1024#32, 0#32, 15#32)
      else
        if r.val < 63 then
          if r.val < 61 then
            if r.val < 60 then
              (3072#32, 0#32, 4294967281#32)
            else
              (0#32, 1#32, 0#32)
          else
            if r.val < 62 then
              (2048#32, 4294967295#32, 0#32)
            else
              (1024#32, 1#32, 0#32)
        else
          if r.val < 65 then
            if r.val < 64 then
              (3072#32, 4294967295#32, 0#32)
            else
              (0#32, 0#32, 0#32)
          else
            if r.val < 66 then
              (2048#32, 0#32, 0#32)
            else
              if r.val < 67 then
                (1024#32, 0#32, 0#32)
              else
                (3072#32, 0#32, 0#32)
def k0_dev7 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_713 : BitVec 32 := 1#32
  let v953 : BitVec 32 := Scalar.muli v5 c1_i32_713
  let v954 : BitVec 32 := Scalar.addi c0_i32_714 v953
  v954.toNat
def k0_dev8 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_720 : BitVec 32 := 1#32
  let v957 : BitVec 32 := Scalar.muli v7 c1_i32_720
  let v958 : BitVec 32 := Scalar.addi c0_i32_721 v957
  v958.toNat
def k0_dev9 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_744 : BitVec 32 := 1#32
  let v987 : BitVec 32 := Scalar.muli v7 c1_i32_744
  let v988 : BitVec 32 := Scalar.addi c0_i32_745 v987
  v988.toNat
def k0_dev10 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_751 : BitVec 32 := 1#32
  let v991 : BitVec 32 := Scalar.muli v5 c1_i32_751
  let v992 : BitVec 32 := Scalar.addi c0_i32_752 v991
  v992.toNat
def k0_dev11 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_775 : BitVec 32 := 1#32
  let v1021 : BitVec 32 := Scalar.muli v5 c1_i32_775
  let v1022 : BitVec 32 := Scalar.addi c0_i32_776 v1021
  v1022.toNat
def k0_dev12 (d0 : Dev nD) : Nat :=
  let c0_i32_783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_782 : BitVec 32 := 1#32
  let v1025 : BitVec 32 := Scalar.muli v7 c1_i32_782
  let v1026 : BitVec 32 := Scalar.addi c0_i32_783 v1025
  v1026.toNat
def k0_dev13 (d0 : Dev nD) : Nat :=
  let c0_i32_807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_806 : BitVec 32 := 1#32
  let v1055 : BitVec 32 := Scalar.muli v7 c1_i32_806
  let v1056 : BitVec 32 := Scalar.addi c0_i32_807 v1055
  v1056.toNat
def k0_dev14 (d0 : Dev nD) : Nat :=
  let c0_i32_814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_813 : BitVec 32 := 1#32
  let v1059 : BitVec 32 := Scalar.muli v5 c1_i32_813
  let v1060 : BitVec 32 := Scalar.addi c0_i32_814 v1059
  v1060.toNat
def k0_dev15 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_835 : BitVec 32 := 1#32
  let v1087 : BitVec 32 := Scalar.muli v5 c1_i32_835
  let v1088 : BitVec 32 := Scalar.addi c0_i32_836 v1087
  v1088.toNat
def k0_dev16 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_842 : BitVec 32 := 1#32
  let v1091 : BitVec 32 := Scalar.muli v7 c1_i32_842
  let v1092 : BitVec 32 := Scalar.addi c0_i32_843 v1091
  v1092.toNat
def k0_dev17 (d0 : Dev nD) : Nat :=
  let c0_i32_865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_864 : BitVec 32 := 1#32
  let v1119 : BitVec 32 := Scalar.muli v7 c1_i32_864
  let v1120 : BitVec 32 := Scalar.addi c0_i32_865 v1119
  v1120.toNat
def k0_dev18 (d0 : Dev nD) : Nat :=
  let c0_i32_872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_871 : BitVec 32 := 1#32
  let v1123 : BitVec 32 := Scalar.muli v5 c1_i32_871
  let v1124 : BitVec 32 := Scalar.addi c0_i32_872 v1123
  v1124.toNat
def k0_dev19 (d0 : Dev nD) : Nat :=
  let c0_i32_894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_893 : BitVec 32 := 1#32
  let v1151 : BitVec 32 := Scalar.muli v5 c1_i32_893
  let v1152 : BitVec 32 := Scalar.addi c0_i32_894 v1151
  v1152.toNat
def k0_dev20 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_900 : BitVec 32 := 1#32
  let v1155 : BitVec 32 := Scalar.muli v7 c1_i32_900
  let v1156 : BitVec 32 := Scalar.addi c0_i32_901 v1155
  v1156.toNat
def k0_dev21 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_922 : BitVec 32 := 1#32
  let v1183 : BitVec 32 := Scalar.muli v7 c1_i32_922
  let v1184 : BitVec 32 := Scalar.addi c0_i32_923 v1183
  v1184.toNat
def k0_dev22 (d0 : Dev nD) : Nat :=
  let c0_i32_930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_929 : BitVec 32 := 1#32
  let v1187 : BitVec 32 := Scalar.muli v5 c1_i32_929
  let v1188 : BitVec 32 := Scalar.addi c0_i32_930 v1187
  v1188.toNat
def k0_dev23 (d0 : Dev nD) : Nat :=
  let c0_i32_952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_951 : BitVec 32 := 1#32
  let v1215 : BitVec 32 := Scalar.muli v5 c1_i32_951
  let v1216 : BitVec 32 := Scalar.addi c0_i32_952 v1215
  v1216.toNat
def k0_dev24 (d0 : Dev nD) : Nat :=
  let c0_i32_959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_958 : BitVec 32 := 1#32
  let v1219 : BitVec 32 := Scalar.muli v7 c1_i32_958
  let v1220 : BitVec 32 := Scalar.addi c0_i32_959 v1219
  v1220.toNat
def k0_dev25 (d0 : Dev nD) : Nat :=
  let c0_i32_981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_980 : BitVec 32 := 1#32
  let v1247 : BitVec 32 := Scalar.muli v7 c1_i32_980
  let v1248 : BitVec 32 := Scalar.addi c0_i32_981 v1247
  v1248.toNat
def k0_dev26 (d0 : Dev nD) : Nat :=
  let c0_i32_988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_987 : BitVec 32 := 1#32
  let v1251 : BitVec 32 := Scalar.muli v5 c1_i32_987
  let v1252 : BitVec 32 := Scalar.addi c0_i32_988 v1251
  v1252.toNat
def k0_dev27 (d0 : Dev nD) : Nat :=
  let c0_i32_1010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1009 : BitVec 32 := 1#32
  let v1279 : BitVec 32 := Scalar.muli v5 c1_i32_1009
  let v1280 : BitVec 32 := Scalar.addi c0_i32_1010 v1279
  v1280.toNat
def k0_dev28 (d0 : Dev nD) : Nat :=
  let c0_i32_1017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1016 : BitVec 32 := 1#32
  let v1283 : BitVec 32 := Scalar.muli v7 c1_i32_1016
  let v1284 : BitVec 32 := Scalar.addi c0_i32_1017 v1283
  v1284.toNat
def k0_dev29 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1038 : BitVec 32 := 1#32
  let v1311 : BitVec 32 := Scalar.muli v7 c1_i32_1038
  let v1312 : BitVec 32 := Scalar.addi c0_i32_1039 v1311
  v1312.toNat
def k0_dev30 (d0 : Dev nD) : Nat :=
  let c0_i32_1046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1045 : BitVec 32 := 1#32
  let v1315 : BitVec 32 := Scalar.muli v5 c1_i32_1045
  let v1316 : BitVec 32 := Scalar.addi c0_i32_1046 v1315
  v1316.toNat
def k0_dev31 (d0 : Dev nD) : Nat :=
  let c0_i32_1068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1067 : BitVec 32 := 1#32
  let v1343 : BitVec 32 := Scalar.muli v5 c1_i32_1067
  let v1344 : BitVec 32 := Scalar.addi c0_i32_1068 v1343
  v1344.toNat
def k0_dev32 (d0 : Dev nD) : Nat :=
  let c0_i32_1075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1074 : BitVec 32 := 1#32
  let v1347 : BitVec 32 := Scalar.muli v7 c1_i32_1074
  let v1348 : BitVec 32 := Scalar.addi c0_i32_1075 v1347
  v1348.toNat
def k0_dev33 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1096 : BitVec 32 := 1#32
  let v1375 : BitVec 32 := Scalar.muli v7 c1_i32_1096
  let v1376 : BitVec 32 := Scalar.addi c0_i32_1097 v1375
  v1376.toNat
def k0_dev34 (d0 : Dev nD) : Nat :=
  let c0_i32_1104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1103 : BitVec 32 := 1#32
  let v1379 : BitVec 32 := Scalar.muli v5 c1_i32_1103
  let v1380 : BitVec 32 := Scalar.addi c0_i32_1104 v1379
  v1380.toNat
def k0_dev35 (d0 : Dev nD) : Nat :=
  let c0_i32_1126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1125 : BitVec 32 := 1#32
  let v1407 : BitVec 32 := Scalar.muli v5 c1_i32_1125
  let v1408 : BitVec 32 := Scalar.addi c0_i32_1126 v1407
  v1408.toNat
def k0_dev36 (d0 : Dev nD) : Nat :=
  let c0_i32_1133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1132 : BitVec 32 := 1#32
  let v1411 : BitVec 32 := Scalar.muli v7 c1_i32_1132
  let v1412 : BitVec 32 := Scalar.addi c0_i32_1133 v1411
  v1412.toNat
def k0_dev37 (d0 : Dev nD) : Nat :=
  let c0_i32_1155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1154 : BitVec 32 := 1#32
  let v1439 : BitVec 32 := Scalar.muli v7 c1_i32_1154
  let v1440 : BitVec 32 := Scalar.addi c0_i32_1155 v1439
  v1440.toNat
def k0_dev38 (d0 : Dev nD) : Nat :=
  let c0_i32_1162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1161 : BitVec 32 := 1#32
  let v1443 : BitVec 32 := Scalar.muli v5 c1_i32_1161
  let v1444 : BitVec 32 := Scalar.addi c0_i32_1162 v1443
  v1444.toNat
def k0_dev39 (d0 : Dev nD) : Nat :=
  let c0_i32_1184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1183 : BitVec 32 := 1#32
  let v1471 : BitVec 32 := Scalar.muli v5 c1_i32_1183
  let v1472 : BitVec 32 := Scalar.addi c0_i32_1184 v1471
  v1472.toNat
def k0_dev40 (d0 : Dev nD) : Nat :=
  let c0_i32_1191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1190 : BitVec 32 := 1#32
  let v1475 : BitVec 32 := Scalar.muli v7 c1_i32_1190
  let v1476 : BitVec 32 := Scalar.addi c0_i32_1191 v1475
  v1476.toNat
def k0_dev41 (d0 : Dev nD) : Nat :=
  let c0_i32_1213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1212 : BitVec 32 := 1#32
  let v1503 : BitVec 32 := Scalar.muli v7 c1_i32_1212
  let v1504 : BitVec 32 := Scalar.addi c0_i32_1213 v1503
  v1504.toNat
def k0_dev42 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1219 : BitVec 32 := 1#32
  let v1507 : BitVec 32 := Scalar.muli v5 c1_i32_1219
  let v1508 : BitVec 32 := Scalar.addi c0_i32_1220 v1507
  v1508.toNat
def k0_dev43 (d0 : Dev nD) : Nat :=
  let c0_i32_1242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1241 : BitVec 32 := 1#32
  let v1535 : BitVec 32 := Scalar.muli v5 c1_i32_1241
  let v1536 : BitVec 32 := Scalar.addi c0_i32_1242 v1535
  v1536.toNat
def k0_dev44 (d0 : Dev nD) : Nat :=
  let c0_i32_1249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1248 : BitVec 32 := 1#32
  let v1539 : BitVec 32 := Scalar.muli v7 c1_i32_1248
  let v1540 : BitVec 32 := Scalar.addi c0_i32_1249 v1539
  v1540.toNat
def k0_dev45 (d0 : Dev nD) : Nat :=
  let c0_i32_1271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1270 : BitVec 32 := 1#32
  let v1567 : BitVec 32 := Scalar.muli v7 c1_i32_1270
  let v1568 : BitVec 32 := Scalar.addi c0_i32_1271 v1567
  v1568.toNat
def k0_dev46 (d0 : Dev nD) : Nat :=
  let c0_i32_1278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1277 : BitVec 32 := 1#32
  let v1571 : BitVec 32 := Scalar.muli v5 c1_i32_1277
  let v1572 : BitVec 32 := Scalar.addi c0_i32_1278 v1571
  v1572.toNat
def k0_dev47 (d0 : Dev nD) : Nat :=
  let c0_i32_1300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1299 : BitVec 32 := 1#32
  let v1599 : BitVec 32 := Scalar.muli v5 c1_i32_1299
  let v1600 : BitVec 32 := Scalar.addi c0_i32_1300 v1599
  v1600.toNat
def k0_dev48 (d0 : Dev nD) : Nat :=
  let c0_i32_1307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1306 : BitVec 32 := 1#32
  let v1603 : BitVec 32 := Scalar.muli v7 c1_i32_1306
  let v1604 : BitVec 32 := Scalar.addi c0_i32_1307 v1603
  v1604.toNat
def k0_dev49 (d0 : Dev nD) : Nat :=
  let c0_i32_1329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1328 : BitVec 32 := 1#32
  let v1631 : BitVec 32 := Scalar.muli v7 c1_i32_1328
  let v1632 : BitVec 32 := Scalar.addi c0_i32_1329 v1631
  v1632.toNat
def k0_dev50 (d0 : Dev nD) : Nat :=
  let c0_i32_1336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1335 : BitVec 32 := 1#32
  let v1635 : BitVec 32 := Scalar.muli v5 c1_i32_1335
  let v1636 : BitVec 32 := Scalar.addi c0_i32_1336 v1635
  v1636.toNat
def k0_dev51 (d0 : Dev nD) : Nat :=
  let c0_i32_1358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1357 : BitVec 32 := 1#32
  let v1663 : BitVec 32 := Scalar.muli v5 c1_i32_1357
  let v1664 : BitVec 32 := Scalar.addi c0_i32_1358 v1663
  v1664.toNat
def k0_dev52 (d0 : Dev nD) : Nat :=
  let c0_i32_1365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1364 : BitVec 32 := 1#32
  let v1667 : BitVec 32 := Scalar.muli v7 c1_i32_1364
  let v1668 : BitVec 32 := Scalar.addi c0_i32_1365 v1667
  v1668.toNat
def k0_dev53 (d0 : Dev nD) : Nat :=
  let c0_i32_1387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1386 : BitVec 32 := 1#32
  let v1695 : BitVec 32 := Scalar.muli v7 c1_i32_1386
  let v1696 : BitVec 32 := Scalar.addi c0_i32_1387 v1695
  v1696.toNat
def k0_dev54 (d0 : Dev nD) : Nat :=
  let c0_i32_1394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1393 : BitVec 32 := 1#32
  let v1699 : BitVec 32 := Scalar.muli v5 c1_i32_1393
  let v1700 : BitVec 32 := Scalar.addi c0_i32_1394 v1699
  v1700.toNat
def k0_dev55 (d0 : Dev nD) : Nat :=
  let c0_i32_1416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1415 : BitVec 32 := 1#32
  let v1727 : BitVec 32 := Scalar.muli v5 c1_i32_1415
  let v1728 : BitVec 32 := Scalar.addi c0_i32_1416 v1727
  v1728.toNat
def k0_dev56 (d0 : Dev nD) : Nat :=
  let c0_i32_1423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1422 : BitVec 32 := 1#32
  let v1731 : BitVec 32 := Scalar.muli v7 c1_i32_1422
  let v1732 : BitVec 32 := Scalar.addi c0_i32_1423 v1731
  v1732.toNat
def k0_dev57 (d0 : Dev nD) : Nat :=
  let c0_i32_1445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1444 : BitVec 32 := 1#32
  let v1759 : BitVec 32 := Scalar.muli v7 c1_i32_1444
  let v1760 : BitVec 32 := Scalar.addi c0_i32_1445 v1759
  v1760.toNat
def k0_dev58 (d0 : Dev nD) : Nat :=
  let c0_i32_1452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1451 : BitVec 32 := 1#32
  let v1763 : BitVec 32 := Scalar.muli v5 c1_i32_1451
  let v1764 : BitVec 32 := Scalar.addi c0_i32_1452 v1763
  v1764.toNat
def k0_dev59 (d0 : Dev nD) : Nat :=
  let c0_i32_1474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1473 : BitVec 32 := 1#32
  let v1791 : BitVec 32 := Scalar.muli v5 c1_i32_1473
  let v1792 : BitVec 32 := Scalar.addi c0_i32_1474 v1791
  v1792.toNat
def k0_dev60 (d0 : Dev nD) : Nat :=
  let c0_i32_1481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1480 : BitVec 32 := 1#32
  let v1795 : BitVec 32 := Scalar.muli v7 c1_i32_1480
  let v1796 : BitVec 32 := Scalar.addi c0_i32_1481 v1795
  v1796.toNat
def k0_dev61 (d0 : Dev nD) : Nat :=
  let c0_i32_1503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1502 : BitVec 32 := 1#32
  let v1823 : BitVec 32 := Scalar.muli v7 c1_i32_1502
  let v1824 : BitVec 32 := Scalar.addi c0_i32_1503 v1823
  v1824.toNat
def k0_dev62 (d0 : Dev nD) : Nat :=
  let c0_i32_1510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1509 : BitVec 32 := 1#32
  let v1827 : BitVec 32 := Scalar.muli v5 c1_i32_1509
  let v1828 : BitVec 32 := Scalar.addi c0_i32_1510 v1827
  v1828.toNat
def k0_dev63 (d0 : Dev nD) : Nat :=
  let c0_i32_1532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1531 : BitVec 32 := 1#32
  let v1855 : BitVec 32 := Scalar.muli v5 c1_i32_1531
  let v1856 : BitVec 32 := Scalar.addi c0_i32_1532 v1855
  v1856.toNat
def k0_dev64 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1538 : BitVec 32 := 1#32
  let v1859 : BitVec 32 := Scalar.muli v7 c1_i32_1538
  let v1860 : BitVec 32 := Scalar.addi c0_i32_1539 v1859
  v1860.toNat
def k0_dev65 (d0 : Dev nD) : Nat :=
  let c0_i32_1561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1560 : BitVec 32 := 1#32
  let v1887 : BitVec 32 := Scalar.muli v7 c1_i32_1560
  let v1888 : BitVec 32 := Scalar.addi c0_i32_1561 v1887
  v1888.toNat
def k0_dev66 (d0 : Dev nD) : Nat :=
  let c0_i32_1568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1567 : BitVec 32 := 1#32
  let v1891 : BitVec 32 := Scalar.muli v5 c1_i32_1567
  let v1892 : BitVec 32 := Scalar.addi c0_i32_1568 v1891
  v1892.toNat
def k0_dev67 (d0 : Dev nD) : Nat :=
  let c0_i32_1590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1589 : BitVec 32 := 1#32
  let v1919 : BitVec 32 := Scalar.muli v5 c1_i32_1589
  let v1920 : BitVec 32 := Scalar.addi c0_i32_1590 v1919
  v1920.toNat
def k0_dev68 (d0 : Dev nD) : Nat :=
  let c0_i32_1597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1596 : BitVec 32 := 1#32
  let v1923 : BitVec 32 := Scalar.muli v7 c1_i32_1596
  let v1924 : BitVec 32 := Scalar.addi c0_i32_1597 v1923
  v1924.toNat
def k0_dev69 (d0 : Dev nD) : Nat :=
  let c0_i32_1619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1618 : BitVec 32 := 1#32
  let v1951 : BitVec 32 := Scalar.muli v7 c1_i32_1618
  let v1952 : BitVec 32 := Scalar.addi c0_i32_1619 v1951
  v1952.toNat
def k0_dev70 (d0 : Dev nD) : Nat :=
  let c0_i32_1626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1625 : BitVec 32 := 1#32
  let v1955 : BitVec 32 := Scalar.muli v5 c1_i32_1625
  let v1956 : BitVec 32 := Scalar.addi c0_i32_1626 v1955
  v1956.toNat
def k0_dev71 (d0 : Dev nD) : Nat :=
  let c0_i32_1648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1647 : BitVec 32 := 1#32
  let v1983 : BitVec 32 := Scalar.muli v5 c1_i32_1647
  let v1984 : BitVec 32 := Scalar.addi c0_i32_1648 v1983
  v1984.toNat
def k0_dev72 (d0 : Dev nD) : Nat :=
  let c0_i32_1655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1654 : BitVec 32 := 1#32
  let v1987 : BitVec 32 := Scalar.muli v7 c1_i32_1654
  let v1988 : BitVec 32 := Scalar.addi c0_i32_1655 v1987
  v1988.toNat
def k0_dev73 (d0 : Dev nD) : Nat :=
  let c0_i32_1677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1676 : BitVec 32 := 1#32
  let v2015 : BitVec 32 := Scalar.muli v7 c1_i32_1676
  let v2016 : BitVec 32 := Scalar.addi c0_i32_1677 v2015
  v2016.toNat
def k0_dev74 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1683 : BitVec 32 := 1#32
  let v2019 : BitVec 32 := Scalar.muli v5 c1_i32_1683
  let v2020 : BitVec 32 := Scalar.addi c0_i32_1684 v2019
  v2020.toNat
def k0_dev75 (d0 : Dev nD) : Nat :=
  let c0_i32_1706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1705 : BitVec 32 := 1#32
  let v2047 : BitVec 32 := Scalar.muli v5 c1_i32_1705
  let v2048 : BitVec 32 := Scalar.addi c0_i32_1706 v2047
  v2048.toNat
def k0_dev76 (d0 : Dev nD) : Nat :=
  let c0_i32_1713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1712 : BitVec 32 := 1#32
  let v2051 : BitVec 32 := Scalar.muli v7 c1_i32_1712
  let v2052 : BitVec 32 := Scalar.addi c0_i32_1713 v2051
  v2052.toNat
def k0_dev77 (d0 : Dev nD) : Nat :=
  let c0_i32_1735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1734 : BitVec 32 := 1#32
  let v2079 : BitVec 32 := Scalar.muli v7 c1_i32_1734
  let v2080 : BitVec 32 := Scalar.addi c0_i32_1735 v2079
  v2080.toNat
def k0_dev78 (d0 : Dev nD) : Nat :=
  let c0_i32_1742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1741 : BitVec 32 := 1#32
  let v2083 : BitVec 32 := Scalar.muli v5 c1_i32_1741
  let v2084 : BitVec 32 := Scalar.addi c0_i32_1742 v2083
  v2084.toNat
def k0_dev79 (d0 : Dev nD) : Nat :=
  let c0_i32_1764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1763 : BitVec 32 := 1#32
  let v2111 : BitVec 32 := Scalar.muli v5 c1_i32_1763
  let v2112 : BitVec 32 := Scalar.addi c0_i32_1764 v2111
  v2112.toNat
def k0_dev80 (d0 : Dev nD) : Nat :=
  let c0_i32_1771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1770 : BitVec 32 := 1#32
  let v2115 : BitVec 32 := Scalar.muli v7 c1_i32_1770
  let v2116 : BitVec 32 := Scalar.addi c0_i32_1771 v2115
  v2116.toNat
def k0_dev81 (d0 : Dev nD) : Nat :=
  let c0_i32_1793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1792 : BitVec 32 := 1#32
  let v2143 : BitVec 32 := Scalar.muli v7 c1_i32_1792
  let v2144 : BitVec 32 := Scalar.addi c0_i32_1793 v2143
  v2144.toNat
def k0_dev82 (d0 : Dev nD) : Nat :=
  let c0_i32_1800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1799 : BitVec 32 := 1#32
  let v2147 : BitVec 32 := Scalar.muli v5 c1_i32_1799
  let v2148 : BitVec 32 := Scalar.addi c0_i32_1800 v2147
  v2148.toNat
def k0_dev83 (d0 : Dev nD) : Nat :=
  let c0_i32_1822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1821 : BitVec 32 := 1#32
  let v2175 : BitVec 32 := Scalar.muli v5 c1_i32_1821
  let v2176 : BitVec 32 := Scalar.addi c0_i32_1822 v2175
  v2176.toNat
def k0_dev84 (d0 : Dev nD) : Nat :=
  let c0_i32_1829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1828 : BitVec 32 := 1#32
  let v2179 : BitVec 32 := Scalar.muli v7 c1_i32_1828
  let v2180 : BitVec 32 := Scalar.addi c0_i32_1829 v2179
  v2180.toNat
def k0_dev85 (d0 : Dev nD) : Nat :=
  let c0_i32_1851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1850 : BitVec 32 := 1#32
  let v2207 : BitVec 32 := Scalar.muli v7 c1_i32_1850
  let v2208 : BitVec 32 := Scalar.addi c0_i32_1851 v2207
  v2208.toNat
def k0_dev86 (d0 : Dev nD) : Nat :=
  let c0_i32_1858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1857 : BitVec 32 := 1#32
  let v2211 : BitVec 32 := Scalar.muli v5 c1_i32_1857
  let v2212 : BitVec 32 := Scalar.addi c0_i32_1858 v2211
  v2212.toNat
def k0_dev87 (d0 : Dev nD) : Nat :=
  let c0_i32_1880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1879 : BitVec 32 := 1#32
  let v2239 : BitVec 32 := Scalar.muli v5 c1_i32_1879
  let v2240 : BitVec 32 := Scalar.addi c0_i32_1880 v2239
  v2240.toNat
def k0_dev88 (d0 : Dev nD) : Nat :=
  let c0_i32_1887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1886 : BitVec 32 := 1#32
  let v2243 : BitVec 32 := Scalar.muli v7 c1_i32_1886
  let v2244 : BitVec 32 := Scalar.addi c0_i32_1887 v2243
  v2244.toNat
def k0_dev89 (d0 : Dev nD) : Nat :=
  let c0_i32_1909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1908 : BitVec 32 := 1#32
  let v2271 : BitVec 32 := Scalar.muli v7 c1_i32_1908
  let v2272 : BitVec 32 := Scalar.addi c0_i32_1909 v2271
  v2272.toNat
def k0_dev90 (d0 : Dev nD) : Nat :=
  let c0_i32_1916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1915 : BitVec 32 := 1#32
  let v2275 : BitVec 32 := Scalar.muli v5 c1_i32_1915
  let v2276 : BitVec 32 := Scalar.addi c0_i32_1916 v2275
  v2276.toNat
def k0_dev91 (d0 : Dev nD) : Nat :=
  let c0_i32_1938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1937 : BitVec 32 := 1#32
  let v2303 : BitVec 32 := Scalar.muli v5 c1_i32_1937
  let v2304 : BitVec 32 := Scalar.addi c0_i32_1938 v2303
  v2304.toNat
def k0_dev92 (d0 : Dev nD) : Nat :=
  let c0_i32_1945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1944 : BitVec 32 := 1#32
  let v2307 : BitVec 32 := Scalar.muli v7 c1_i32_1944
  let v2308 : BitVec 32 := Scalar.addi c0_i32_1945 v2307
  v2308.toNat
def k0_dev93 (d0 : Dev nD) : Nat :=
  let c0_i32_1967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1966 : BitVec 32 := 1#32
  let v2335 : BitVec 32 := Scalar.muli v7 c1_i32_1966
  let v2336 : BitVec 32 := Scalar.addi c0_i32_1967 v2335
  v2336.toNat
def k0_dev94 (d0 : Dev nD) : Nat :=
  let c0_i32_1974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1973 : BitVec 32 := 1#32
  let v2339 : BitVec 32 := Scalar.muli v5 c1_i32_1973
  let v2340 : BitVec 32 := Scalar.addi c0_i32_1974 v2339
  v2340.toNat
def k0_dev95 (d0 : Dev nD) : Nat :=
  let c0_i32_1996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1995 : BitVec 32 := 1#32
  let v2367 : BitVec 32 := Scalar.muli v5 c1_i32_1995
  let v2368 : BitVec 32 := Scalar.addi c0_i32_1996 v2367
  v2368.toNat
def k0_dev96 (d0 : Dev nD) : Nat :=
  let c0_i32_2003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2002 : BitVec 32 := 1#32
  let v2371 : BitVec 32 := Scalar.muli v7 c1_i32_2002
  let v2372 : BitVec 32 := Scalar.addi c0_i32_2003 v2371
  v2372.toNat
def k0_dev97 (d0 : Dev nD) : Nat :=
  let c0_i32_2025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2024 : BitVec 32 := 1#32
  let v2399 : BitVec 32 := Scalar.muli v7 c1_i32_2024
  let v2400 : BitVec 32 := Scalar.addi c0_i32_2025 v2399
  v2400.toNat
def k0_dev98 (d0 : Dev nD) : Nat :=
  let c0_i32_2032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2031 : BitVec 32 := 1#32
  let v2403 : BitVec 32 := Scalar.muli v5 c1_i32_2031
  let v2404 : BitVec 32 := Scalar.addi c0_i32_2032 v2403
  v2404.toNat
def k0_dev99 (d0 : Dev nD) : Nat :=
  let c0_i32_2054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2053 : BitVec 32 := 1#32
  let v2431 : BitVec 32 := Scalar.muli v5 c1_i32_2053
  let v2432 : BitVec 32 := Scalar.addi c0_i32_2054 v2431
  v2432.toNat
def k0_dev100 (d0 : Dev nD) : Nat :=
  let c0_i32_2061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2060 : BitVec 32 := 1#32
  let v2435 : BitVec 32 := Scalar.muli v7 c1_i32_2060
  let v2436 : BitVec 32 := Scalar.addi c0_i32_2061 v2435
  v2436.toNat
def k0_dev101 (d0 : Dev nD) : Nat :=
  let c0_i32_2083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2082 : BitVec 32 := 1#32
  let v2463 : BitVec 32 := Scalar.muli v7 c1_i32_2082
  let v2464 : BitVec 32 := Scalar.addi c0_i32_2083 v2463
  v2464.toNat
def k0_dev102 (d0 : Dev nD) : Nat :=
  let c0_i32_2090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2089 : BitVec 32 := 1#32
  let v2467 : BitVec 32 := Scalar.muli v5 c1_i32_2089
  let v2468 : BitVec 32 := Scalar.addi c0_i32_2090 v2467
  v2468.toNat
def k0_dev103 (d0 : Dev nD) : Nat :=
  let c0_i32_2112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2111 : BitVec 32 := 1#32
  let v2495 : BitVec 32 := Scalar.muli v5 c1_i32_2111
  let v2496 : BitVec 32 := Scalar.addi c0_i32_2112 v2495
  v2496.toNat
def k0_dev104 (d0 : Dev nD) : Nat :=
  let c0_i32_2119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2118 : BitVec 32 := 1#32
  let v2499 : BitVec 32 := Scalar.muli v7 c1_i32_2118
  let v2500 : BitVec 32 := Scalar.addi c0_i32_2119 v2499
  v2500.toNat
def k0_dev105 (d0 : Dev nD) : Nat :=
  let c0_i32_2141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2140 : BitVec 32 := 1#32
  let v2527 : BitVec 32 := Scalar.muli v7 c1_i32_2140
  let v2528 : BitVec 32 := Scalar.addi c0_i32_2141 v2527
  v2528.toNat
def k0_dev106 (d0 : Dev nD) : Nat :=
  let c0_i32_2148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2147 : BitVec 32 := 1#32
  let v2531 : BitVec 32 := Scalar.muli v5 c1_i32_2147
  let v2532 : BitVec 32 := Scalar.addi c0_i32_2148 v2531
  v2532.toNat
def k0_dev107 (d0 : Dev nD) : Nat :=
  let c0_i32_2170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2169 : BitVec 32 := 1#32
  let v2559 : BitVec 32 := Scalar.muli v5 c1_i32_2169
  let v2560 : BitVec 32 := Scalar.addi c0_i32_2170 v2559
  v2560.toNat
def k0_dev108 (d0 : Dev nD) : Nat :=
  let c0_i32_2177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2176 : BitVec 32 := 1#32
  let v2563 : BitVec 32 := Scalar.muli v7 c1_i32_2176
  let v2564 : BitVec 32 := Scalar.addi c0_i32_2177 v2563
  v2564.toNat
def k0_dev109 (d0 : Dev nD) : Nat :=
  let c0_i32_2199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2198 : BitVec 32 := 1#32
  let v2591 : BitVec 32 := Scalar.muli v7 c1_i32_2198
  let v2592 : BitVec 32 := Scalar.addi c0_i32_2199 v2591
  v2592.toNat
def k0_dev110 (d0 : Dev nD) : Nat :=
  let c0_i32_2206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2205 : BitVec 32 := 1#32
  let v2595 : BitVec 32 := Scalar.muli v5 c1_i32_2205
  let v2596 : BitVec 32 := Scalar.addi c0_i32_2206 v2595
  v2596.toNat
def k0_dev111 (d0 : Dev nD) : Nat :=
  let c0_i32_2228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2227 : BitVec 32 := 1#32
  let v2623 : BitVec 32 := Scalar.muli v5 c1_i32_2227
  let v2624 : BitVec 32 := Scalar.addi c0_i32_2228 v2623
  v2624.toNat
def k0_dev112 (d0 : Dev nD) : Nat :=
  let c0_i32_2235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2234 : BitVec 32 := 1#32
  let v2627 : BitVec 32 := Scalar.muli v7 c1_i32_2234
  let v2628 : BitVec 32 := Scalar.addi c0_i32_2235 v2627
  v2628.toNat
def k0_dev113 (d0 : Dev nD) : Nat :=
  let c0_i32_2257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2256 : BitVec 32 := 1#32
  let v2655 : BitVec 32 := Scalar.muli v7 c1_i32_2256
  let v2656 : BitVec 32 := Scalar.addi c0_i32_2257 v2655
  v2656.toNat
def k0_dev114 (d0 : Dev nD) : Nat :=
  let c0_i32_2264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2263 : BitVec 32 := 1#32
  let v2659 : BitVec 32 := Scalar.muli v5 c1_i32_2263
  let v2660 : BitVec 32 := Scalar.addi c0_i32_2264 v2659
  v2660.toNat
def k0_dev115 (d0 : Dev nD) : Nat :=
  let c0_i32_2286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2285 : BitVec 32 := 1#32
  let v2687 : BitVec 32 := Scalar.muli v5 c1_i32_2285
  let v2688 : BitVec 32 := Scalar.addi c0_i32_2286 v2687
  v2688.toNat
def k0_dev116 (d0 : Dev nD) : Nat :=
  let c0_i32_2293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2292 : BitVec 32 := 1#32
  let v2691 : BitVec 32 := Scalar.muli v7 c1_i32_2292
  let v2692 : BitVec 32 := Scalar.addi c0_i32_2293 v2691
  v2692.toNat
def k0_dev117 (d0 : Dev nD) : Nat :=
  let c0_i32_2315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2314 : BitVec 32 := 1#32
  let v2719 : BitVec 32 := Scalar.muli v7 c1_i32_2314
  let v2720 : BitVec 32 := Scalar.addi c0_i32_2315 v2719
  v2720.toNat
def k0_dev118 (d0 : Dev nD) : Nat :=
  let c0_i32_2322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2321 : BitVec 32 := 1#32
  let v2723 : BitVec 32 := Scalar.muli v5 c1_i32_2321
  let v2724 : BitVec 32 := Scalar.addi c0_i32_2322 v2723
  v2724.toNat
def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2415 : BitVec 32 := 0#32
  let c0_i32_2416 : BitVec 32 := 0#32
  ![v2.toNat, 0, 0]
def k0_dev119 (d0 : Dev nD) : Nat :=
  let c0_i32_2414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2410 : BitVec 32 := 1#32
  let v2837 : BitVec 32 := Scalar.addi v2 c1_i32_2410
  let c16_i32_2411 : BitVec 32 := 16#32
  let v2838 : BitVec 32 := Scalar.remsi v2837 c16_i32_2411
  let c1_i32_2413 : BitVec 32 := 1#32
  let v2839 : BitVec 32 := Scalar.muli v2838 c1_i32_2413
  let v2840 : BitVec 32 := Scalar.addi c0_i32_2414 v2839
  v2840.toNat
def k0_dev120 (d0 : Dev nD) : Nat :=
  let c0_i32_2421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2417 : BitVec 32 := 2#32
  let v2847 : BitVec 32 := Scalar.addi v2 c2_i32_2417
  let c16_i32_2418 : BitVec 32 := 16#32
  let v2848 : BitVec 32 := Scalar.remsi v2847 c16_i32_2418
  let c1_i32_2420 : BitVec 32 := 1#32
  let v2849 : BitVec 32 := Scalar.muli v2848 c1_i32_2420
  let v2850 : BitVec 32 := Scalar.addi c0_i32_2421 v2849
  v2850.toNat
def k0_dev121 (d0 : Dev nD) : Nat :=
  let c0_i32_2428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2424 : BitVec 32 := 3#32
  let v2857 : BitVec 32 := Scalar.addi v2 c3_i32_2424
  let c16_i32_2425 : BitVec 32 := 16#32
  let v2858 : BitVec 32 := Scalar.remsi v2857 c16_i32_2425
  let c1_i32_2427 : BitVec 32 := 1#32
  let v2859 : BitVec 32 := Scalar.muli v2858 c1_i32_2427
  let v2860 : BitVec 32 := Scalar.addi c0_i32_2428 v2859
  v2860.toNat
def k0_dev122 (d0 : Dev nD) : Nat :=
  let c0_i32_2435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2431 : BitVec 32 := 4#32
  let v2867 : BitVec 32 := Scalar.addi v2 c4_i32_2431
  let c16_i32_2432 : BitVec 32 := 16#32
  let v2868 : BitVec 32 := Scalar.remsi v2867 c16_i32_2432
  let c1_i32_2434 : BitVec 32 := 1#32
  let v2869 : BitVec 32 := Scalar.muli v2868 c1_i32_2434
  let v2870 : BitVec 32 := Scalar.addi c0_i32_2435 v2869
  v2870.toNat
def k0_dev123 (d0 : Dev nD) : Nat :=
  let c0_i32_2442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2438 : BitVec 32 := 5#32
  let v2877 : BitVec 32 := Scalar.addi v2 c5_i32_2438
  let c16_i32_2439 : BitVec 32 := 16#32
  let v2878 : BitVec 32 := Scalar.remsi v2877 c16_i32_2439
  let c1_i32_2441 : BitVec 32 := 1#32
  let v2879 : BitVec 32 := Scalar.muli v2878 c1_i32_2441
  let v2880 : BitVec 32 := Scalar.addi c0_i32_2442 v2879
  v2880.toNat
def k0_dev124 (d0 : Dev nD) : Nat :=
  let c0_i32_2449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2445 : BitVec 32 := 6#32
  let v2887 : BitVec 32 := Scalar.addi v2 c6_i32_2445
  let c16_i32_2446 : BitVec 32 := 16#32
  let v2888 : BitVec 32 := Scalar.remsi v2887 c16_i32_2446
  let c1_i32_2448 : BitVec 32 := 1#32
  let v2889 : BitVec 32 := Scalar.muli v2888 c1_i32_2448
  let v2890 : BitVec 32 := Scalar.addi c0_i32_2449 v2889
  v2890.toNat
def k0_dev125 (d0 : Dev nD) : Nat :=
  let c0_i32_2456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2452 : BitVec 32 := 7#32
  let v2897 : BitVec 32 := Scalar.addi v2 c7_i32_2452
  let c16_i32_2453 : BitVec 32 := 16#32
  let v2898 : BitVec 32 := Scalar.remsi v2897 c16_i32_2453
  let c1_i32_2455 : BitVec 32 := 1#32
  let v2899 : BitVec 32 := Scalar.muli v2898 c1_i32_2455
  let v2900 : BitVec 32 := Scalar.addi c0_i32_2456 v2899
  v2900.toNat
def k0_dev126 (d0 : Dev nD) : Nat :=
  let c0_i32_2463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2459 : BitVec 32 := 8#32
  let v2907 : BitVec 32 := Scalar.addi v2 c8_i32_2459
  let c16_i32_2460 : BitVec 32 := 16#32
  let v2908 : BitVec 32 := Scalar.remsi v2907 c16_i32_2460
  let c1_i32_2462 : BitVec 32 := 1#32
  let v2909 : BitVec 32 := Scalar.muli v2908 c1_i32_2462
  let v2910 : BitVec 32 := Scalar.addi c0_i32_2463 v2909
  v2910.toNat
def k0_dev127 (d0 : Dev nD) : Nat :=
  let c0_i32_2470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2466 : BitVec 32 := 9#32
  let v2917 : BitVec 32 := Scalar.addi v2 c9_i32_2466
  let c16_i32_2467 : BitVec 32 := 16#32
  let v2918 : BitVec 32 := Scalar.remsi v2917 c16_i32_2467
  let c1_i32_2469 : BitVec 32 := 1#32
  let v2919 : BitVec 32 := Scalar.muli v2918 c1_i32_2469
  let v2920 : BitVec 32 := Scalar.addi c0_i32_2470 v2919
  v2920.toNat
def k0_dev128 (d0 : Dev nD) : Nat :=
  let c0_i32_2477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2473 : BitVec 32 := 10#32
  let v2927 : BitVec 32 := Scalar.addi v2 c10_i32_2473
  let c16_i32_2474 : BitVec 32 := 16#32
  let v2928 : BitVec 32 := Scalar.remsi v2927 c16_i32_2474
  let c1_i32_2476 : BitVec 32 := 1#32
  let v2929 : BitVec 32 := Scalar.muli v2928 c1_i32_2476
  let v2930 : BitVec 32 := Scalar.addi c0_i32_2477 v2929
  v2930.toNat
def k0_dev129 (d0 : Dev nD) : Nat :=
  let c0_i32_2484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2480 : BitVec 32 := 11#32
  let v2937 : BitVec 32 := Scalar.addi v2 c11_i32_2480
  let c16_i32_2481 : BitVec 32 := 16#32
  let v2938 : BitVec 32 := Scalar.remsi v2937 c16_i32_2481
  let c1_i32_2483 : BitVec 32 := 1#32
  let v2939 : BitVec 32 := Scalar.muli v2938 c1_i32_2483
  let v2940 : BitVec 32 := Scalar.addi c0_i32_2484 v2939
  v2940.toNat
def k0_dev130 (d0 : Dev nD) : Nat :=
  let c0_i32_2491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2487 : BitVec 32 := 12#32
  let v2947 : BitVec 32 := Scalar.addi v2 c12_i32_2487
  let c16_i32_2488 : BitVec 32 := 16#32
  let v2948 : BitVec 32 := Scalar.remsi v2947 c16_i32_2488
  let c1_i32_2490 : BitVec 32 := 1#32
  let v2949 : BitVec 32 := Scalar.muli v2948 c1_i32_2490
  let v2950 : BitVec 32 := Scalar.addi c0_i32_2491 v2949
  v2950.toNat
def k0_dev131 (d0 : Dev nD) : Nat :=
  let c0_i32_2498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2494 : BitVec 32 := 13#32
  let v2957 : BitVec 32 := Scalar.addi v2 c13_i32_2494
  let c16_i32_2495 : BitVec 32 := 16#32
  let v2958 : BitVec 32 := Scalar.remsi v2957 c16_i32_2495
  let c1_i32_2497 : BitVec 32 := 1#32
  let v2959 : BitVec 32 := Scalar.muli v2958 c1_i32_2497
  let v2960 : BitVec 32 := Scalar.addi c0_i32_2498 v2959
  v2960.toNat
def k0_dev132 (d0 : Dev nD) : Nat :=
  let c0_i32_2505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2501 : BitVec 32 := 14#32
  let v2967 : BitVec 32 := Scalar.addi v2 c14_i32_2501
  let c16_i32_2502 : BitVec 32 := 16#32
  let v2968 : BitVec 32 := Scalar.remsi v2967 c16_i32_2502
  let c1_i32_2504 : BitVec 32 := 1#32
  let v2969 : BitVec 32 := Scalar.muli v2968 c1_i32_2504
  let v2970 : BitVec 32 := Scalar.addi c0_i32_2505 v2969
  v2970.toNat
def k0_dev133 (d0 : Dev nD) : Nat :=
  let c0_i32_2512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2508 : BitVec 32 := 15#32
  let v2977 : BitVec 32 := Scalar.addi v2 c15_i32_2508
  let c16_i32_2509 : BitVec 32 := 16#32
  let v2978 : BitVec 32 := Scalar.remsi v2977 c16_i32_2509
  let c1_i32_2511 : BitVec 32 := 1#32
  let v2979 : BitVec 32 := Scalar.muli v2978 c1_i32_2511
  let v2980 : BitVec 32 := Scalar.addi c0_i32_2512 v2979
  v2980.toNat
def k0_off8 (d0 : Dev nD) (c1_i32_2515 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2987 : BitVec 32 := Scalar.addi v2 c1_i32_2515
  let c16_i32_2516 : BitVec 32 := 16#32
  let v2988 : BitVec 32 := Scalar.remsi v2987 c16_i32_2516
  ![v2988.toNat]
def k0_off9 (d0 : Dev nD) (c1_i32_2515 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2987 : BitVec 32 := Scalar.addi v2 c1_i32_2515
  let c16_i32_2516 : BitVec 32 := 16#32
  let v2988 : BitVec 32 := Scalar.remsi v2987 c16_i32_2516
  let c0_i32_2520 : BitVec 32 := 0#32
  let c0_i32_2521 : BitVec 32 := 0#32
  ![v2988.toNat, 0, 0]
def k0_off10 (d0 : Dev nD) (c1_i32_2515 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2987 : BitVec 32 := Scalar.addi v2 c1_i32_2515
  let c16_i32_2516 : BitVec 32 := 16#32
  let v2988 : BitVec 32 := Scalar.remsi v2987 c16_i32_2516
  let v2995 : Index := Scalar.indexCast v2988
  let c0_2522 : Index := 0#32
  let c0_2523 : Index := 0#32
  ![v2995.toNat, 0, 0]
def k0_off11 (d0 : Dev nD) (c0_i32_2770 : BitVec 32) (c1_i32_2764 : BitVec 32) (c0_i32_2765 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_2763 : BitVec 32 := 32#32
  let v3320 : BitVec 32 := Scalar.addi v2 c32_i32_2763
  let v3321 : BitVec 32 := Scalar.addi v3320 c1_i32_2764
  let v3322 : BitVec 32 := Scalar.subi v3321 c0_i32_2765
  let c16_i32_2766 : BitVec 32 := 16#32
  let v3323 : BitVec 32 := Scalar.remsi v3322 c16_i32_2766
  let c64_i32_2769 : BitVec 32 := 64#32
  let v3326 : BitVec 32 := Scalar.muli v3323 c64_i32_2769
  let v3327 : BitVec 32 := Scalar.addi c0_i32_2770 v3326
  let c0_i32_2776 : BitVec 32 := 0#32
  ![v3327.toNat, 0]
def k0_off11_at (r : Fin 60) : BitVec 32 × BitVec 32 × BitVec 32 :=
  if r.val < 30 then
    if r.val < 15 then
      if r.val < 7 then
        if r.val < 3 then
          if r.val < 1 then
            (0#32, 1#32, 0#32)
          else
            if r.val < 2 then
              (2048#32, 4294967295#32, 0#32)
            else
              (1024#32, 1#32, 0#32)
        else
          if r.val < 5 then
            if r.val < 4 then
              (3072#32, 4294967295#32, 0#32)
            else
              (0#32, 1#32, 1#32)
          else
            if r.val < 6 then
              (2048#32, 4294967295#32, 4294967295#32)
            else
              (1024#32, 1#32, 1#32)
      else
        if r.val < 11 then
          if r.val < 9 then
            if r.val < 8 then
              (3072#32, 4294967295#32, 4294967295#32)
            else
              (0#32, 1#32, 2#32)
          else
            if r.val < 10 then
              (2048#32, 4294967295#32, 4294967294#32)
            else
              (1024#32, 1#32, 2#32)
        else
          if r.val < 13 then
            if r.val < 12 then
              (3072#32, 4294967295#32, 4294967294#32)
            else
              (0#32, 1#32, 3#32)
          else
            if r.val < 14 then
              (2048#32, 4294967295#32, 4294967293#32)
            else
              (1024#32, 1#32, 3#32)
    else
      if r.val < 22 then
        if r.val < 18 then
          if r.val < 16 then
            (3072#32, 4294967295#32, 4294967293#32)
          else
            if r.val < 17 then
              (0#32, 1#32, 4#32)
            else
              (2048#32, 4294967295#32, 4294967292#32)
        else
          if r.val < 20 then
            if r.val < 19 then
              (1024#32, 1#32, 4#32)
            else
              (3072#32, 4294967295#32, 4294967292#32)
          else
            if r.val < 21 then
              (0#32, 1#32, 5#32)
            else
              (2048#32, 4294967295#32, 4294967291#32)
      else
        if r.val < 26 then
          if r.val < 24 then
            if r.val < 23 then
              (1024#32, 1#32, 5#32)
            else
              (3072#32, 4294967295#32, 4294967291#32)
          else
            if r.val < 25 then
              (0#32, 1#32, 6#32)
            else
              (2048#32, 4294967295#32, 4294967290#32)
        else
          if r.val < 28 then
            if r.val < 27 then
              (1024#32, 1#32, 6#32)
            else
              (3072#32, 4294967295#32, 4294967290#32)
          else
            if r.val < 29 then
              (0#32, 1#32, 7#32)
            else
              (2048#32, 4294967295#32, 4294967289#32)
  else
    if r.val < 45 then
      if r.val < 37 then
        if r.val < 33 then
          if r.val < 31 then
            (1024#32, 1#32, 7#32)
          else
            if r.val < 32 then
              (3072#32, 4294967295#32, 4294967289#32)
            else
              (0#32, 1#32, 8#32)
        else
          if r.val < 35 then
            if r.val < 34 then
              (2048#32, 4294967295#32, 4294967288#32)
            else
              (1024#32, 1#32, 8#32)
          else
            if r.val < 36 then
              (3072#32, 4294967295#32, 4294967288#32)
            else
              (0#32, 1#32, 9#32)
      else
        if r.val < 41 then
          if r.val < 39 then
            if r.val < 38 then
              (2048#32, 4294967295#32, 4294967287#32)
            else
              (1024#32, 1#32, 9#32)
          else
            if r.val < 40 then
              (3072#32, 4294967295#32, 4294967287#32)
            else
              (0#32, 1#32, 10#32)
        else
          if r.val < 43 then
            if r.val < 42 then
              (2048#32, 4294967295#32, 4294967286#32)
            else
              (1024#32, 1#32, 10#32)
          else
            if r.val < 44 then
              (3072#32, 4294967295#32, 4294967286#32)
            else
              (0#32, 1#32, 11#32)
    else
      if r.val < 52 then
        if r.val < 48 then
          if r.val < 46 then
            (2048#32, 4294967295#32, 4294967285#32)
          else
            if r.val < 47 then
              (1024#32, 1#32, 11#32)
            else
              (3072#32, 4294967295#32, 4294967285#32)
        else
          if r.val < 50 then
            if r.val < 49 then
              (0#32, 1#32, 12#32)
            else
              (2048#32, 4294967295#32, 4294967284#32)
          else
            if r.val < 51 then
              (1024#32, 1#32, 12#32)
            else
              (3072#32, 4294967295#32, 4294967284#32)
      else
        if r.val < 56 then
          if r.val < 54 then
            if r.val < 53 then
              (0#32, 1#32, 13#32)
            else
              (2048#32, 4294967295#32, 4294967283#32)
          else
            if r.val < 55 then
              (1024#32, 1#32, 13#32)
            else
              (3072#32, 4294967295#32, 4294967283#32)
        else
          if r.val < 58 then
            if r.val < 57 then
              (0#32, 1#32, 14#32)
            else
              (2048#32, 4294967295#32, 4294967282#32)
          else
            if r.val < 59 then
              (1024#32, 1#32, 14#32)
            else
              (3072#32, 4294967295#32, 4294967282#32)
def k0_dev134 (d0 : Dev nD) : Nat :=
  let c0_i32_2775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2774 : BitVec 32 := 1#32
  let v3328 : BitVec 32 := Scalar.muli v7 c1_i32_2774
  let v3329 : BitVec 32 := Scalar.addi c0_i32_2775 v3328
  v3329.toNat
def k0_dev135 (d0 : Dev nD) : Nat :=
  let c0_i32_2790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2789 : BitVec 32 := 1#32
  let v3344 : BitVec 32 := Scalar.muli v5 c1_i32_2789
  let v3345 : BitVec 32 := Scalar.addi c0_i32_2790 v3344
  v3345.toNat
def k0_dev136 (d0 : Dev nD) : Nat :=
  let c0_i32_2805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2804 : BitVec 32 := 1#32
  let v3360 : BitVec 32 := Scalar.muli v7 c1_i32_2804
  let v3361 : BitVec 32 := Scalar.addi c0_i32_2805 v3360
  v3361.toNat
def k0_dev137 (d0 : Dev nD) : Nat :=
  let c0_i32_2820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2819 : BitVec 32 := 1#32
  let v3376 : BitVec 32 := Scalar.muli v5 c1_i32_2819
  let v3377 : BitVec 32 := Scalar.addi c0_i32_2820 v3376
  v3377.toNat
def k0_dev138 (d0 : Dev nD) : Nat :=
  let c0_i32_2848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2847 : BitVec 32 := 1#32
  let v3402 : BitVec 32 := Scalar.muli v7 c1_i32_2847
  let v3403 : BitVec 32 := Scalar.addi c0_i32_2848 v3402
  v3403.toNat
def k0_dev139 (d0 : Dev nD) : Nat :=
  let c0_i32_2886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2885 : BitVec 32 := 1#32
  let v3443 : BitVec 32 := Scalar.muli v5 c1_i32_2885
  let v3444 : BitVec 32 := Scalar.addi c0_i32_2886 v3443
  v3444.toNat
def k0_dev140 (d0 : Dev nD) : Nat :=
  let c0_i32_2924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2923 : BitVec 32 := 1#32
  let v3484 : BitVec 32 := Scalar.muli v7 c1_i32_2923
  let v3485 : BitVec 32 := Scalar.addi c0_i32_2924 v3484
  v3485.toNat
def k0_dev141 (d0 : Dev nD) : Nat :=
  let c0_i32_2962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2961 : BitVec 32 := 1#32
  let v3525 : BitVec 32 := Scalar.muli v5 c1_i32_2961
  let v3526 : BitVec 32 := Scalar.addi c0_i32_2962 v3525
  v3526.toNat
def k0_dev142 (d0 : Dev nD) : Nat :=
  let c0_i32_3000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2999 : BitVec 32 := 1#32
  let v3566 : BitVec 32 := Scalar.muli v7 c1_i32_2999
  let v3567 : BitVec 32 := Scalar.addi c0_i32_3000 v3566
  v3567.toNat
def k0_dev143 (d0 : Dev nD) : Nat :=
  let c0_i32_3038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3037 : BitVec 32 := 1#32
  let v3607 : BitVec 32 := Scalar.muli v5 c1_i32_3037
  let v3608 : BitVec 32 := Scalar.addi c0_i32_3038 v3607
  v3608.toNat
def k0_dev144 (d0 : Dev nD) : Nat :=
  let c0_i32_3076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3075 : BitVec 32 := 1#32
  let v3648 : BitVec 32 := Scalar.muli v7 c1_i32_3075
  let v3649 : BitVec 32 := Scalar.addi c0_i32_3076 v3648
  v3649.toNat
def k0_dev145 (d0 : Dev nD) : Nat :=
  let c0_i32_3114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3113 : BitVec 32 := 1#32
  let v3689 : BitVec 32 := Scalar.muli v5 c1_i32_3113
  let v3690 : BitVec 32 := Scalar.addi c0_i32_3114 v3689
  v3690.toNat
def k0_dev146 (d0 : Dev nD) : Nat :=
  let c0_i32_3152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3151 : BitVec 32 := 1#32
  let v3730 : BitVec 32 := Scalar.muli v7 c1_i32_3151
  let v3731 : BitVec 32 := Scalar.addi c0_i32_3152 v3730
  v3731.toNat
def k0_dev147 (d0 : Dev nD) : Nat :=
  let c0_i32_3190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3189 : BitVec 32 := 1#32
  let v3771 : BitVec 32 := Scalar.muli v5 c1_i32_3189
  let v3772 : BitVec 32 := Scalar.addi c0_i32_3190 v3771
  v3772.toNat
def k0_dev148 (d0 : Dev nD) : Nat :=
  let c0_i32_3228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3227 : BitVec 32 := 1#32
  let v3812 : BitVec 32 := Scalar.muli v7 c1_i32_3227
  let v3813 : BitVec 32 := Scalar.addi c0_i32_3228 v3812
  v3813.toNat
def k0_dev149 (d0 : Dev nD) : Nat :=
  let c0_i32_3266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3265 : BitVec 32 := 1#32
  let v3853 : BitVec 32 := Scalar.muli v5 c1_i32_3265
  let v3854 : BitVec 32 := Scalar.addi c0_i32_3266 v3853
  v3854.toNat
def k0_dev150 (d0 : Dev nD) : Nat :=
  let c0_i32_3304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3303 : BitVec 32 := 1#32
  let v3894 : BitVec 32 := Scalar.muli v7 c1_i32_3303
  let v3895 : BitVec 32 := Scalar.addi c0_i32_3304 v3894
  v3895.toNat
def k0_dev151 (d0 : Dev nD) : Nat :=
  let c0_i32_3342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3341 : BitVec 32 := 1#32
  let v3935 : BitVec 32 := Scalar.muli v5 c1_i32_3341
  let v3936 : BitVec 32 := Scalar.addi c0_i32_3342 v3935
  v3936.toNat
def k0_dev152 (d0 : Dev nD) : Nat :=
  let c0_i32_3380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3379 : BitVec 32 := 1#32
  let v3976 : BitVec 32 := Scalar.muli v7 c1_i32_3379
  let v3977 : BitVec 32 := Scalar.addi c0_i32_3380 v3976
  v3977.toNat
def k0_dev153 (d0 : Dev nD) : Nat :=
  let c0_i32_3418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3417 : BitVec 32 := 1#32
  let v4017 : BitVec 32 := Scalar.muli v5 c1_i32_3417
  let v4018 : BitVec 32 := Scalar.addi c0_i32_3418 v4017
  v4018.toNat
def k0_dev154 (d0 : Dev nD) : Nat :=
  let c0_i32_3456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3455 : BitVec 32 := 1#32
  let v4058 : BitVec 32 := Scalar.muli v7 c1_i32_3455
  let v4059 : BitVec 32 := Scalar.addi c0_i32_3456 v4058
  v4059.toNat
def k0_dev155 (d0 : Dev nD) : Nat :=
  let c0_i32_3494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3493 : BitVec 32 := 1#32
  let v4099 : BitVec 32 := Scalar.muli v5 c1_i32_3493
  let v4100 : BitVec 32 := Scalar.addi c0_i32_3494 v4099
  v4100.toNat
def k0_dev156 (d0 : Dev nD) : Nat :=
  let c0_i32_3532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3531 : BitVec 32 := 1#32
  let v4140 : BitVec 32 := Scalar.muli v7 c1_i32_3531
  let v4141 : BitVec 32 := Scalar.addi c0_i32_3532 v4140
  v4141.toNat
def k0_dev157 (d0 : Dev nD) : Nat :=
  let c0_i32_3570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3569 : BitVec 32 := 1#32
  let v4181 : BitVec 32 := Scalar.muli v5 c1_i32_3569
  let v4182 : BitVec 32 := Scalar.addi c0_i32_3570 v4181
  v4182.toNat
def k0_dev158 (d0 : Dev nD) : Nat :=
  let c0_i32_3608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3607 : BitVec 32 := 1#32
  let v4222 : BitVec 32 := Scalar.muli v7 c1_i32_3607
  let v4223 : BitVec 32 := Scalar.addi c0_i32_3608 v4222
  v4223.toNat
def k0_dev159 (d0 : Dev nD) : Nat :=
  let c0_i32_3646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3645 : BitVec 32 := 1#32
  let v4263 : BitVec 32 := Scalar.muli v5 c1_i32_3645
  let v4264 : BitVec 32 := Scalar.addi c0_i32_3646 v4263
  v4264.toNat
def k0_dev160 (d0 : Dev nD) : Nat :=
  let c0_i32_3684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3683 : BitVec 32 := 1#32
  let v4304 : BitVec 32 := Scalar.muli v7 c1_i32_3683
  let v4305 : BitVec 32 := Scalar.addi c0_i32_3684 v4304
  v4305.toNat
def k0_dev161 (d0 : Dev nD) : Nat :=
  let c0_i32_3722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3721 : BitVec 32 := 1#32
  let v4345 : BitVec 32 := Scalar.muli v5 c1_i32_3721
  let v4346 : BitVec 32 := Scalar.addi c0_i32_3722 v4345
  v4346.toNat
def k0_dev162 (d0 : Dev nD) : Nat :=
  let c0_i32_3760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3759 : BitVec 32 := 1#32
  let v4386 : BitVec 32 := Scalar.muli v7 c1_i32_3759
  let v4387 : BitVec 32 := Scalar.addi c0_i32_3760 v4386
  v4387.toNat
def k0_dev163 (d0 : Dev nD) : Nat :=
  let c0_i32_3798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3797 : BitVec 32 := 1#32
  let v4427 : BitVec 32 := Scalar.muli v5 c1_i32_3797
  let v4428 : BitVec 32 := Scalar.addi c0_i32_3798 v4427
  v4428.toNat
def k0_dev164 (d0 : Dev nD) : Nat :=
  let c0_i32_3836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3835 : BitVec 32 := 1#32
  let v4468 : BitVec 32 := Scalar.muli v7 c1_i32_3835
  let v4469 : BitVec 32 := Scalar.addi c0_i32_3836 v4468
  v4469.toNat
def k0_dev165 (d0 : Dev nD) : Nat :=
  let c0_i32_3874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3873 : BitVec 32 := 1#32
  let v4509 : BitVec 32 := Scalar.muli v5 c1_i32_3873
  let v4510 : BitVec 32 := Scalar.addi c0_i32_3874 v4509
  v4510.toNat
def k0_dev166 (d0 : Dev nD) : Nat :=
  let c0_i32_3912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3911 : BitVec 32 := 1#32
  let v4550 : BitVec 32 := Scalar.muli v7 c1_i32_3911
  let v4551 : BitVec 32 := Scalar.addi c0_i32_3912 v4550
  v4551.toNat
def k0_dev167 (d0 : Dev nD) : Nat :=
  let c0_i32_3950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3949 : BitVec 32 := 1#32
  let v4591 : BitVec 32 := Scalar.muli v5 c1_i32_3949
  let v4592 : BitVec 32 := Scalar.addi c0_i32_3950 v4591
  v4592.toNat
def k0_dev168 (d0 : Dev nD) : Nat :=
  let c0_i32_3988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3987 : BitVec 32 := 1#32
  let v4632 : BitVec 32 := Scalar.muli v7 c1_i32_3987
  let v4633 : BitVec 32 := Scalar.addi c0_i32_3988 v4632
  v4633.toNat
def k0_dev169 (d0 : Dev nD) : Nat :=
  let c0_i32_4026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4025 : BitVec 32 := 1#32
  let v4673 : BitVec 32 := Scalar.muli v5 c1_i32_4025
  let v4674 : BitVec 32 := Scalar.addi c0_i32_4026 v4673
  v4674.toNat
def k0_dev170 (d0 : Dev nD) : Nat :=
  let c0_i32_4064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4063 : BitVec 32 := 1#32
  let v4714 : BitVec 32 := Scalar.muli v7 c1_i32_4063
  let v4715 : BitVec 32 := Scalar.addi c0_i32_4064 v4714
  v4715.toNat
def k0_dev171 (d0 : Dev nD) : Nat :=
  let c0_i32_4102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4101 : BitVec 32 := 1#32
  let v4755 : BitVec 32 := Scalar.muli v5 c1_i32_4101
  let v4756 : BitVec 32 := Scalar.addi c0_i32_4102 v4755
  v4756.toNat
def k0_dev172 (d0 : Dev nD) : Nat :=
  let c0_i32_4140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4139 : BitVec 32 := 1#32
  let v4796 : BitVec 32 := Scalar.muli v7 c1_i32_4139
  let v4797 : BitVec 32 := Scalar.addi c0_i32_4140 v4796
  v4797.toNat
def k0_dev173 (d0 : Dev nD) : Nat :=
  let c0_i32_4178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4177 : BitVec 32 := 1#32
  let v4837 : BitVec 32 := Scalar.muli v5 c1_i32_4177
  let v4838 : BitVec 32 := Scalar.addi c0_i32_4178 v4837
  v4838.toNat
def k0_dev174 (d0 : Dev nD) : Nat :=
  let c0_i32_4216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4215 : BitVec 32 := 1#32
  let v4878 : BitVec 32 := Scalar.muli v7 c1_i32_4215
  let v4879 : BitVec 32 := Scalar.addi c0_i32_4216 v4878
  v4879.toNat
def k0_dev175 (d0 : Dev nD) : Nat :=
  let c0_i32_4254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4253 : BitVec 32 := 1#32
  let v4919 : BitVec 32 := Scalar.muli v5 c1_i32_4253
  let v4920 : BitVec 32 := Scalar.addi c0_i32_4254 v4919
  v4920.toNat
def k0_dev176 (d0 : Dev nD) : Nat :=
  let c0_i32_4292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4291 : BitVec 32 := 1#32
  let v4960 : BitVec 32 := Scalar.muli v7 c1_i32_4291
  let v4961 : BitVec 32 := Scalar.addi c0_i32_4292 v4960
  v4961.toNat
def k0_dev177 (d0 : Dev nD) : Nat :=
  let c0_i32_4330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4329 : BitVec 32 := 1#32
  let v5001 : BitVec 32 := Scalar.muli v5 c1_i32_4329
  let v5002 : BitVec 32 := Scalar.addi c0_i32_4330 v5001
  v5002.toNat
def k0_dev178 (d0 : Dev nD) : Nat :=
  let c0_i32_4368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4367 : BitVec 32 := 1#32
  let v5042 : BitVec 32 := Scalar.muli v7 c1_i32_4367
  let v5043 : BitVec 32 := Scalar.addi c0_i32_4368 v5042
  v5043.toNat
def k0_dev179 (d0 : Dev nD) : Nat :=
  let c0_i32_4406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4405 : BitVec 32 := 1#32
  let v5083 : BitVec 32 := Scalar.muli v5 c1_i32_4405
  let v5084 : BitVec 32 := Scalar.addi c0_i32_4406 v5083
  v5084.toNat
def k0_dev180 (d0 : Dev nD) : Nat :=
  let c0_i32_4444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4443 : BitVec 32 := 1#32
  let v5124 : BitVec 32 := Scalar.muli v7 c1_i32_4443
  let v5125 : BitVec 32 := Scalar.addi c0_i32_4444 v5124
  v5125.toNat
def k0_dev181 (d0 : Dev nD) : Nat :=
  let c0_i32_4482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4481 : BitVec 32 := 1#32
  let v5165 : BitVec 32 := Scalar.muli v5 c1_i32_4481
  let v5166 : BitVec 32 := Scalar.addi c0_i32_4482 v5165
  v5166.toNat
def k0_dev182 (d0 : Dev nD) : Nat :=
  let c0_i32_4520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4519 : BitVec 32 := 1#32
  let v5206 : BitVec 32 := Scalar.muli v7 c1_i32_4519
  let v5207 : BitVec 32 := Scalar.addi c0_i32_4520 v5206
  v5207.toNat
def k0_dev183 (d0 : Dev nD) : Nat :=
  let c0_i32_4558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4557 : BitVec 32 := 1#32
  let v5247 : BitVec 32 := Scalar.muli v5 c1_i32_4557
  let v5248 : BitVec 32 := Scalar.addi c0_i32_4558 v5247
  v5248.toNat
def k0_dev184 (d0 : Dev nD) : Nat :=
  let c0_i32_4596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4595 : BitVec 32 := 1#32
  let v5288 : BitVec 32 := Scalar.muli v7 c1_i32_4595
  let v5289 : BitVec 32 := Scalar.addi c0_i32_4596 v5288
  v5289.toNat
def k0_dev185 (d0 : Dev nD) : Nat :=
  let c0_i32_4634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4633 : BitVec 32 := 1#32
  let v5329 : BitVec 32 := Scalar.muli v5 c1_i32_4633
  let v5330 : BitVec 32 := Scalar.addi c0_i32_4634 v5329
  v5330.toNat
def k0_dev186 (d0 : Dev nD) : Nat :=
  let c0_i32_4672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4671 : BitVec 32 := 1#32
  let v5370 : BitVec 32 := Scalar.muli v7 c1_i32_4671
  let v5371 : BitVec 32 := Scalar.addi c0_i32_4672 v5370
  v5371.toNat
def k0_dev187 (d0 : Dev nD) : Nat :=
  let c0_i32_4710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4709 : BitVec 32 := 1#32
  let v5411 : BitVec 32 := Scalar.muli v5 c1_i32_4709
  let v5412 : BitVec 32 := Scalar.addi c0_i32_4710 v5411
  v5412.toNat
def k0_dev188 (d0 : Dev nD) : Nat :=
  let c0_i32_4748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4747 : BitVec 32 := 1#32
  let v5452 : BitVec 32 := Scalar.muli v7 c1_i32_4747
  let v5453 : BitVec 32 := Scalar.addi c0_i32_4748 v5452
  v5453.toNat
def k0_dev189 (d0 : Dev nD) : Nat :=
  let c0_i32_4786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4785 : BitVec 32 := 1#32
  let v5493 : BitVec 32 := Scalar.muli v5 c1_i32_4785
  let v5494 : BitVec 32 := Scalar.addi c0_i32_4786 v5493
  v5494.toNat
def k0_dev190 (d0 : Dev nD) : Nat :=
  let c0_i32_4824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4823 : BitVec 32 := 1#32
  let v5534 : BitVec 32 := Scalar.muli v7 c1_i32_4823
  let v5535 : BitVec 32 := Scalar.addi c0_i32_4824 v5534
  v5535.toNat
def k0_dev191 (d0 : Dev nD) : Nat :=
  let c0_i32_4862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4861 : BitVec 32 := 1#32
  let v5575 : BitVec 32 := Scalar.muli v5 c1_i32_4861
  let v5576 : BitVec 32 := Scalar.addi c0_i32_4862 v5575
  v5576.toNat
def k0_dev192 (d0 : Dev nD) : Nat :=
  let c0_i32_4900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4899 : BitVec 32 := 1#32
  let v5616 : BitVec 32 := Scalar.muli v7 c1_i32_4899
  let v5617 : BitVec 32 := Scalar.addi c0_i32_4900 v5616
  v5617.toNat
def k0_dev193 (d0 : Dev nD) : Nat :=
  let c0_i32_4938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4937 : BitVec 32 := 1#32
  let v5657 : BitVec 32 := Scalar.muli v5 c1_i32_4937
  let v5658 : BitVec 32 := Scalar.addi c0_i32_4938 v5657
  v5658.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 13
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelIdeal.Loop.lean ====
/- The kernel's body written as loops over the four rings and the steps of each ring, and the fact that the
   printed body is this program. -/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Hand

open Idealize.ShloMosaic Idealize.ShloMosaic.TcCoe Idealize.SL.Sem
open Cert.KernelIdeal.Gen

variable {F : FTy → Type} [FloatOps F]

/-! ## Positions -/

/-- The row block ring `r` works in: rings 0 and 2 go round one way, rings 1 and 3 the other. -/
def bix (r : Fin 4) : Fin 4 := match r with | 0 => 0 | 1 => 2 | 2 => 1 | 3 => 3

/-- The word of the first row of ring `r`. -/
def baseW (r : Fin 4) : BitVec 32 := BitVec.ofNat 32 (1024 * (bix r).val)

/-- The word of `s` steps in ring `r`'s direction. -/
def stepW (r : Fin 4) (s : Nat) : BitVec 32 := BitVec.ofNat 32 (if r.val % 2 = 0 then s else 4294967296 - s)

/-- The device ring `r` sends to. -/
def toD (r : Fin 4) (c : Dev nD) : Dev nD :=
  match r with
  | 0 => ⟨k0_dev3 c, k0_dev3_lt c⟩ | 1 => ⟨k0_dev4 c, k0_dev4_lt c⟩
  | 2 => ⟨k0_dev3 c, k0_dev3_lt c⟩ | 3 => ⟨k0_dev4 c, k0_dev4_lt c⟩

/-- The device ring `r` receives from. -/
def frmD (r : Fin 4) (c : Dev nD) : Dev nD :=
  match r with
  | 0 => ⟨k0_dev4 c, k0_dev4_lt c⟩ | 1 => ⟨k0_dev3 c, k0_dev3_lt c⟩
  | 2 => ⟨k0_dev4 c, k0_dev4_lt c⟩ | 3 => ⟨k0_dev3 c, k0_dev3_lt c⟩

/-- The chunk of rows ring `r` is at on device `c` after `s` steps back. -/
def ch (r : Fin 4) (c : Dev nD) (s : Nat) : Nat :=
  if r.val % 2 = 0 then (c.val + 32 - s) % 16 else (c.val + s) % 16

/-- The first row of chunk `k` of ring `r`. -/
def rowOf (r : Fin 4) (k : Nat) : Nat := 1024 * (bix r).val + 64 * k

theorem ch_lt (r : Fin 4) (c : Dev nD) (s : Nat) : ch r c s < 16 := by
  unfold ch; split <;> exact Nat.mod_lt _ (by decide)

theorem off1_eq : ∀ (c : Dev nD) (r : Fin 4), k0_off1 c (baseW r) = ![rowOf r (ch r c 0), 0] := by decide +kernel
theorem off2_eq : ∀ (c : Dev nD) (r : Fin 4), k0_off2 c (baseW r) = ![rowOf r (ch r c 0), 0] := by decide +kernel
theorem off3_eq : ∀ (c : Dev nD) (r : Fin 4), k0_off3 c (baseW r) = ![rowOf r (ch r c 0), 0] := by decide +kernel
theorem off4_eq : ∀ (c : Dev nD) (r : Fin 4) (s : Fin 16), k0_off4 c (baseW r) (stepW r s.val) = ![rowOf r (ch r c s.val), 0] := by
  decide +kernel
theorem off5_eq : ∀ (c : Dev nD) (r : Fin 4) (s : Fin 16), k0_off5 c (baseW r) 0#32 (stepW r s.val) = ![rowOf r (ch r c s.val), 0] := by
  decide +kernel
theorem off5_own : ∀ (c : Dev nD) (r : Fin 4), k0_off5 c (baseW r) (stepW r 1) 0#32 = ![rowOf r (ch r c 15), 0] := by
  decide +kernel
theorem off11_own : ∀ (c : Dev nD) (r : Fin 4), k0_off11 c (baseW r) (stepW r 1) 0#32 = ![rowOf r (ch r c 15), 0] := by
  decide +kernel
theorem off11_eq : ∀ (c : Dev nD) (r : Fin 4) (s : Fin 15),
    k0_off11 c (baseW r) (stepW r 1) (stepW r (s.val + 1)) = ![rowOf r (ch r c s.val), 0] := by
  decide +kernel

/-! ## The buffers and semaphores -/

abbrev xM : Memref sig .tc .vmem S4096x256 .f32 := Memref.whole cc0_stg0_0
abbrev wM : Memref sig .tc .vmem S256x2048 .f32 := Memref.whole cc0_stg1_0
abbrev oM : Memref sig .tc .vmem S4096x2048 .f32 := Memref.whole cc0_stg2_0
abbrev agM : Memref sig .tc .vmem S4096x2048 .fp8e4m3 := Memref.whole cc0_scratch0
abbrev mxsM : Memref sig .tc .vmem S8x128 .f32 := Memref.whole cc0_scratch9
abbrev mxrM : Memref sig .tc .vmem S16x8x128 .f32 := Memref.whole cc0_scratch10

/-- The buffer ring `r` receives a partial sum in. -/
def rcvM (r : Fin 4) : Memref sig .tc .vmem S64x2048 .f32 :=
  match r with
  | 0 => Memref.whole cc0_scratch1 | 1 => Memref.whole cc0_scratch2
  | 2 => Memref.whole cc0_scratch3 | 3 => Memref.whole cc0_scratch4

/-- The buffer ring `r` adds a partial sum up in. -/
def accM (r : Fin 4) : Memref sig .tc .vmem S64x2048 .f32 :=
  match r with
  | 0 => Memref.whole cc0_scratch5 | 1 => Memref.whole cc0_scratch6
  | 2 => Memref.whole cc0_scratch7 | 3 => Memref.whole cc0_scratch8

theorem rcvM_whole (r : Fin 4) : (rcvM r).IsWhole := by
  revert r; intro r; match r with
  | 0 => exact Memref.isWhole_whole _ | 1 => exact Memref.isWhole_whole _
  | 2 => exact Memref.isWhole_whole _ | 3 => exact Memref.isWhole_whole _

theorem accM_whole (r : Fin 4) : (accM r).IsWhole := by
  match r with
  | 0 => exact Memref.isWhole_whole _ | 1 => exact Memref.isWhole_whole _
  | 2 => exact Memref.isWhole_whole _ | 3 => exact Memref.isWhole_whole _

theorem rcvM_dst (r : Fin 4) : (rcvM r).view.ref.isScScratch = false := by
  match r with
  | 0 => rfl | 1 => rfl | 2 => rfl | 3 => rfl

theorem inb4 : ∀ (r : Fin 4) (a : Fin S4.rank), (![r.val] : Fin 1 → Nat) a + S1.size a ≤ S4.size a := by decide
theorem inb15 : ∀ (k : Fin 15) (a : Fin S15.rank), (![k.val] : Fin 1 → Nat) a + S1.size a ≤ S15.size a := by decide
theorem inb4x15 : ∀ (r : Fin 4) (s : Fin 15) (a : Fin S4x15.rank),
    (![r.val, s.val] : Fin 2 → Nat) a + S1x1.size a ≤ S4x15.size a := by decide

/-- Entry `r` of an array of four semaphores over the transfers. -/
abbrev sem4 (A : DmaSems sig S4) (r : Fin 4) : DmaSem sig :=
  ((A.slice (Rect.unit (s := S4) ![r.val] S1.size (inb4 r))).squeeze S_ squeezes_S1_S_).sem

abbrev rsSend (r : Fin 4) : DmaSem sig := sem4 cc0_scratch11 r
abbrev rsRecv (r : Fin 4) : DmaSem sig := sem4 cc0_scratch12 r
abbrev agSend (r : Fin 4) : DmaSem sig := sem4 cc0_scratch13 r
abbrev agRecv (r : Fin 4) (s : Fin 15) : DmaSem sig :=
  ((cc0_scratch14.slice (Rect.unit (s := S4x15) ![r.val, s.val] S1x1.size (inb4x15 r s))).squeeze S_ squeezes_S1x1_S_).sem
abbrev mxSend (k : Fin 15) : DmaSem sig :=
  ((cc0_scratch15.slice (Rect.unit (s := S15) ![k.val] S1.size (inb15 k))).squeeze S_ squeezes_S1_S_).sem
/-- The semaphore of the slot at an offset among the sixteen. -/
abbrev mxRecvAt (off : Fin 1 → Nat) (h : ∀ a, off a + S1.size a ≤ S16.size a) : DmaSem sig :=
  ((cc0_scratch16.slice (Rect.unit (s := S16) off S1.size h)).squeeze S_ squeezes_S1_S_).sem
abbrev creditS (r : Fin 4) : Idealize.ShloMosaic.Sem sig :=
  ((cc0_scratch17.slice (Rect.unit (s := S4) ![r.val] S1.size (inb4 r))).squeeze S_ squeezes_S1_S_).sem
abbrev barS : Idealize.ShloMosaic.Sem sig := (SemArray.scalar (sig.barrier 0 rfl) : Sems sig S_).sem

/-- A block of 64 rows of the result buffer. -/
abbrev oAt (off : Fin 2 → Nat) (h : ∀ a, off a + S64x2048.size a ≤ S4096x2048.size a) : Memref sig .tc .vmem S64x2048 .f32 :=
  oM.slice (Rect.unit (s := S4096x2048) off S64x2048.size h) (fun _ => rfl)
/-- A block of 64 rows of the gathered buffer. -/
abbrev agAt (off : Fin 2 → Nat) (h : ∀ a, off a + S64x2048.size a ≤ S4096x2048.size a) : Memref sig .tc .vmem S64x2048 .fp8e4m3 :=
  agM.slice (Rect.unit (s := S4096x2048) off S64x2048.size h) (fun _ => rfl)
/-- One slot of the exchanged maxima. -/
abbrev slotAt (off : Fin 3 → Nat) (h : ∀ a, off a + S1x8x128.size a ≤ S16x8x128.size a) : Memref sig .tc .vmem S8x128 .f32 :=
  (mxrM.slice (Rect.unit (s := S16x8x128) off S1x8x128.size h) (fun _ => rfl)).squeeze S8x128 squeezes_S1x8x128_S8x128

/-! ## The steps -/

abbrev P (F : FTy → Type) [FloatOps F] := Prog (TpuEff nD τ sig (Elt F) Λ₀ .tc) PUnit

/-- One product of 64 rows of `x` with `w` put into 64 rows of the result. -/
def gemm (ox oo : Fin 2 → Nat) (hx : ∀ a, ox a + S64x256.size a ≤ S4096x256.size a)
    (ho : ∀ a, oo a + S64x2048.size a ≤ S4096x2048.size a) (k : P F) : P F :=
  .op (.load xM (Rect.unit (s := S4096x256) ox S64x256.size hx).toLoadRect (View.loadsAt_vmem h_S64x256)) fun v0 =>
  .op (.load wM (Rect.unit (s := S256x2048) ![0, 0] S256x2048.size inb_S256x2048_S256x2048_0_0).toLoadRect (View.loadsAt_vmem h_S256x2048)) fun v1 =>
  .op (.load oM (Rect.unit (s := S4096x2048) oo S64x2048.size ho).toLoadRect (View.loadsAt_vmem h_S64x2048)) fun _ =>
  .op (.store oM (Rect.unit (s := S4096x2048) oo S64x2048.size ho) (k0_pay2 v0 v1) Finset.univ
    (View.stores_vmem_bits_univ h_S64x2048 rfl) (.inl rfl)) fun _ => k

/-- Ring `r` sends a block of the result buffer on. -/
def rsFirst (c : Dev nD) (r : Fin 4) (oo : Fin 2 → Nat) (ho : ∀ a, oo a + S64x2048.size a ≤ S4096x2048.size a) (k : P F) : P F :=
  .op (.enqueueDma (oAt oo ho) (.remote (Dev.tc (toD r c)) (rcvM r) (.dma (rsSend r)) (rcvM_dst r)) (.dma (rsRecv r))
    (View.wordExact_bits rfl) (rcvM_whole r).wordExact ⟨⟨rfl, Or.inl rfl⟩, trivial⟩) fun _ => k

/-- Ring `r` waits for a send of a block of the result buffer and for one to arrive. -/
def rsWait0 (r : Fin 4) (oo : Fin 2 → Nat) (ho : ∀ a, oo a + S64x2048.size a ≤ S4096x2048.size a) (k : P F) : P F :=
  .op (.waitDma2 (rsSend r) (rcvM r) (oAt oo ho) (rcvM_whole r).wordExact (View.wordExact_bits rfl)) fun _ =>
  .op (.waitDma2 (rsRecv r) (oAt oo ho) (rcvM r) (View.wordExact_bits rfl) (rcvM_whole r).wordExact) fun _ => k

/-- Ring `r` waits for a send of its sum and for one to arrive. -/
def rsWait (r : Fin 4) (k : P F) : P F :=
  .op (.waitDma2 (rsSend r) (rcvM r) (accM r) (rcvM_whole r).wordExact (accM_whole r).wordExact) fun _ =>
  .op (.waitDma2 (rsRecv r) (accM r) (rcvM r) (accM_whole r).wordExact (rcvM_whole r).wordExact) fun _ => k

/-- Ring `r` adds what arrived to a block of the result buffer. -/
def rsAdd (r : Fin 4) (oo : Fin 2 → Nat) (ho : ∀ a, oo a + S64x2048.size a ≤ S4096x2048.size a) (k : P F) : P F :=
  .op (.load (rcvM r) (Rect.unit (s := S64x2048) ![0, 0] S64x2048.size inb_S64x2048_S64x2048_0_0).toLoadRect (View.loadsAt_vmem h_S64x2048)) fun v0 =>
  .op (.load oM (Rect.unit (s := S4096x2048) oo S64x2048.size ho).toLoadRect (View.loadsAt_vmem h_S64x2048)) fun v1 =>
  .op (.load (accM r) (Rect.unit (s := S64x2048) ![0, 0] S64x2048.size inb_S64x2048_S64x2048_0_0).toLoadRect (View.loadsAt_vmem h_S64x2048)) fun _ =>
  .op (.store (accM r) (Rect.unit (s := S64x2048) ![0, 0] S64x2048.size inb_S64x2048_S64x2048_0_0) (k0_pay76 v0 v1) Finset.univ
    (View.stores_vmem_bits_univ h_S64x2048 rfl) (.inl rfl)) fun _ => k

/-- Ring `r` gives its receive buffer back to the sender, waits for the same of its receiver and sends its sum. -/
def rsNext (c : Dev nD) (r : Fin 4) (k : P F) : P F :=
  .op (.semSignal (frmD r c : Thread nD τ) (creditS r) (1#32 : BitVec 32).toInt) fun _ =>
  .op (.semWait (creditS r) (1#32 : BitVec 32).toInt) fun _ =>
  .op (.enqueueDma (accM r) (.remote (Dev.tc (toD r c)) (rcvM r) (.dma (rsSend r)) (rcvM_dst r)) (.dma (rsRecv r))
    (accM_whole r).wordExact (rcvM_whole r).wordExact ⟨⟨rfl, Or.inl rfl⟩, trivial⟩) fun _ => k

/-- Reads the sum of ring `r`. -/
def accLoad (r : Fin 4) (k : Vec F S64x2048 .f32 → P F) : P F :=
  .op (.load (accM r) (Rect.unit (s := S64x2048) ![0, 0] S64x2048.size inb_S64x2048_S64x2048_0_0).toLoadRect (View.loadsAt_vmem h_S64x2048)) k

/-- Puts the device's own maximum into the buffer that is sent round. -/
def mxPut (v : Vec F S8x128 .f32) (k : P F) : P F :=
  .op (.load mxsM (Rect.unit (s := S8x128) ![0, 0] S8x128.size inb_S8x128_S8x128_0_0).toLoadRect (View.loadsAt_vmem h_S8x128)) fun _ =>
  .op (.store mxsM (Rect.unit (s := S8x128) ![0, 0] S8x128.size inb_S8x128_S8x128_0_0) v Finset.univ
    (View.stores_vmem_bits_univ h_S8x128 rfl) (.inl rfl)) fun _ => k

/-- Sends the device's own maximum to one other device. -/
def mxSendP (c d : Dev nD) (i : Fin 15) (k : P F) : P F :=
  .op (.enqueueDma mxsM (.remote (Dev.tc d) (slotAt (k0_off7 c) (k0_off7_inb c)) (.dma (mxSend i)))
    (.dma (mxRecvAt (k0_off6 c) (k0_off6_inb c)))
    (Memref.isWhole_whole _).wordExact ((View.wordExact_bits rfl).reshape _ _) ⟨⟨rfl, Or.inl rfl⟩, trivial⟩) fun _ => k

/-- Waits for another device's maximum and folds it in. -/
def mxRecvP (c : Dev nD) (i : Fin 15) (a : F .f32) (k : F .f32 → P F) : P F :=
  .op (.waitDma2 (mxRecvAt (k0_off8 c (BitVec.ofNat 32 (1 + i.val))) (k0_off8_inb c i)) mxsM
    (slotAt (k0_off9 c (BitVec.ofNat 32 (1 + i.val))) (k0_off9_inb c i))
    (Memref.isWhole_whole _).wordExact ((View.wordExact_bits rfl).reshape _ _)) fun _ =>
  .op (.load mxrM (Rect.unit (s := S16x8x128) (k0_off10 c (BitVec.ofNat 32 (1 + i.val))) S1x1x1.size (k0_off10_inb c i)).toLoadRect
    (View.loadsAt_vmem h_S1x1x1)) fun v => k (k0_pay146 a v)

/-- Waits for one send of the maximum to end. -/
def mxWaitP (c : Dev nD) (i : Fin 15) (k : P F) : P F :=
  .op (.waitDma2 (mxSend i) (slotAt (k0_off7 c) (k0_off7_inb c)) mxsM
    ((View.wordExact_bits rfl).reshape _ _) (Memref.isWhole_whole _).wordExact) fun _ => k

/-- Quantises ring `r`'s sum, keeps it for the gather and puts its value into the result. -/
def quantP (r : Fin 4) (sc : F .f32) (oo : Fin 2 → Nat) (ho : ∀ a, oo a + S64x2048.size a ≤ S4096x2048.size a)
    (hp : (Rect.unit (s := S4096x2048) oo S64x2048.size ho).PackedRows (EltTy.packing .fp8e4m3)) (k : P F) : P F :=
  accLoad r fun v =>
  .op (.load agM (Rect.unit (s := S4096x2048) oo S64x2048.size ho).toLoadRect (View.loadsAt_vmem h_S64x2048)) fun _ =>
  .op (.store agM (Rect.unit (s := S4096x2048) oo S64x2048.size ho) (k0_pay158 sc v) Finset.univ
    (View.stores_vmem h_S64x2048 ((Memref.isWhole_whole _).storeExact_slice rfl _ hp) (fun _ => rfl)) (.inl rfl)) fun _ =>
  .op (.load oM (Rect.unit (s := S4096x2048) oo S64x2048.size ho).toLoadRect (View.loadsAt_vmem h_S64x2048)) fun _ =>
  .op (.store oM (Rect.unit (s := S4096x2048) oo S64x2048.size ho) (k0_pay159 sc v) Finset.univ
    (View.stores_vmem_bits_univ h_S64x2048 rfl) (.inl rfl)) fun _ => k

/-- Ring `r` sends a block of the gathered buffer on. -/
def agSendP (c : Dev nD) (r : Fin 4) (s : Fin 15) (oo : Fin 2 → Nat) (ho : ∀ a, oo a + S64x2048.size a ≤ S4096x2048.size a)
    (hw : (Rect.unit (s := S4096x2048) oo S64x2048.size ho).WholeWords (EltTy.packing .fp8e4m3)) (k : P F) : P F :=
  .op (.enqueueDma (agAt oo ho) (.remote (Dev.tc (toD r c)) (agAt oo ho) (.dma (agSend r))) (.dma (agRecv r s))
    ((Memref.isWhole_whole _).wordExact_slice rfl _ hw) ((Memref.isWhole_whole _).wordExact_slice rfl _ hw)
    ⟨⟨rfl, Or.inl rfl⟩, trivial⟩) fun _ => k

/-- Ring `r` waits for its send and for a block to arrive. -/
def agWaitP (r : Fin 4) (s : Fin 15) (oo : Fin 2 → Nat) (ho : ∀ a, oo a + S64x2048.size a ≤ S4096x2048.size a)
    (hw : (Rect.unit (s := S4096x2048) oo S64x2048.size ho).WholeWords (EltTy.packing .fp8e4m3)) (k : P F) : P F :=
  .op (.waitDma2 (agSend r) (agAt oo ho) (agAt oo ho)
    ((Memref.isWhole_whole _).wordExact_slice rfl _ hw) ((Memref.isWhole_whole _).wordExact_slice rfl _ hw)) fun _ =>
  .op (.waitDma2 (agRecv r s) (agAt oo ho) (agAt oo ho)
    ((Memref.isWhole_whole _).wordExact_slice rfl _ hw) ((Memref.isWhole_whole _).wordExact_slice rfl _ hw)) fun _ => k

/-- Puts the value of an arrived block into the result. -/
def agPut (sc : F .f32) (oo : Fin 2 → Nat) (ho : ∀ a, oo a + S64x2048.size a ≤ S4096x2048.size a) (k : P F) : P F :=
  .op (.load agM (Rect.unit (s := S4096x2048) oo S64x2048.size ho).toLoadRect (View.loadsAt_vmem h_S64x2048)) fun v =>
  .op (.load oM (Rect.unit (s := S4096x2048) oo S64x2048.size ho).toLoadRect (View.loadsAt_vmem h_S64x2048)) fun _ =>
  .op (.store oM (Rect.unit (s := S4096x2048) oo S64x2048.size ho) (k0_pay166 sc v) Finset.univ
    (View.stores_vmem_bits_univ h_S64x2048 rfl) (.inl rfl)) fun _ => k

/-! ## The loops -/

theorem inbO (off : Fin 2 → Nat) {r : Fin 4} {k : Nat} (hk : k < 16) (h : off = ![rowOf r k, 0]) :
    ∀ a, off a + S64x2048.size a ≤ S4096x2048.size a := by
  subst h
  have hr : (bix r).val < 4 := (bix r).isLt
  intro a; match a with
  | 0 => show rowOf r k + 64 ≤ 4096; unfold rowOf; omega
  | 1 => show 0 + 2048 ≤ 2048; omega

theorem inbX (off : Fin 2 → Nat) {r : Fin 4} {k : Nat} (hk : k < 16) (h : off = ![rowOf r k, 0]) :
    ∀ a, off a + S64x256.size a ≤ S4096x256.size a := by
  subst h
  have hr : (bix r).val < 4 := (bix r).isLt
  intro a; match a with
  | 0 => show rowOf r k + 64 ≤ 4096; unfold rowOf; omega
  | 1 => show 0 + 256 ≤ 256; omega

theorem packed (off : Fin 2 → Nat) {r : Fin 4} {k : Nat} (hk : k < 16) (h : off = ![rowOf r k, 0]) :
    (Rect.unit (s := S4096x2048) off S64x2048.size (inbO off hk h)).PackedRows (EltTy.packing .fp8e4m3) := by
  subst h
  refine Or.inr ⟨by decide, rfl, Or.inl ⟨?_, ?_⟩⟩
  · show (4 : Nat) ∣ rowOf r k
    unfold rowOf; exact ⟨256 * (bix r).val + 16 * k, by omega⟩
  · show (4 : Nat) ∣ 64
    exact ⟨16, rfl⟩

/-- Does a step for each element of a list in turn. -/
def seqL {α : Type} (l : List α) (f : α → P F → P F) (k : P F) : P F := l.foldr f k

def rings : List (Fin 4) := [0, 1, 2, 3]
/-- The fifteen steps. -/
def steps : List (Fin 15) := [0, 1, 2, 3, 4, 5, 6, 7, 8, 9, 10, 11, 12, 13, 14]
/-- The steps between the first and the last. -/
def midSteps : List (Fin 15) := [1, 2, 3, 4, 5, 6, 7, 8, 9, 10, 11, 12, 13]
def firstSteps : List (Fin 15) := [0, 1, 2, 3, 4, 5, 6, 7, 8, 9, 10, 11, 12, 13]

def gemm0 (c : Dev nD) (r : Fin 4) (k : P F) : P F :=
  gemm (k0_off1 c (baseW r)) (k0_off2 c (baseW r)) (inbX _ (ch_lt r c 0) (off1_eq c r)) (inbO _ (ch_lt r c 0) (off2_eq c r)) k
/-- The product of step `s + 1`. -/
def gemmS (c : Dev nD) (s : Fin 15) (r : Fin 4) (k : P F) : P F :=
  gemm (k0_off4 c (baseW r) (stepW r s.succ.val)) (k0_off5 c (baseW r) 0#32 (stepW r s.succ.val))
    (inbX _ (ch_lt r c _) (off4_eq c r s.succ)) (inbO _ (ch_lt r c _) (off5_eq c r s.succ)) k
def rsFirstS (c : Dev nD) (r : Fin 4) (k : P F) : P F :=
  rsFirst c r (k0_off3 c (baseW r)) (inbO _ (ch_lt r c 0) (off3_eq c r)) k
def rsAddS (c : Dev nD) (s : Fin 15) (r : Fin 4) (k : P F) : P F :=
  rsAdd r (k0_off5 c (baseW r) 0#32 (stepW r s.succ.val)) (inbO _ (ch_lt r c _) (off5_eq c r s.succ)) k
def rsStep0 (c : Dev nD) (r : Fin 4) (k : P F) : P F :=
  rsWait0 r (k0_off3 c (baseW r)) (inbO _ (ch_lt r c 0) (off3_eq c r)) (rsAddS c 0 r (rsNext c r k))
def rsStepS (c : Dev nD) (s : Fin 15) (r : Fin 4) (k : P F) : P F := rsWait r (rsAddS c s r (rsNext c r k))
def rsStepE (c : Dev nD) (r : Fin 4) (k : P F) : P F := rsWait r (rsAddS c 14 r k)
/-- The device `i + 1` places on. -/
def mxD (c : Dev nD) (i : Fin 15) : Dev nD :=
  match i with
  | 0 => ⟨k0_dev119 c, k0_dev119_lt c⟩ | 1 => ⟨k0_dev120 c, k0_dev120_lt c⟩ | 2 => ⟨k0_dev121 c, k0_dev121_lt c⟩
  | 3 => ⟨k0_dev122 c, k0_dev122_lt c⟩ | 4 => ⟨k0_dev123 c, k0_dev123_lt c⟩ | 5 => ⟨k0_dev124 c, k0_dev124_lt c⟩
  | 6 => ⟨k0_dev125 c, k0_dev125_lt c⟩ | 7 => ⟨k0_dev126 c, k0_dev126_lt c⟩ | 8 => ⟨k0_dev127 c, k0_dev127_lt c⟩
  | 9 => ⟨k0_dev128 c, k0_dev128_lt c⟩ | 10 => ⟨k0_dev129 c, k0_dev129_lt c⟩ | 11 => ⟨k0_dev130 c, k0_dev130_lt c⟩
  | 12 => ⟨k0_dev131 c, k0_dev131_lt c⟩ | 13 => ⟨k0_dev132 c, k0_dev132_lt c⟩ | 14 => ⟨k0_dev133 c, k0_dev133_lt c⟩
/-- Folds the fifteen other maxima in. -/
def mxRecvL (c : Dev nD) : List (Fin 15) → F .f32 → (F .f32 → P F) → P F
  | [], a, k => k a
  | i :: l, a, k => mxRecvP c i a fun a' => mxRecvL c l a' k
def quantS (c : Dev nD) (sc : F .f32) (r : Fin 4) (k : P F) : P F :=
  quantP r sc (k0_off5 c (baseW r) (stepW r 1) 0#32) (inbO _ (ch_lt r c _) (off5_own c r)) (packed _ (ch_lt r c _) (off5_own c r)) k
def agFirstS (c : Dev nD) (r : Fin 4) (k : P F) : P F :=
  agSendP c r 0 (k0_off11 c (baseW r) (stepW r 1) 0#32) (inbO _ (ch_lt r c _) (off11_own c r))
    (packed _ (ch_lt r c _) (off11_own c r)).wholeWords k
/-- Ring `r` sends the block that arrived at step `s` on. -/
def agNextS (c : Dev nD) (s t : Fin 15) (r : Fin 4) (k : P F) : P F :=
  agSendP c r t (k0_off11 c (baseW r) (stepW r 1) (stepW r (s.val + 1))) (inbO _ (ch_lt r c _) (off11_eq c r s))
    (packed _ (ch_lt r c _) (off11_eq c r s)).wholeWords k
def agWait0 (c : Dev nD) (r : Fin 4) (k : P F) : P F :=
  agWaitP r 0 (k0_off11 c (baseW r) (stepW r 1) 0#32) (inbO _ (ch_lt r c _) (off11_own c r))
    (packed _ (ch_lt r c _) (off11_own c r)).wholeWords k
/-- The wait of step `t = s + 1`, whose send was of the block of step `s`. -/
def agWaitS (c : Dev nD) (s t : Fin 15) (r : Fin 4) (k : P F) : P F :=
  agWaitP r t (k0_off11 c (baseW r) (stepW r 1) (stepW r (s.val + 1))) (inbO _ (ch_lt r c _) (off11_eq c r s))
    (packed _ (ch_lt r c _) (off11_eq c r s)).wholeWords k
def agPutS (c : Dev nD) (sc : F .f32) (s : Fin 15) (r : Fin 4) (k : P F) : P F :=
  agPut sc (k0_off5 c (baseW r) 0#32 (stepW r s.castSucc.val)) (inbO _ (ch_lt r c _) (off5_eq c r s.castSucc)) k
def agStep0 (c : Dev nD) (sc : F .f32) (r : Fin 4) (k : P F) : P F :=
  agWait0 c r (agNextS c 0 1 r (agPutS c sc 0 r k))
/-- Step `s + 1` of the gather. -/
def agStepS (c : Dev nD) (sc : F .f32) (s : Fin 14) (r : Fin 4) (k : P F) : P F :=
  agWaitS c s.castSucc s.succ r (agNextS c s.succ (s.succ + 1) r (agPutS c sc s.succ r k))
def agStepE (c : Dev nD) (sc : F .f32) (r : Fin 4) (k : P F) : P F :=
  agWaitS c 13 14 r (agPutS c sc 14 r k)
def agMid : List (Fin 14) := [0, 1, 2, 3, 4, 5, 6, 7, 8, 9, 10, 11, 12]

/-- The gather. -/
def agPart (c : Dev nD) (sc : F .f32) : P F :=
  seqL rings (quantS c sc) <| seqL rings (agFirstS c) <| seqL rings (agStep0 c sc) <|
  seqL agMid (fun s => seqL rings (agStepS c sc s)) <| seqL rings (agStepE c sc) <| .ret ⟨⟩
/-- The exchange of the maxima. -/
def mxPart (c : Dev nD) (k : F .f32 → P F) : P F :=
  accLoad 0 fun a0 => accLoad 1 fun a1 => accLoad 2 fun a2 => accLoad 3 fun a3 =>
  mxPut (k0_pay145 (k0_pay142 a0 a1 a2) (k0_pay143 a3)) <|
  seqL steps (fun i => mxSendP c (mxD c i) i) <|
  mxRecvL c steps (k0_pay144 (k0_pay142 a0 a1 a2) (k0_pay143 a3)) fun a =>
  seqL steps (mxWaitP c) (k (k0_pay153 a))
/-- The products and the rings of sums. -/
def rsPart (c : Dev nD) (k : P F) : P F :=
  .op (.semSignal ((⟨k0_dev1 c, k0_dev1_lt c⟩ : Dev nD) : Thread nD τ) barS (1#32 : BitVec 32).toInt) fun _ =>
  .op (.semSignal ((⟨k0_dev2 c, k0_dev2_lt c⟩ : Dev nD) : Thread nD τ) barS (1#32 : BitVec 32).toInt) fun _ =>
  seqL rings (gemm0 c) <|
  .op (.semWait barS (2#32 : BitVec 32).toInt) fun _ =>
  seqL rings (rsFirstS c) <| seqL steps (fun s => seqL rings (gemmS c s)) <|
  seqL rings (rsStep0 c) <| seqL midSteps (fun s => seqL rings (rsStepS c s)) <| seqL rings (rsStepE c) k

/-- The whole body on device `c`. -/
def loopBody : P F := .op .deviceId fun c => rsPart c <| mxPart c fun sc => agPart c sc

/-- The printed body is this program. -/
theorem bodyAt_loop (t : Fin cfg0.N) : bodyAt0 (F := F) t = loopBody := by
  obtain rfl : t = t0_0 := fin_N0 t
  show bodyAt0 (F := F) t0_0 = loopBody
  unfold bodyAt0
  rw [cc0_body_eq_skeleton]
  rfl

end Cert.KernelIdeal.Hand

end
-- ==== Proof.KernelIdeal.Proto.lean ====
/- The values the kernel moves, the contents each semaphore's wait hands over, and what each device pays. -/
module

public import proofs.«01_k».proof.Proof.KernelIdeal.Loop
public import Idealize.ShloMosaic.Lib.Pipeline.Launch
public import Idealize.ShloMosaic.Lib.Pipeline.Kit
public import Idealize.ShloMosaic.Lib.Pipeline.TalkSites
public import Idealize.ShloMosaic.Lib.Pipeline.BigSepL
public import Idealize.ShloMosaic.Lib.Transfers
public import Idealize.ShloMosaic.Lib.Tactic

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR
abbrev 𝒱₀ : Variants := Variants.none

/-! ## Places on the ring -/

/-- Chunk `ch r c n` as one of sixteen. -/
def chF (r : Fin 4) (c : Dev nD) (n : Nat) : Dev nD := ⟨ch r c n, ch_lt r c n⟩

theorem frmD_val : ∀ (r : Fin 4) (c : Dev nD), (frmD r c).val = ch r c 1 := by decide +kernel
theorem toD_val : ∀ (r : Fin 4) (c : Dev nD), (toD r c).val = ch r c 15 := by decide +kernel
theorem frmD_eq (r : Fin 4) (c : Dev nD) : frmD r c = chF r c 1 := Fin.ext (frmD_val r c)
theorem toD_frmD : ∀ (r : Fin 4) (c : Dev nD), toD r (frmD r c) = c := by decide +kernel
theorem frmD_toD : ∀ (r : Fin 4) (c : Dev nD), frmD r (toD r c) = c := by decide +kernel

theorem chF_toD (r : Fin 4) (c : Dev nD) {s : Nat} (hs : s < 32) : chF r (toD r c) (s + 1) = chF r c s := by
  refine Fin.ext ?_
  have hc : c.val < 16 := c.isLt
  show ch r (toD r c) (s + 1) = ch r c s
  unfold ch; rw [toD_val]; unfold ch
  by_cases h : r.val % 2 = 0
  · simp only [if_pos h]; omega
  · simp only [if_neg h]; omega
theorem chF_add (r : Fin 4) (c : Dev nD) {s : Nat} (hs : s < 16) : chF r c (s + 16) = chF r c s := by
  refine Fin.ext ?_
  have hc : c.val < 16 := c.isLt
  show ch r c (s + 16) = ch r c s
  unfold ch
  by_cases h : r.val % 2 = 0
  · simp only [if_pos h]; omega
  · simp only [if_neg h]; omega
theorem chF_toD' (r : Fin 4) (c : Dev nD) {s : Nat} (hs : s < 16) : chF r (toD r c) s = chF r c (s + 15) := by
  rw [← chF_add r _ hs, ← chF_toD r c (by omega)]
theorem chF_frmD (r : Fin 4) (c : Dev nD) {s : Nat} (hs : s < 31) : chF r (frmD r c) s = chF r c (s + 1) := by
  rw [← chF_toD r (frmD r c) (by omega), toD_frmD]
theorem chF_zero (r : Fin 4) (c : Dev nD) : chF r c 0 = c := by revert r c; decide +kernel
theorem chF_16 (r : Fin 4) (c : Dev nD) : chF r c 16 = c := by rw [chF_add r c (by decide), chF_zero]
theorem chF_chF (r : Fin 4) (c : Dev nD) {s : Nat} (hs : s < 16) : chF r (chF r c s) 1 = chF r c (s + 1) := by
  refine Fin.ext ?_
  have hc : c.val < 16 := c.isLt
  show ch r (chF r c s) 1 = ch r c (s + 1)
  unfold ch chF; simp only []; unfold ch
  by_cases h : r.val % 2 = 0
  · simp only [if_pos h]; omega
  · simp only [if_neg h]; omega

theorem dev1_eq : ∀ c : Dev nD, (⟨k0_dev1 c, k0_dev1_lt c⟩ : Dev nD) = frmD 0 c := by decide +kernel
theorem dev2_eq : ∀ c : Dev nD, (⟨k0_dev2 c, k0_dev2_lt c⟩ : Dev nD) = frmD 1 c := by decide +kernel

theorem inbOk (r : Fin 4) (k : Dev nD) : ∀ a, (![rowOf r k.val, 0] : Fin 2 → Nat) a + S64x2048.size a ≤ S4096x2048.size a :=
  inbO _ k.isLt rfl
theorem inbXk (r : Fin 4) (k : Dev nD) : ∀ a, (![rowOf r k.val, 0] : Fin 2 → Nat) a + S64x256.size a ≤ S4096x256.size a :=
  inbX _ k.isLt rfl
theorem inbSlot : ∀ (e : Dev nD) (a : Fin S16x8x128.rank), (![e.val, 0, 0] : Fin 3 → Nat) a + S1x8x128.size a ≤ S16x8x128.size a := by
  decide +kernel
theorem inb16 : ∀ (e : Dev nD) (a : Fin S16.rank), (![e.val] : Fin 1 → Nat) a + S1.size a ≤ S16.size a := by decide +kernel

/-- Chunk `k` of ring `r` in the result buffer, -/
abbrev oC (r : Fin 4) (k : Dev nD) : Memref sig .tc .vmem S64x2048 .f32 := oAt ![rowOf r k.val, 0] (inbOk r k)
/-- and in the gathered buffer; -/
abbrev agC (r : Fin 4) (k : Dev nD) : Memref sig .tc .vmem S64x2048 .fp8e4m3 := agAt ![rowOf r k.val, 0] (inbOk r k)
/-- device `e`'s slot of the maxima, -/
abbrev slotC (e : Dev nD) : Memref sig .tc .vmem S8x128 .f32 := slotAt ![e.val, 0, 0] (inbSlot e)
/-- and its semaphore. -/
abbrev mxRecv (e : Dev nD) : DmaSem sig := mxRecvAt ![e.val] (inb16 e)
/-- The receive semaphore of gather step `s`. -/
abbrev agRecvN (r : Fin 4) (s : Nat) : DmaSem sig := agRecv r (Fin.ofNat 15 s)

theorem off6_eq : ∀ c : Dev nD, k0_off6 c = ![c.val] := by decide +kernel
theorem off7_eq : ∀ c : Dev nD, k0_off7 c = ![c.val, 0, 0] := by decide +kernel
theorem off8_eq : ∀ (c : Dev nD) (i : Fin 15), k0_off8 c (BitVec.ofNat 32 (1 + i.val)) = ![(mxD c i).val] := by decide +kernel
theorem off9_eq : ∀ (c : Dev nD) (i : Fin 15), k0_off9 c (BitVec.ofNat 32 (1 + i.val)) = ![(mxD c i).val, 0, 0] := by decide +kernel
theorem off10_eq : ∀ (c : Dev nD) (i : Fin 15), k0_off10 c (BitVec.ofNat 32 (1 + i.val)) = ![(mxD c i).val, 0, 0] := by decide +kernel

/-- The device `i + 1` places back. -/
def mxE (c : Dev nD) (i : Fin 15) : Dev nD := chF 0 c (i.val + 1)
theorem mxE_mxD : ∀ (c : Dev nD) (i : Fin 15), mxE (mxD c i) i = c := by decide +kernel
theorem mxD_mxE : ∀ (c : Dev nD) (i : Fin 15), mxD (mxE c i) i = c := by decide +kernel
theorem mxD_ne : ∀ (c : Dev nD) (i : Fin 15), mxD c i ≠ c := by decide +kernel

/-! ## The kinds of semaphore -/

/-- What a semaphore of the kernel is for. -/
inductive Kd where
  | rsS (r : Fin 4) | rsR (r : Fin 4) | agS (r : Fin 4) | agR (r : Fin 4) (s : Fin 15)
  | mxS (i : Fin 15) | mxR (e : Dev nD) | cr (r : Fin 4) | bar | none
deriving DecidableEq

/-- The use of a semaphore, read off its number. -/
def kindOf : SemLoc sig → Kd
  | .reg i => if i.val < 4 then .cr (Fin.ofNat 4 i.val) else .bar
  | .dma i =>
    if i.val < 3 then .none else if i.val < 7 then .rsS (Fin.ofNat 4 (i.val - 3)) else if i.val < 11 then .rsR (Fin.ofNat 4 (i.val - 7))
    else if i.val < 15 then .agS (Fin.ofNat 4 (i.val - 11))
    else if i.val < 75 then .agR (Fin.ofNat 4 ((i.val - 15) / 15)) (Fin.ofNat 15 ((i.val - 15) % 15))
    else if i.val < 90 then .mxS (Fin.ofNat 15 (i.val - 75)) else .mxR (Fin.ofNat 16 (i.val - 90))

theorem kind_rsS : ∀ r : Fin 4, kindOf (.dma (rsSend r)) = .rsS r := by decide +kernel
theorem kind_rsR : ∀ r : Fin 4, kindOf (.dma (rsRecv r)) = .rsR r := by decide +kernel
theorem kind_agS : ∀ r : Fin 4, kindOf (.dma (agSend r)) = .agS r := by decide +kernel
theorem kind_agR : ∀ (r : Fin 4) (s : Fin 15), kindOf (.dma (agRecv r s)) = .agR r s := by decide +kernel
theorem kind_mxS : ∀ i : Fin 15, kindOf (.dma (mxSend i)) = .mxS i := by decide +kernel
theorem kind_mxR : ∀ e : Dev nD, kindOf (.dma (mxRecv e)) = .mxR e := by decide +kernel
theorem kind_cr : ∀ r : Fin 4, kindOf (.reg (creditS r)) = .cr r := by decide +kernel
theorem kind_bar : kindOf (.reg barS) = .bar := by decide +kernel

/-- The kernel's own semaphores, in the order of their numbers; -/
def osem (i : Fin 107) : SemLoc sig :=
  if h : i.val < 4 then .reg ⟨i.val, by show i.val < sig.nSem; exact Nat.lt_trans h (by decide)⟩
  else .dma ⟨i.val - 1, by show i.val - 1 < sig.nDmaSem; have := i.isLt; exact Nat.lt_of_lt_of_le (by omega : i.val - 1 < 106) (by decide)⟩
/-- and with the barrier's. -/
def csem (i : Option (Fin 107)) : SemLoc sig := match i with | none => .reg barS | some i => osem i

/-- A semaphore of the protocol. -/
def Mine (sm : SemLoc sig) : Prop := ∃ i, csem i = sm

theorem mine_own {sm : SemLoc sig} (h : ∃ i, osem i = sm) : Mine sm := let ⟨i, hi⟩ := h; ⟨some i, hi⟩
theorem mine_rsS (r : Fin 4) : Mine (.dma (rsSend r)) := mine_own (by revert r; decide +kernel)
theorem mine_rsR (r : Fin 4) : Mine (.dma (rsRecv r)) := mine_own (by revert r; decide +kernel)
theorem mine_agS (r : Fin 4) : Mine (.dma (agSend r)) := mine_own (by revert r; decide +kernel)
theorem mine_agR (r : Fin 4) (s : Fin 15) : Mine (.dma (agRecv r s)) := mine_own (by revert r s; decide +kernel)
theorem mine_mxS (i : Fin 15) : Mine (.dma (mxSend i)) := mine_own (by revert i; decide +kernel)
theorem mine_mxR (e : Dev nD) : Mine (.dma (mxRecv e)) := mine_own (by revert e; decide +kernel)
theorem mine_cr (r : Fin 4) : Mine (.reg (creditS r)) := mine_own (by revert r; decide +kernel)
theorem mine_bar : Mine (.reg barS) := ⟨none, rfl⟩

/-! ## The values -/

/-- The amount a transfer of a partial sum counts, -/
abbrev Nf : Nat := (rcvM 0).view.dmaCredit
/-- of a quantised block, -/
abbrev Nq : Nat := (agC 0 0).view.dmaCredit
/-- of a maximum. -/
abbrev Nm : Nat := (slotC 0).view.dmaCredit
theorem Nf_pos : 0 < Nf := View.dmaCredit_pos _ (by decide)
theorem Nq_pos : 0 < Nq := View.dmaCredit_pos _ (by decide)
theorem Nm_pos : 0 < Nm := View.dmaCredit_pos _ (by decide)

section Vals
variable (X : Dev nD → Vec F S4096x256 .f32) (Wt : Dev nD → Vec F S256x2048 .f32)

/-- The rows of chunk `k` of ring `r` of device `c`'s part of `x`. -/
def xr (c : Dev nD) (r : Fin 4) (k : Dev nD) : Vec F S64x256 .f32 :=
  (xM.access (Rect.unit (s := S4096x256) ![rowOf r k.val, 0] S64x256.size (inbXk r k))).read (Elt F) (X c)
/-- Their product with device `c`'s part of `w`, the chunk `n` steps back. -/
def Pv (c : Dev nD) (r : Fin 4) (n : Nat) : Vec F S64x2048 .f32 := k0_pay2 (xr X c r (chF r c n)) (Wt c)
/-- What device `c` sends at step `n` of ring `r`: its product first, then the sum of what arrived and its product. -/
def V : Nat → Dev nD → Fin 4 → Vec F S64x2048 .f32
  | 0, c, r => Pv X Wt c r 0
  | n + 1, c, r => k0_pay76 (V n (frmD r c) r) (Pv X Wt c r (n + 1))
/-- The whole sum of the chunk that stays on device `c`. -/
def Sv (c : Dev nD) (r : Fin 4) : Vec F S64x2048 .f32 := V X Wt 15 c r
/-- The device's own maximum, -/
def mymax (c : Dev nD) : F .f32 := k0_pay144 (k0_pay142 (Sv X Wt c 0) (Sv X Wt c 1) (Sv X Wt c 2)) (k0_pay143 (Sv X Wt c 3))
/-- as it is sent; -/
def mxv (c : Dev nD) : Vec F S8x128 .f32 := k0_pay145 (k0_pay142 (Sv X Wt c 0) (Sv X Wt c 1) (Sv X Wt c 2)) (k0_pay143 (Sv X Wt c 3))
theorem zero8 : ∀ a : Fin S8x128.rank, 0 < S8x128.size a := by decide
/-- one number of it, as it is read. -/
def mxOne (e : Dev nD) : Vec F S1x1x1 .f32 := fun _ => mxv X Wt e (fun a => ⟨0, zero8 a⟩)
/-- The maxima of a list of devices folded in. -/
def foldMax (c : Dev nD) (l : List (Fin 15)) (a : F .f32) : F .f32 := l.foldl (fun a i => k0_pay146 a (mxOne X Wt (mxD c i))) a
/-- The scale. -/
def scl (c : Dev nD) : F .f32 := k0_pay153 (foldMax X Wt c steps (mymax X Wt c))
/-- The quantised chunk that device `c` owns. -/
def qv (r : Fin 4) (c : Dev nD) : Vec F S64x2048 .fp8e4m3 := k0_pay158 (scl X Wt c) (Sv X Wt c r)
/-- What the result holds in the chunk that device `e` owns. -/
def Dv (c : Dev nD) (r : Fin 4) (e : Dev nD) : Vec F S64x2048 .f32 := k0_pay166 (scl X Wt c) (qv X Wt r e)

/-! ## The cells and the schedule -/

abbrev cellC (c : Dev nD) (sm : SemLoc sig) : GSem nD τ sig := ((c : Thread nD τ), sm)

/-- A view of device `c`'s held whole at some contents. -/
def anyAt (c : Dev nD) {sh : Shape} {e : EltTy} (m : Memref sig .tc .vmem sh e) : sProp 𝕄 :=
  iprop(∃ Y : sh.Idx → Elt F e, owns (c : Thread nD τ) m fullShare Y)

instance anyAt_storable (c : Dev nD) {sh : Shape} {e : EltTy} (m : Memref sig .tc .vmem sh e) :
    BI.Storable (upEmb : UEmb _ 𝕄) (anyAt (F := F) c m) := by unfold anyAt; infer_instance

/-- What device `n` lends its sender on ring `r`: the receive buffer and the chunks of the gathered buffer that are sent to it. -/
def Lend (r : Fin 4) (n : Dev nD) : sProp 𝕄 :=
  iprop(anyAt n (rcvM r) ∗ bigSep (Finset.range 15) fun s => anyAt (F := F) n (agC r (chF r n s)))

/-- Device `d`'s slots for the maxima of the devices `n` to 15 places on. -/
def slotsP (d : Dev nD) (n : Nat) : sProp 𝕄 := bigSep (Finset.Ico n 16) fun j => anyAt (F := F) d (slotC (chF 1 d j))

instance Lend_storable (r : Fin 4) (n : Dev nD) : BI.Storable (upEmb : UEmb _ 𝕄) (Lend (F := F) r n) := by unfold Lend; infer_instance
instance slotsP_storable (d : Dev nD) (n : Nat) : BI.Storable (upEmb : UEmb _ 𝕄) (slotsP (F := F) d n) := by unfold slotsP; infer_instance

/-- The part of the maximum's buffer lent for one send. -/
def mxPiece (i : Fin 15) : PosShare TreeShare := Idealize.ShloMosaic.Transfers.dealOf fullShare (Finset.univ : Finset (Fin 15)) i

def rsSPay (c : Dev nD) (r : Fin 4) (n : Nat) : sProp 𝕄 := if n = 0 then anyAt (F := F) c (oC r (chF r c 0)) else anyAt c (accM r)
def rsRPay (c : Dev nD) (r : Fin 4) (n : Nat) : sProp 𝕄 :=
  iprop(owns (c : Thread nD τ) (rcvM r) fullShare (V X Wt n (frmD r c) r)
    ∗ reached ER (cellC (frmD r c) (.reg (creditS r))) n ∗ if r = 0 then slotsP (F := F) (chF 0 c (n + 1)) (n + 1) else iprop(emp))
def crPay (c : Dev nD) (r : Fin 4) (n : Nat) : sProp 𝕄 :=
  iprop(anyAt (F := F) (toD r c) (rcvM r) ∗ reached ER (cellC (toD r c) (.dma (rsRecv r))) (n + 1))
def agSPay (c : Dev nD) (r : Fin 4) (n : Nat) : sProp 𝕄 :=
  owns (c : Thread nD τ) (agC r (chF r c (n + 15))) fullShare.right (qv X Wt r (chF r c n))
def agRPay (c : Dev nD) (r : Fin 4) (s : Nat) : sProp 𝕄 :=
  owns (c : Thread nD τ) (agC r (chF r c s)) fullShare (qv X Wt r (chF r c (s + 1)))
def mxSPay (c : Dev nD) (i : Fin 15) : sProp 𝕄 := owns (c : Thread nD τ) mxsM (mxPiece i) (mxv X Wt c)
def mxRPay (c : Dev nD) (e : Dev nD) : sProp 𝕄 := owns (c : Thread nD τ) (slotC e) fullShare (mxv X Wt e)
def barPay (c : Dev nD) (d : Bool) : sProp 𝕄 :=
  match d with
  | true => iprop(Lend (F := F) 0 (toD 0 c) ∗ Lend 2 (toD 2 c))
  | false => iprop(Lend (F := F) 1 (toD 1 c) ∗ Lend 3 (toD 3 c))

/-- The rounds of a semaphore of device `c`. -/
def nRounds (c : Dev nD) : Kd → Nat
  | .rsS _ | .rsR _ | .agS _ => 15 | .cr _ => 14 | .agR _ _ | .mxS _ | .bar => 1
  | .mxR e => if e = c then 0 else 1 | .none => 0
def kDuties : Kd → Finset Bool | .bar => Finset.univ | _ => {true}
def kAmt : Kd → Nat | .cr _ | .bar => 1 | .rsS _ | .rsR _ => Nf | .agS _ | .agR _ _ => Nq | .mxS _ | .mxR _ => Nm | .none => 1
def kPay (c : Dev nD) (k : Kd) (n : Nat) (d : Bool) : sProp 𝕄 :=
  match k with
  | .rsS r => rsSPay c r n | .rsR r => rsRPay X Wt c r n | .cr r => crPay c r n | .agS r => agSPay X Wt c r n
  | .agR r s => agRPay X Wt c r s.val | .mxS i => mxSPay X Wt c i | .mxR e => mxRPay X Wt c e | .bar => barPay c d | .none => iprop(emp)

theorem kAmt_pos (k : Kd) : 0 < kAmt k := by
  cases k <;> first | exact Nat.one_pos | exact Nf_pos | exact Nq_pos | exact Nm_pos

/-- The kernel's schedule. -/
def Rd : Rounds.Schedule (GSem nD τ sig) Bool 𝕄 where
  duties g n := if g.1.2 = .tc ∧ n < nRounds g.1.1 (kindOf g.2) then kDuties (kindOf g.2) else ∅
  amount g _ _ := kAmt (kindOf g.2)
  payload g n d := kPay X Wt g.1.1 (kindOf g.2) n d
  amount_pos g _ _ _ := kAmt_pos _

instance kPay_storable (c : Dev nD) (k : Kd) (n : Nat) (d : Bool) : BI.Storable (upEmb : UEmb _ 𝕄) (kPay (F := F) X Wt c k n d) := by
  cases k <;> (try cases d) <;> unfold kPay <;> simp only [] <;>
    first
    | infer_instance
    | (unfold rsSPay; split <;> infer_instance)
    | (unfold rsRPay; split <;> infer_instance)
    | (unfold crPay; infer_instance)
    | (unfold agSPay; infer_instance)
    | (unfold agRPay; infer_instance)
    | (unfold mxSPay; infer_instance)
    | (unfold mxRPay; infer_instance)
    | (unfold barPay; infer_instance)

instance Rd_storable (g : GSem nD τ sig) (n : Nat) (d : Bool) : BI.Storable (upEmb : UEmb _ 𝕄) ((Rd (F := F) X Wt).payload g n d) :=
  kPay_storable X Wt g.1.1 (kindOf g.2) n d

theorem duties_of (c : Dev nD) {sm : SemLoc sig} {k : Kd} (hk : kindOf sm = k) {n : Nat} (hn : n < nRounds c k) :
    (Rd (F := F) X Wt).duties (cellC c sm) n = kDuties k := by
  subst hk; exact if_pos ⟨rfl, hn⟩
theorem duties_end (c : Dev nD) {sm : SemLoc sig} {k : Kd} (hk : kindOf sm = k) {n : Nat} (hn : nRounds c k ≤ n) :
    (Rd (F := F) X Wt).duties (cellC c sm) n = ∅ := by
  subst hk; exact if_neg fun h => absurd h.2 (Nat.not_lt.2 hn)
theorem amount_of (c : Dev nD) {sm : SemLoc sig} {k : Kd} (hk : kindOf sm = k) (n : Nat) (d : Bool) :
    (Rd (F := F) X Wt).amount (cellC c sm) n d = kAmt k := by subst hk; rfl
theorem payload_of (c : Dev nD) {sm : SemLoc sig} {k : Kd} (hk : kindOf sm = k) (n : Nat) (d : Bool) :
    (Rd (F := F) X Wt).payload (cellC c sm) n d = kPay X Wt c k n d := by subst hk; rfl
theorem expect_of (c : Dev nD) {sm : SemLoc sig} {k : Kd} (hk : kindOf sm = k) {n : Nat} (hn : n < nRounds c k) (h1 : kDuties k = {true}) :
    (Rd (F := F) X Wt).expect (cellC c sm) n = kAmt k := by
  unfold Schedule.expect Schedule.amountOf
  rw [duties_of X Wt c hk hn, h1, Finset.sum_singleton, amount_of X Wt c hk]
theorem rest_of (c : Dev nD) {sm : SemLoc sig} {k : Kd} (hk : kindOf sm = k) {n : Nat} (hn : n < nRounds c k) (h1 : kDuties k = {true}) :
    bigSep ((Rd (F := F) X Wt).duties (cellC c sm) n \ ∅) (fun d => (Rd (F := F) X Wt).payload (cellC c sm) n d) = kPay X Wt c k n true := by
  rw [Finset.sdiff_empty, duties_of X Wt c hk hn, h1, bigSep_singleton, payload_of X Wt c hk]

end Vals

/-! ## What a device pays -/

/-- One payment of a device. -/
inductive It where
  | b0 | b1 | rs (r : Fin 4) (s : Nat) | cr (r : Fin 4) (s : Nat) | mx (i : Fin 15) | ag (r : Fin 4) (s : Nat)
deriving DecidableEq

namespace It
/-- Who is paid; -/
def dst (c : Dev nD) : It → Dev nD
  | b0 => frmD 0 c | b1 => frmD 1 c | rs r _ => toD r c | cr r _ => frmD r c | mx i => mxD c i | ag r _ => toD r c
/-- who pays `c` the like; -/
def src (c : Dev nD) : It → Dev nD
  | b0 => toD 0 c | b1 => toD 1 c | rs r _ => frmD r c | cr r _ => toD r c | mx i => mxE c i | ag r _ => frmD r c
/-- at which semaphore, if `c` pays; -/
def sem (c : Dev nD) : It → SemLoc sig
  | b0 => .reg barS | b1 => .reg barS | rs r _ => .dma (rsRecv r) | cr r _ => .reg (creditS r) | mx _ => .dma (mxRecv c) | ag r s => .dma (agRecvN r s)
/-- the level; -/
def lev : It → Nat
  | b0 => 1 | b1 => 1 | rs r s => 13 + 8 * s + 2 * r.val | cr r s => 20 + 8 * s + 2 * r.val | mx _ => 1000 | ag r s => 2000 + 4 * s + r.val
/-- the amount; -/
def amt : It → Nat
  | b0 => 1 | b1 => 1 | rs _ _ => Nf | cr _ _ => 1 | mx _ => Nm | ag _ _ => Nq
/-- the round; -/
def rnd : It → Nat
  | b0 => 0 | b1 => 0 | rs _ s => s | cr _ s => s | mx _ => 0 | ag _ _ => 0
/-- the duty. -/
def dty : It → Bool | b1 => false | _ => true

theorem src_dst (c : Dev nD) (i : It) : src (dst c i) i = c := by
  match i with
  | b0 => exact toD_frmD 0 c | b1 => exact toD_frmD 1 c | rs r _ => exact frmD_toD r c | cr r _ => exact toD_frmD r c
  | mx i => exact mxE_mxD c i | ag r _ => exact frmD_toD r c
theorem dst_src (c : Dev nD) (i : It) : dst (src c i) i = c := by
  match i with
  | b0 => exact frmD_toD 0 c | b1 => exact frmD_toD 1 c | rs r _ => exact toD_frmD r c | cr r _ => exact frmD_toD r c
  | mx i => exact mxD_mxE c i | ag r _ => exact toD_frmD r c

def cell (c : Dev nD) (i : It) : GSem nD τ sig := cellC (dst c i) (sem c i)
def pay (c : Dev nD) (i : It) : Pay nD τ sig := (cell c i, lev i, amt i)
/-- The token that pays it, -/
def tok (c : Dev nD) (i : It) : sProp 𝕄 := dutyTok ER (cell c i) (rnd i) (dty i)
/-- and the credit with which `c` waits for the like. -/
def crd (c : Dev nD) (i : It) : sProp 𝕄 := cred (tallyAt (cellC c (sem (src c i) i)) (lev i) (amt i))
end It

open It

/-- The payments of step `s` of the rings of sums, -/
def rsIts (s : Nat) : List It := rings.flatMap fun r => [It.cr r s, It.rs r (s + 1)]
/-- of step `s` of the gather, -/
def agIts (s : Nat) : List It := rings.map fun r => It.ag r s
/-- from step `n` of the gather on, -/
def agFrom (n : Nat) : List It := (List.range' n (15 - n)).flatMap agIts
def mxFrom (i : Nat) : List It := (steps.drop i).map It.mx ++ agFrom 0
/-- from step `n` of the sums on, -/
def rsFrom (n : Nat) : List It := (List.range' n (14 - n)).flatMap rsIts ++ mxFrom 0
def firstFrom (r : Nat) : List It := (rings.drop r).map (fun r => It.rs r 0) ++ rsFrom 0
/-- and all of them, in the order of the program. -/
def allIts : List It := It.b0 :: It.b1 :: firstFrom 0

end Cert.KernelIdeal.Hand

end
-- ==== Proof.KernelIdeal.Rules.lean ====
/- One rule for each kind of operation of the kernel, over what a device knows and still owes. -/
module

public import proofs.«01_k».proof.Proof.KernelIdeal.Proto
public import Idealize.ShloMosaic.Lib.VecWindow

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (X : Dev nD → Vec F S4096x256 .f32) (Wt : Dev nD → Vec F S256x2048 .f32)

/-- The program `p` on device `c` ends in `Q`. -/
abbrev WP (c : Dev nD) (p : P F) (Q : PUnit → sProp 𝕄) : sProp 𝕄 :=
  wp frame (wpE (defs₀ (F := F)) 𝒱₀ (c : Thread nD τ) none) Set.univ p Q

/-- One semaphore's record: its invariant at some name, and that round 0 is reached. -/
def rec (g : GSem nD τ sig) : sProp 𝕄 := iprop((∃ κ : ℕ, cellInv ER (Rd (F := F) X Wt) κ g) ∗ reached ER g 0)

instance rec_persistent (g : GSem nD τ sig) : BI.Persistent (rec (F := F) X Wt g) := by unfold rec; infer_instance

/-- What every device knows all along: the records of all semaphores of the protocol, and the levels. -/
def Cx : sProp 𝕄 :=
  iprop((bigSep Finset.univ fun ck : Dev nD × Option (Fin 107) => rec (F := F) X Wt (cellC ck.1 (csem ck.2)))
    ∗ levAts (SiteBlocks.L 3000) SiteBlocks.lv)

instance Cx_persistent : BI.Persistent (Cx (F := F) X Wt) := by unfold Cx; infer_instance

theorem recs_rec (c : Dev nD) (i : Option (Fin 107)) :
    (bigSep Finset.univ fun ck : Dev nD × Option (Fin 107) => rec (F := F) X Wt (cellC ck.1 (csem ck.2))) ⊢ rec (F := F) X Wt (cellC c (csem i)) :=
  bigSep_elim (Φ := fun ck : Dev nD × Option (Fin 107) => rec (F := F) X Wt (cellC ck.1 (csem ck.2))) (Finset.mem_univ (c, i))

theorem Cx_rec (c : Dev nD) {sm : SemLoc sig} (h : Mine sm) : Cx (F := F) X Wt ⊢ rec (F := F) X Wt (cellC c sm) := by
  obtain ⟨i, rfl⟩ := h
  unfold Cx
  iintro ⟨H, -⟩
  iapply (recs_rec X Wt c i)
  iexact H

/-- What device `c` knows, and that it still owes the payments `l`. -/
def St (c : Dev nD) (l : List It) : sProp 𝕄 :=
  iprop(Cx (F := F) X Wt ∗ ∃ W : Waits sig ℕ, owes (c : Thread nD τ) (tallyL (l.map (It.pay c))) W)

/-- Round 0 of every semaphore is reached. -/
theorem St_reached (c d : Dev nD) (l : List It) {sm : SemLoc sig} (h : Mine sm) :
    St (F := F) X Wt c l ⊢ iprop(St (F := F) X Wt c l ∗ reached ER (cellC d sm) 0) := by
  unfold St
  iintro ⟨#Hx, HW⟩
  ihave #Hr := (Cx_rec X Wt d h) $$ Hx
  unfold rec
  icases Hr with ⟨-, #Hr0⟩
  isplitl [HW]
  · isplitr; · iexact Hx
    iexact HW
  · iexact Hr0

/-- A wait below every payment still owed is allowed. -/
theorem may_wait (c : Dev nD) (sm : SemLoc sig) (l : List It) (ι : ℕ) (hι : ι < 3000) (hl : ∀ x ∈ l, ι < x.lev ∧ x.lev < 3000) :
    (levAts (SiteBlocks.L 3000) SiteBlocks.lv : sProp 𝕄) ⊢ MayWait (c : Thread nD τ) sm ι (tallyL (l.map (It.pay c))) :=
  SiteBlocks.mayWait_of hι c sm _ fun g k h => by
    obtain ⟨x, hx, rfl, rfl⟩ := TalkSites.tallyL_pos h
    obtain ⟨i, hi, rfl⟩ := List.mem_map.mp hx
    exact ⟨SiteBlocks.mem_L' rfl (hl i hi).2, (hl i hi).1⟩

section Rules
variable {c : Dev nD}

/-- A load through a view held by itself. -/
theorem ld {Q : PUnit → sProp 𝕄} {s : Shape} {e : EltTy} {m : Memref sig .tc .vmem s e} {r : Rect s} (hr : ∀ a, r.stride a = 1) {q : PosShare TreeShare}
    {Y : r.shape.Idx → Elt F e} {hl : m.view.LoadsAt r.toLoadRect} {k : (r.shape.Idx → Elt F e) → P F} :
    (owns (c : Thread nD τ) (m.slice r hr) q Y : sProp 𝕄)
      ⊢ iprop((owns (c : Thread nD τ) (m.slice r hr) q Y -∗ WP c (k Y) Q) -∗ WP c (.op (.load m r.toLoadRect hl) k) Q) := by
  unfold owns
  iintro ⟨%f, %hf, H⟩ Hk
  subst hf
  iapply (wp_load_rect 𝒱₀ (c : Thread nD τ) none Set.univ (m := m) (r := r) (hl := hl) (k := k)
    (S := (m.slice r hr).view.set) (q := q) (f := f) (Finset.Subset.refl _)) $$ H
  iintro H
  iapply Hk
  iexists f
  isplitr; · ipureintro; rfl
  iexact H

/-- A store through a view held by itself. -/
theorem sto {Q : PUnit → sProp 𝕄} {s : Shape} {e : EltTy} {m : Memref sig .tc .vmem s e} {r : Rect s} (hr : ∀ a, r.stride a = 1)
    {w : r.shape.Idx → Elt F e} {hx : (m.access r).Stores Finset.univ} {hm} {k : PUnit → P F} :
    (anyAt (F := F) c (m.slice r hr) : sProp 𝕄)
      ⊢ iprop((owns (c : Thread nD τ) (m.slice r hr) fullShare w -∗ WP c (k ⟨⟩) Q) -∗ WP c (.op (.store m r w Finset.univ hx hm) k) Q) := by
  unfold anyAt owns
  iintro ⟨%Y, %f, %hf, H⟩ Hk
  iapply (wp_store 𝒱₀ (c : Thread nD τ) none Set.univ (m := m) (r := r) (w := w) (Mk := Finset.univ) (hx := hx) (hm := hm) (k := k)
    (S := (m.slice r hr).view.set) (f := f) (Finset.Subset.refl _)) $$ H
  iintro H
  iapply Hk
  iexists (m.access r).write (Elt F) f w Finset.univ
  isplitr; · ipureintro; exact View.read_write_univ _ _
  iexact H

theorem read_full {s : Shape} {e : EltTy} (m : Memref sig .tc .vmem s e) {off : Fin s.rank → ℕ} (inb : ∀ a, off a + s.size a ≤ s.size a)
    (f : m.view.ty.Contents (Elt F)) : (m.access (Rect.unit off s.size inb)).read (Elt F) f = m.view.read (Elt F) f :=
  funext fun x => by
    show (m.view.slice _).read (Elt F) f x = _
    rw [View.read_apply, View.read_apply]
    show cast _ (f (m.view.emb ((Rect.unit off s.size inb).emb x))) = _
    rw [Rect.emb_unit_full]

theorem write_full {s : Shape} {e : EltTy} (m : Memref sig .tc .vmem s e) {off : Fin s.rank → ℕ} (inb : ∀ a, off a + s.size a ≤ s.size a)
    (f : m.view.ty.Contents (Elt F)) (w : s.Idx → Elt F e) :
    m.view.read (Elt F) ((m.access (Rect.unit off s.size inb)).write (Elt F) f w Finset.univ) = w := by
  rw [← read_full m inb]; exact View.read_write_univ _ _

/-- A load of a whole view. -/
theorem ldW {Q : PUnit → sProp 𝕄} {s : Shape} {e : EltTy} {m : Memref sig .tc .vmem s e} {off : Fin s.rank → ℕ} (inb : ∀ a, off a + s.size a ≤ s.size a)
    {q : PosShare TreeShare} {Y : s.Idx → Elt F e} {hl : m.view.LoadsAt (Rect.unit off s.size inb).toLoadRect} {k : (s.Idx → Elt F e) → P F} :
    (owns (c : Thread nD τ) m q Y : sProp 𝕄)
      ⊢ iprop((owns (c : Thread nD τ) m q Y -∗ WP c (k Y) Q) -∗ WP c (.op (.load m (Rect.unit off s.size inb).toLoadRect hl) k) Q) := by
  unfold owns
  iintro ⟨%f, %hf, H⟩ Hk
  subst hf
  rw [← read_full m inb]
  iapply (wp_load_rect 𝒱₀ (c : Thread nD τ) none Set.univ (m := m) (r := Rect.unit off s.size inb) (hl := hl) (k := k)
    (S := m.view.set) (q := q) (f := f) (View.set_slice_subset m.view _)) $$ H
  iintro H
  iapply Hk
  iexists f
  isplitr; · ipureintro; exact (read_full m inb f).symm
  iexact H

/-- A store to a whole view. -/
theorem stoW {Q : PUnit → sProp 𝕄} {s : Shape} {e : EltTy} {m : Memref sig .tc .vmem s e} {off : Fin s.rank → ℕ} (inb : ∀ a, off a + s.size a ≤ s.size a)
    {w : s.Idx → Elt F e} {hx : (m.access (Rect.unit off s.size inb)).Stores Finset.univ} {hm} {k : PUnit → P F} :
    (anyAt (F := F) c m : sProp 𝕄)
      ⊢ iprop((owns (c : Thread nD τ) m fullShare w -∗ WP c (k ⟨⟩) Q)
        -∗ WP c (.op (.store m (Rect.unit off s.size inb) w Finset.univ hx hm) k) Q) := by
  unfold anyAt owns
  iintro ⟨%Y, %f, %hf, H⟩ Hk
  iapply (wp_store 𝒱₀ (c : Thread nD τ) none Set.univ (m := m) (r := Rect.unit off s.size inb) (w := w) (Mk := Finset.univ) (hx := hx) (hm := hm)
    (k := k) (S := m.view.set) (f := f) (View.set_slice_subset m.view _)) $$ H
  iintro H
  iapply Hk
  iexists (m.access (Rect.unit off s.size inb)).write (Elt F) f w Finset.univ
  isplitr; · ipureintro; exact write_full m inb f w
  iexact H

theorem anyAt_intro {s : Shape} {e : EltTy} {m : Memref sig .tc .vmem s e} {Y : s.Idx → Elt F e} :
    (owns (c : Thread nD τ) m fullShare Y : sProp 𝕄) ⊢ anyAt (F := F) c m := by
  unfold anyAt; iintro H; iexists Y; iexact H

/-- A load whose value is not used. -/
theorem ldA {Q : PUnit → sProp 𝕄} {s : Shape} {e : EltTy} {m : Memref sig .tc .vmem s e} {r : Rect s} (hr : ∀ a, r.stride a = 1)
    {hl : m.view.LoadsAt r.toLoadRect} {k : P F} :
    (anyAt (F := F) c (m.slice r hr) : sProp 𝕄)
      ⊢ iprop((anyAt (F := F) c (m.slice r hr) -∗ WP c k Q) -∗ WP c (.op (.load m r.toLoadRect hl) fun _ => k) Q) := by
  unfold anyAt
  iintro ⟨%Y, H⟩ Hk
  iapply (ld hr) $$ H
  iintro H
  iapply Hk
  iexists Y; iexact H

theorem ldWA {Q : PUnit → sProp 𝕄} {s : Shape} {e : EltTy} {m : Memref sig .tc .vmem s e} {off : Fin s.rank → ℕ} (inb : ∀ a, off a + s.size a ≤ s.size a)
    {hl : m.view.LoadsAt (Rect.unit off s.size inb).toLoadRect} {k : P F} :
    (anyAt (F := F) c m : sProp 𝕄)
      ⊢ iprop((anyAt (F := F) c m -∗ WP c k Q) -∗ WP c (.op (.load m (Rect.unit off s.size inb).toLoadRect hl) fun _ => k) Q) := by
  unfold anyAt
  iintro ⟨%Y, H⟩ Hk
  iapply (ldW inb) $$ H
  iintro H
  iapply Hk
  iexists Y; iexact H

/-- A wait on a transfer's semaphore: its round's contents come over. -/
theorem st_wait {Q : PUnit → sProp 𝕄} {sem : DmaSem sig} {kd : Kd} (hk : kindOf (.dma sem) = kd) (hM : Mine (.dma sem)) {n : ℕ} (hn : n < nRounds c kd)
    (h1 : kDuties kd = {true}) {s s' : Shape} {e e' : EltTy} {sp sp' : Space} {src : Memref sig .tc sp s e} {dst : Memref sig .tc sp' s' e'}
    {hs : src.view.WordExact} {hd : dst.view.WordExact} (hN : dst.view.dmaCredit = kAmt kd)
    {ι : ℕ} (hι : ι < 3000) {l : List It} (hl : ∀ x ∈ l, ι < x.lev ∧ x.lev < 3000) {k : PUnit → P F} :
    (iprop(St X Wt c l ∗ cred (tallyAt (cellC c (.dma sem)) ι (kAmt kd)) ∗ atPos ER (cellC c (.dma sem)) n ∅ 0) : sProp 𝕄)
      ⊢ iprop(((St X Wt c l ∗ atPos ER (cellC c (.dma sem)) (n + 1) ∅ 0 ∗ reached ER (cellC c (.dma sem)) (n + 1) ∗ kPay X Wt c kd n true)
            -∗ WP c (k ⟨⟩) Q)
          -∗ WP c (.op (.waitDma2 sem src dst hs hd) k) Q) := by
  unfold St
  iintro ⟨⟨#Hx, ⟨%W, HO⟩⟩, Hc, Hat⟩ Hk
  ihave #Hr := (Cx_rec X Wt c hM) $$ Hx
  unfold rec
  icases Hr with ⟨⟨%κ, #Hi⟩, -⟩
  rw [← hN]
  iapply (Rounds.wp_wait_rest_token 𝒱₀ ER (Rd (F := F) X Wt) (c : Thread nD τ) none (κ := κ)
      (wpE_waitDma2_eq 𝒱₀ (c : Thread nD τ) none Set.univ) (Set.mem_univ _) ι (O := tallyL (l.map (It.pay c))) (W := W) (R := n) (m := 0) (T := ∅)
      (by rw [Nat.zero_add, expect_of X Wt c hk hn h1]; exact hN)) $$ [Hc HO Hat]
  · isplitr; · iexact Hi
    isplitl [Hc]; · iexact Hc
    isplitl [HO]; · iexact HO
    isplitr
    · iapply (may_wait c _ l ι hι hl)
      unfold Cx
      icases Hx with ⟨-, #Hl⟩
      iexact Hl
    iexact Hat
  iintro ⟨HO, Hat, #Hr1, Hpay⟩
  ihave Hp := (Entails.of_eq (rest_of X Wt c hk hn h1)) $$ Hpay
  iapply Hk
  isplitl [HO]
  · isplitr; · iexact Hx
    iexists _; iexact HO
  isplitl [Hat]; · iexact Hat
  isplitr; · iexact Hr1
  iexact Hp

/-- A wait on a credit semaphore. -/
theorem st_semWait {Q : PUnit → sProp 𝕄} {sem : Idealize.ShloMosaic.Sem sig} {kd : Kd} (hk : kindOf (.reg sem) = kd) (hM : Mine (.reg sem)) {n : ℕ} (hn : n < nRounds c kd)
    (h1 : kDuties kd = {true}) (hN : 1 = kAmt kd)
    {ι : ℕ} (hι : ι < 3000) {l : List It} (hl : ∀ x ∈ l, ι < x.lev ∧ x.lev < 3000) {k : PUnit → P F} :
    (iprop(St X Wt c l ∗ cred (tallyAt (cellC c (.reg sem)) ι 1) ∗ atPos ER (cellC c (.reg sem)) n ∅ 0) : sProp 𝕄)
      ⊢ iprop(((St X Wt c l ∗ atPos ER (cellC c (.reg sem)) (n + 1) ∅ 0 ∗ reached ER (cellC c (.reg sem)) (n + 1) ∗ kPay X Wt c kd n true)
            -∗ WP c (k ⟨⟩) Q)
          -∗ WP c (.op (.semWait sem (1#32 : BitVec 32).toInt) k) Q) := by
  unfold St
  iintro ⟨⟨#Hx, ⟨%W, HO⟩⟩, Hc, Hat⟩ Hk
  ihave #Hr := (Cx_rec X Wt c hM) $$ Hx
  unfold rec
  icases Hr with ⟨⟨%κ, #Hi⟩, -⟩
  iapply (Rounds.wp_wait_rest_token 𝒱₀ ER (Rd (F := F) X Wt) (c : Thread nD τ) none (κ := κ)
      (wpE_semWait_eq 𝒱₀ (c : Thread nD τ) none Set.univ) (Set.mem_univ _) ι (O := tallyL (l.map (It.pay c))) (W := W) (R := n) (m := 0) (T := ∅)
      (by rw [Nat.zero_add, expect_of X Wt c hk hn h1, ← hN]; decide)) $$ [Hc HO Hat]
  · isplitr; · iexact Hi
    isplitl [Hc]; · iexact Hc
    isplitl [HO]; · iexact HO
    isplitr
    · iapply (may_wait c _ l ι hι hl)
      unfold Cx
      icases Hx with ⟨-, #Hl⟩
      iexact Hl
    iexact Hat
  iintro ⟨HO, Hat, #Hr1, Hpay⟩
  ihave Hp := (Entails.of_eq (rest_of X Wt c hk hn h1)) $$ Hpay
  iapply Hk
  isplitl [HO]
  · isplitr; · iexact Hx
    iexists _; iexact HO
  isplitl [Hat]; · iexact Hat
  isplitr; · iexact Hr1
  iexact Hp

/-- The wait at the barrier: what the two senders on the rings lend comes over. -/
theorem st_barWait {Q : PUnit → sProp 𝕄} {l : List It} (hl : ∀ x ∈ l, 1 < x.lev ∧ x.lev < 3000) {k : PUnit → P F} :
    (iprop(St X Wt c l ∗ cred (tallyAt (cellC c (.reg barS)) 1 2) ∗ atPos ER (cellC c (.reg barS)) 0 ∅ 0) : sProp 𝕄)
      ⊢ iprop(((St X Wt c l ∗ atPos ER (cellC c (.reg barS)) 1 ∅ 0 ∗ barPay (F := F) c true ∗ barPay (F := F) c false) -∗ WP c (k ⟨⟩) Q)
          -∗ WP c (.op (.semWait barS (2#32 : BitVec 32).toInt) k) Q) := by
  have hd : (Rd (F := F) X Wt).duties (cellC c (.reg barS)) 0 = Finset.univ := duties_of X Wt c kind_bar (Nat.zero_lt_one)
  have he : (Rd (F := F) X Wt).expect (cellC c (.reg barS)) 0 = 2 := by
    unfold Schedule.expect Schedule.amountOf
    rw [hd]
    simp only [amount_of X Wt c kind_bar]
    rfl
  have hr : bigSep ((Rd (F := F) X Wt).duties (cellC c (.reg barS)) 0 \ ∅) (fun d => (Rd (F := F) X Wt).payload (cellC c (.reg barS)) 0 d)
      = iprop(barPay (F := F) c true ∗ barPay (F := F) c false) := by
    rw [Finset.sdiff_empty, hd, bigSep_eq_bigSepL_of_eq [true, false] (by decide) (by decide), bigSepL_cons', bigSepL_singleton,
      payload_of X Wt c kind_bar, payload_of X Wt c kind_bar]
    rfl
  unfold St
  iintro ⟨⟨#Hx, ⟨%W, HO⟩⟩, Hc, Hat⟩ Hk
  ihave #Hr := (Cx_rec X Wt c mine_bar) $$ Hx
  unfold rec
  icases Hr with ⟨⟨%κ, #Hi⟩, -⟩
  iapply (Rounds.wp_wait_rest_token 𝒱₀ ER (Rd (F := F) X Wt) (c : Thread nD τ) none (κ := κ)
      (wpE_semWait_eq 𝒱₀ (c : Thread nD τ) none Set.univ) (Set.mem_univ _) 1 (O := tallyL (l.map (It.pay c))) (W := W) (R := 0) (m := 0) (T := ∅)
      (by rw [Nat.zero_add, he]; decide)) $$ [Hc HO Hat]
  · isplitr; · iexact Hi
    isplitl [Hc]; · iexact Hc
    isplitl [HO]; · iexact HO
    isplitr
    · iapply (may_wait c _ l 1 (by decide) hl)
      unfold Cx
      icases Hx with ⟨-, #Hl⟩
      iexact Hl
    iexact Hat
  iintro ⟨HO, Hat, -, Hpay⟩
  ihave Hp := (Entails.of_eq hr) $$ Hpay
  iapply Hk
  isplitl [HO]
  · isplitr; · iexact Hx
    iexists _; iexact HO
  isplitl [Hat]; · iexact Hat
  iexact Hp

/-- A signal: the next payment owed. -/
theorem st_signal {Q : PUnit → sProp 𝕄} (i : It) (l : List It) {d : Dev nD} {sem : Idealize.ShloMosaic.Sem sig} (hc : It.cell c i = cellC d (.reg sem)) (hd : i.dst c = d)
    {kd : Kd} (hk : kindOf (.reg sem) = kd) (hM : Mine (.reg sem)) (hn : i.rnd < nRounds d kd) (hdt : i.dty ∈ kDuties kd)
    (hN : 1 = kAmt kd) (ha : i.amt = 1) {k : PUnit → P F} :
    (iprop(St X Wt c (i :: l) ∗ It.tok c i ∗ reached ER (cellC d (.reg sem)) i.rnd ∗ kPay X Wt d kd i.rnd i.dty) : sProp 𝕄)
      ⊢ iprop((St X Wt c l -∗ WP c (k ⟨⟩) Q)
          -∗ WP c (.op (.semSignal (d : Thread nD τ) sem (1#32 : BitVec 32).toInt) k) Q) := by
  unfold St It.tok
  iintro ⟨⟨#Hx, ⟨%W, HO⟩⟩, Ht, #Hre, Hp⟩ Hk
  ihave #Hr := (Cx_rec X Wt d hM) $$ Hx
  unfold rec
  icases Hr with ⟨⟨%κ, #Hi⟩, -⟩
  rw [hc]
  iapply (Rounds.wp_signal 𝒱₀ ER (Rd (F := F) X Wt) (c : Thread nD τ) none (dst := (d : Thread nD τ)) (κ := κ) (r := i.rnd) (d := i.dty)
      (by rw [duties_of X Wt d hk hn]; exact hdt) ((amount_of X Wt d hk _ _).trans (by rw [← hN]; decide)) i.lev (tallyL (l.map (It.pay c)))
      (by
        show tallyAt (It.cell c i) i.lev i.amt + tallyL (l.map (It.pay c)) = _
        rw [hc, ha, add_comm]; rfl) (W := W)) $$ [HO Ht Hp]
  · isplitr; · iexact Hi
    isplitl [HO]; · iexact HO
    isplitl [Ht]; · iexact Ht
    isplitl [Hp]; · iapply (Entails.of_eq (payload_of X Wt d hk _ _).symm); iexact Hp
    iexact Hre
  iintro HO
  iapply Hk
  isplitr; · iexact Hx
  iexists W; iexact HO

/-- A transfer: the next payment owed. The source's share comes back through the send semaphore; what arrives, and `R`, go to
    the receiver. -/
theorem st_send {Q : PUnit → sProp 𝕄} (i : It) (l : List It) {d : Dev nD} {sR sS : DmaSem sig} (hc : It.cell c i = cellC d (.dma sR))
    {kr ks : Kd} (hkr : kindOf (.dma sR) = kr) (hks : kindOf (.dma sS) = ks) (hMr : Mine (.dma sR)) (hMs : Mine (.dma sS))
    (hn : i.rnd < nRounds d kr) {n : ℕ} (hns : n < nRounds c ks) (h1r : kDuties kr = {true}) (h1s : kDuties ks = {true}) (hdt : i.dty = true)
    {s : Shape} {e : EltTy} {src : Memref sig .tc .vmem s e} {dst : Memref sig .tc .vmem s e}
    {hsc : dst.view.ref.isScScratch = false} {hs : src.view.WordExact} {hd : dst.view.WordExact}
    {hsem : DmaTarget.Typed .vmem (.dma sR) (.remote (Dev.tc d : Thread nD τ) dst (.dma sS) hsc)}
    (hN : dst.view.dmaCredit = kAmt kr) (hNs : kAmt ks = kAmt kr) (ha : i.amt = kAmt kr)
    {q : PosShare TreeShare} {Y : s.Idx → Elt F e} (R : sProp 𝕄)
    (hpS : (owns (c : Thread nD τ) src q Y : sProp 𝕄) ⊢ kPay X Wt c ks n true)
    (hpR : (iprop(owns (d : Thread nD τ) dst fullShare Y ∗ R) : sProp 𝕄) ⊢ kPay X Wt d kr i.rnd true)
    {k : PUnit → P F} :
    (iprop(St X Wt c (i :: l) ∗ owns (c : Thread nD τ) src q Y ∗ anyAt d dst ∗ R
        ∗ dutyTok ER (cellC c (.dma sS)) n true ∗ reached ER (cellC c (.dma sS)) n ∗ It.tok c i ∗ reached ER (cellC d (.dma sR)) i.rnd) : sProp 𝕄)
      ⊢ iprop(((St X Wt c l ∗ cred (tallyAt (cellC c (.dma sS)) 0 (kAmt ks))) -∗ WP c (k ⟨⟩) Q)
          -∗ WP c (.op (.enqueueDma src (.remote (Dev.tc d : Thread nD τ) dst (.dma sS) hsc) (.dma sR) hs hd hsem) k) Q) := by
  unfold St It.tok anyAt owns
  iintro ⟨⟨#Hx, ⟨%W, HO⟩⟩, ⟨%fs, %hfs, Hsrc⟩, ⟨%Yd, %fd, %hfd, Hdst⟩, HR, Hts, #Hrs, Ht, #Hrr⟩ Hk
  ihave #Hr := (Cx_rec X Wt d hMr) $$ Hx
  ihave #Hr' := (Cx_rec X Wt c hMs) $$ Hx
  unfold rec
  icases Hr with ⟨⟨%κ, #Hi⟩, -⟩
  icases Hr' with ⟨⟨%κ', #Hi'⟩, -⟩
  rw [hc, hdt, hNs]
  iapply (Rounds.wp_send_pointsTo_with 𝒱₀ ER (Rd (F := F) X Wt) (c : Thread nD τ) none (c' := (d : Thread nD τ)) (src := src) (dst := dst) (sS := .dma sS) (sem := .dma sR) (κ₁ := κ') (κ₂ := κ)
    (r₁ := n) (r₂ := i.rnd) (d₁ := true) (d₂ := true) (fs := fs) (fd := fd) (q := q) (F := R)
    (by rw [duties_of X Wt c hks hns, h1s]; exact Finset.mem_singleton_self _)
    (by rw [duties_of X Wt d hkr hn, h1r]; exact Finset.mem_singleton_self _)
    i.lev 0 (kAmt kr) hN ((amount_of X Wt c hks _ _).trans hNs) (amount_of X Wt d hkr _ _) (tallyL (l.map (It.pay c)))
    (by
      show tallyAt (It.cell c i) i.lev i.amt + tallyL (l.map (It.pay c)) = _
      rw [hc, ha, add_comm]) (W := W)
    (by
      rw [payload_of X Wt c hks]
      refine BIBase.Entails.trans ?_ hpS
      unfold owns
      iintro H; iexists fs; isplitr; · ipureintro; exact hfs
      iexact H)
    (by
      rw [payload_of X Wt d hkr]
      refine BIBase.Entails.trans ?_ hpR
      unfold owns
      iintro ⟨H, HR⟩
      isplitl [H]
      · iexists dst.view.write (Elt F) fd (src.view.read (Elt F) fs) Finset.univ
        isplitr; · ipureintro; exact (View.read_write_univ _ _).trans hfs
        iexact H
      iexact HR)) $$ [HO Hsrc Hdst HR Hts Ht]
  · isplitr; · iexact Hi'
    isplitr; · iexact Hi
    isplitl [Hsrc]; · iexact Hsrc
    isplitl [Hdst HR]
    · isplitl [Hdst]; · iexact Hdst
      iexact HR
    isplitl [HO]; · iexact HO
    isplitl [Hts]; · iexact Hts
    isplitr; · iexact Hrs
    isplitl [Ht]; · iexact Ht
    iexact Hrr
  iintro ⟨Hc, HO⟩
  iapply Hk
  isplitl [HO]
  · isplitr; · iexact Hx
    iexists W; iexact HO
  iexact Hc

end Rules

/-! ## Loops -/

/-- A loop over a list whose elements have the numbers `n`, `n + 1`, …: each number has a part of its own, and the rest is
    named by the number. -/
theorem seqL_rule {α : Type} {c : Dev nD} {Q : PUnit → sProp 𝕄} {f : α → P F → P F} {val : α → ℕ} {Pre Post : ℕ → sProp 𝕄} {J : ℕ → sProp 𝕄} :
    ∀ (l : List α) (n m : ℕ) (hl : l.map val = List.range' n m)
      (h : ∀ a ∈ l, ∀ k : P F, iprop(Pre (val a) ∗ J (val a) ∗ ((Post (val a) ∗ J (val a + 1)) -∗ WP c k Q)) ⊢ WP c (f a k) Q) (k : P F),
      iprop(bigSepL (List.range' n m) Pre ∗ J n ∗ ((bigSepL (List.range' n m) Post ∗ J (n + m)) -∗ WP c k Q)) ⊢ WP c (seqL l f k) Q
  | [], n, 0, _, _, k => by
    show _ ⊢ WP c k Q
    iintro ⟨HP, HJ, Hk⟩
    iapply Hk
    isplitl [HP]; · iexact HP
    iexact HJ
  | [], _, _ + 1, hl, _, _ => absurd hl (by simp)
  | _ :: _, _, 0, hl, _, _ => absurd hl (by simp)
  | a :: l, n, m + 1, hl, h, k => by
    rw [List.map_cons, List.range'_succ, List.cons.injEq] at hl
    obtain ⟨h0, hl⟩ := hl
    show _ ⊢ WP c (f a (seqL l f k)) Q
    refine BIBase.Entails.trans ?_ (h a (List.mem_cons_self) (seqL l f k))
    rw [List.range'_succ, bigSepL_cons', bigSepL_cons', h0]
    iintro ⟨⟨Ha, Hl⟩, HJ, Hk⟩
    isplitl [Ha]; · iexact Ha
    isplitl [HJ]; · iexact HJ
    iintro ⟨Ha', HJ'⟩
    iapply (seqL_rule l (n + 1) m hl (fun b hb => h b (List.mem_cons_of_mem a hb)) k)
    isplitl [Hl]; · iexact Hl
    isplitl [HJ']; · iexact HJ'
    iintro ⟨Hl', HJ''⟩
    iapply Hk
    isplitl [Ha' Hl']
    · isplitl [Ha']; · iexact Ha'
      iexact Hl'
    · iapply (Entails.of_eq (congrArg J (by omega : n + 1 + m = n + (m + 1))))
      iexact HJ''

/-- A list of two parts each splits into the two lists. -/
theorem bigSepL_two {α : Type} (Φ Ψ : α → sProp 𝕄) : ∀ l : List α,
    bigSepL l (fun a => iprop(Φ a ∗ Ψ a)) = iprop(bigSepL l Φ ∗ bigSepL l Ψ)
  | [] => by
    have h1 : (bigSepL ([] : List α) (fun a => iprop(Φ a ∗ Ψ a)) : sProp 𝕄) ⊢ iprop(bigSepL ([] : List α) Φ ∗ bigSepL ([] : List α) Ψ) := by
      iintro H
      isplitl; · iexact H
      iempintro
    have h2 : (iprop(bigSepL ([] : List α) Φ ∗ bigSepL ([] : List α) Ψ) : sProp 𝕄) ⊢ bigSepL ([] : List α) (fun a => iprop(Φ a ∗ Ψ a)) := by
      iintro ⟨H, -⟩
      iexact H
    exact Entails.antisymm h1 h2
  | a :: l => by
    rw [bigSepL_cons', bigSepL_cons', bigSepL_cons', bigSepL_two Φ Ψ l]
    have h1 : (iprop((Φ a ∗ Ψ a) ∗ bigSepL l Φ ∗ bigSepL l Ψ) : sProp 𝕄) ⊢ iprop((Φ a ∗ bigSepL l Φ) ∗ Ψ a ∗ bigSepL l Ψ) := by
      iintro ⟨⟨H1, H2⟩, H3, H4⟩
      isplitl [H1 H3]
      · isplitl [H1]; · iexact H1
        iexact H3
      isplitl [H2]; · iexact H2
      iexact H4
    have h2 : (iprop((Φ a ∗ bigSepL l Φ) ∗ Ψ a ∗ bigSepL l Ψ) : sProp 𝕄) ⊢ iprop((Φ a ∗ Ψ a) ∗ bigSepL l Φ ∗ bigSepL l Ψ) := by
      iintro ⟨⟨H1, H3⟩, H2, H4⟩
      isplitl [H1 H2]
      · isplitl [H1]; · iexact H1
        iexact H2
      isplitl [H3]; · iexact H3
      iexact H4
    exact Entails.antisymm h1 h2

end Cert.KernelIdeal.Hand

end
-- ==== Proof.KernelIdeal.Sums.lean ====
/- The rings of partial sums: one rule for each step of one ring, and the whole part of the program. -/
module

public import proofs.«01_k».proof.Proof.KernelIdeal.Rules

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (X : Dev nD → Vec F S4096x256 .f32) (Wt : Dev nD → Vec F S256x2048 .f32)

/-- Round `n` of a semaphore of `c`'s is the next; -/
abbrev pos (c : Dev nD) (sm : SemLoc sig) (n : ℕ) : sProp 𝕄 := atPos ER (cellC c sm) n ∅ 0
/-- the token of a payment of `c` to itself. -/
abbrev stok (c : Dev nD) (sm : SemLoc sig) (n : ℕ) : sProp 𝕄 := dutyTok ER (cellC c sm) n true
/-- What `c` waits with for its own send. -/
abbrev scrd (c : Dev nD) (sm : SemLoc sig) : sProp 𝕄 := cred (tallyAt (cellC c sm) 0 (kAmt (kindOf sm)))

/-! ## The slots of the maxima, carried along ring 0 -/

/-- What arrives at `c` with step `n`; -/
def arr (c : Dev nD) (r : Fin 4) (n : ℕ) : sProp 𝕄 := if r = 0 then slotsP (F := F) (chF 0 c (n + 1)) (n + 1) else iprop(emp)
/-- what `c` sends on with step `n`; -/
def fwd (c : Dev nD) (r : Fin 4) (n : ℕ) : sProp 𝕄 := if r = 0 then slotsP (F := F) (chF 0 c n) (n + 1) else iprop(emp)
/-- what `c` keeps of what arrived. -/
def kp (c : Dev nD) (r : Fin 4) (n : ℕ) : sProp 𝕄 := if r = 0 then anyAt (F := F) (chF 0 c n) (slotC c) else iprop(emp)
def kps (c : Dev nD) (r : Fin 4) (n : ℕ) : sProp 𝕄 := bigSep (Finset.Ico 1 (n + 1)) (kp (F := F) c r)

theorem chF_back (c : Dev nD) {n : ℕ} (h : n < 16) : chF 1 (chF 0 c n) n = c := by
  have H : ∀ (c : Dev nD) (n : Fin 16), chF 1 (chF 0 c n.val) n.val = c := by decide +kernel
  exact H c ⟨n, h⟩

theorem arr_keep (c : Dev nD) (r : Fin 4) {n : ℕ} (h : n < 15) : arr (F := F) c r n ⊢ iprop(kp c r (n + 1) ∗ fwd c r (n + 1)) := by
  unfold arr kp fwd
  by_cases hr : r = 0
  · rw [if_pos hr, if_pos hr, if_pos hr]
    unfold slotsP
    rw [bigSep_Ico_succ_bot (by omega : n + 1 < 16), chF_back c (by omega)]
  · rw [if_neg hr, if_neg hr, if_neg hr]
    iintro -
    isplitr <;> iempintro

theorem fwd_arr (c : Dev nD) (r : Fin 4) {n : ℕ} (h : n < 16) : fwd (F := F) c r n = arr (toD r c) r n := by
  unfold arr fwd
  by_cases hr : r = 0
  · subst hr
    rw [if_pos rfl, if_pos rfl, chF_toD 0 c (by omega)]
  · rw [if_neg hr, if_neg hr]

theorem kps_step (c : Dev nD) (r : Fin 4) (n : ℕ) : kps (F := F) c r (n + 1) = iprop(kps (F := F) c r n ∗ kp c r (n + 1)) := by
  unfold kps
  rw [bigSep_Ico_succ_top (by omega)]; exact Idealize.SL.BI.sep_comm.antisymm Idealize.SL.BI.sep_comm

/-! ## The states of a ring -/

/-- Before the wait of step `s`. -/
def RS (c : Dev nD) (r : Fin 4) (s : ℕ) : sProp 𝕄 :=
  iprop(pos c (.dma (rsSend r)) s ∗ pos c (.dma (rsRecv r)) s ∗ pos c (.reg (creditS r)) s ∗ scrd c (.dma (rsSend r))
    ∗ It.crd c (.rs r s) ∗ (if s = 0 then anyAt (F := F) c (accM r) else anyAt (F := F) c (oC r (chF r c 0))) ∗ kps (F := F) c r s)
/-- After it. -/
def RM (c : Dev nD) (r : Fin 4) (s : ℕ) : sProp 𝕄 :=
  iprop((pos c (.dma (rsSend r)) (s + 1) ∗ pos c (.dma (rsRecv r)) (s + 1) ∗ pos c (.reg (creditS r)) s)
    ∗ (reached ER (cellC c (.dma (rsSend r))) (s + 1) ∗ reached ER (cellC c (.dma (rsRecv r))) (s + 1)
      ∗ reached ER (cellC (frmD r c) (.reg (creditS r))) s)
    ∗ owns (c : Thread nD τ) (rcvM r) fullShare (V X Wt s (frmD r c) r)
    ∗ (anyAt (F := F) c (accM r) ∗ anyAt (F := F) c (oC r (chF r c 0))) ∗ kps (F := F) c r (s + 1) ∗ fwd (F := F) c r (s + 1))
/-- After the last step. -/
def RE (c : Dev nD) (r : Fin 4) : sProp 𝕄 :=
  iprop((pos c (.dma (rsSend r)) 15 ∗ pos c (.dma (rsRecv r)) 15 ∗ pos c (.reg (creditS r)) 14)
    ∗ anyAt (F := F) c (rcvM r) ∗ owns (c : Thread nD τ) (accM r) fullShare (Sv X Wt c r)
    ∗ (anyAt (F := F) c (oC r (chF r c 0)) ∗ anyAt (F := F) c (oC r (chF r c 15))) ∗ kps (F := F) c r 15)
/-- What step `s` uses up, -/
def RT (c : Dev nD) (r : Fin 4) (s : ℕ) : sProp 𝕄 :=
  iprop((stok c (.dma (rsSend r)) (s + 1) ∗ It.tok c (.cr r s) ∗ It.tok c (.rs r (s + 1)) ∗ It.crd c (.cr r s) ∗ It.crd c (.rs r (s + 1)))
    ∗ owns (c : Thread nD τ) (oC r (chF r c (s + 1))) fullShare (Pv X Wt c r (s + 1)))
/-- and the first send. -/
def RF (c : Dev nD) (r : Fin 4) : sProp 𝕄 :=
  iprop((stok c (.dma (rsSend r)) 0 ∗ It.tok c (.rs r 0))
    ∗ owns (c : Thread nD τ) (oC r (chF r c 0)) fullShare (Pv X Wt c r 0) ∗ anyAt (F := F) (toD r c) (rcvM r) ∗ fwd (F := F) c r 0)

/-- What is left to pay at step `s` before ring `i`. -/
def rsAt (s i : ℕ) : List It := ((rings.drop i).flatMap fun r => [It.cr r s, It.rs r (s + 1)]) ++ rsFrom (s + 1)

theorem rsAt_zero {s : ℕ} (h : s < 14) : rsFrom s = rsAt s 0 := by
  have H : ∀ s : Fin 14, rsFrom s.val = rsAt s.val 0 := by decide +kernel
  exact H ⟨s, h⟩
theorem rsAt_ring (s : ℕ) (r : Fin 4) : rsAt s r.val = It.cr r s :: It.rs r (s + 1) :: rsAt s (r.val + 1) := by
  match r with
  | 0 => rfl | 1 => rfl | 2 => rfl | 3 => rfl
theorem rsAt_four (s : ℕ) : rsAt s 4 = rsFrom (s + 1) := rfl
theorem firstFrom_ring (r : Fin 4) : firstFrom r.val = It.rs r 0 :: firstFrom (r.val + 1) := by
  match r with
  | 0 => rfl | 1 => rfl | 2 => rfl | 3 => rfl
theorem firstFrom_four : firstFrom 4 = rsFrom 0 := rfl

theorem rsAt_lev {s : ℕ} (h : s < 14) (r : Fin 4) : ∀ x ∈ rsAt s r.val, 13 + 8 * s + 2 * r.val < x.lev ∧ x.lev < 3000 := by
  have H : ∀ (s : Fin 14) (r : Fin 4), ∀ x ∈ rsAt s.val r.val, 13 + 8 * s.val + 2 * r.val < x.lev ∧ x.lev < 3000 := by decide +kernel
  exact H ⟨s, h⟩ r
theorem rsAt_lev' {s : ℕ} (h : s < 14) (r : Fin 4) :
    ∀ x ∈ It.rs r (s + 1) :: rsAt s (r.val + 1), 20 + 8 * s + 2 * r.val < x.lev ∧ x.lev < 3000 := by
  have H : ∀ (s : Fin 14) (r : Fin 4), ∀ x ∈ It.rs r (s.val + 1) :: rsAt s.val (r.val + 1), 20 + 8 * s.val + 2 * r.val < x.lev ∧ x.lev < 3000 := by
    decide +kernel
  exact H ⟨s, h⟩ r
theorem mxFrom_lev : ∀ x ∈ mxFrom 0, 500 < x.lev ∧ x.lev < 3000 := by decide +kernel
theorem firstFrom_lev : ∀ x ∈ firstFrom 0, 1 < x.lev ∧ x.lev < 3000 := by decide +kernel

theorem lev_zero {l : List It} {n : ℕ} (h : ∀ x ∈ l, n < x.lev ∧ x.lev < 3000) : ∀ x ∈ l, 0 < x.lev ∧ x.lev < 3000 :=
  fun x hx => ⟨Nat.lt_of_le_of_lt (Nat.zero_le _) (h x hx).1, (h x hx).2⟩

theorem scrd_rsS (c : Dev nD) (r : Fin 4) :
    scrd (F := F) c (.dma (rsSend r)) = cred (tallyAt (cellC c (.dma (rsSend r))) 0 Nf) := by unfold scrd; rw [kind_rsS]; rfl
theorem crd_rs (c : Dev nD) (r : Fin 4) (s : ℕ) :
    It.crd (F := F) c (.rs r s) = cred (tallyAt (cellC c (.dma (rsRecv r))) (13 + 8 * s + 2 * r.val) Nf) := rfl
theorem crd_cr (c : Dev nD) (r : Fin 4) (s : ℕ) :
    It.crd (F := F) c (.cr r s) = cred (tallyAt (cellC c (.reg (creditS r))) (20 + 8 * s + 2 * r.val) 1) := rfl

theorem rcvM_credit (r : Fin 4) : (rcvM r).view.dmaCredit = Nf := by
  match r with
  | 0 => rfl | 1 => rfl | 2 => rfl | 3 => rfl
theorem accM_credit (r : Fin 4) : (accM r).view.dmaCredit = Nf := by
  match r with
  | 0 => rfl | 1 => rfl | 2 => rfl | 3 => rfl
theorem oAt_credit (oo : Fin 2 → ℕ) (ho : ∀ a, oo a + S64x2048.size a ≤ S4096x2048.size a) : (oAt oo ho).view.dmaCredit = Nf := rfl

theorem rsS_pay_zero (c : Dev nD) (r : Fin 4) : kPay X Wt c (.rsS r) 0 true = anyAt (F := F) c (oC r (chF r c 0)) := by
  show rsSPay (F := F) c r 0 = _
  unfold rsSPay; rw [if_pos rfl]
theorem rsS_pay_succ (c : Dev nD) (r : Fin 4) (n : ℕ) : kPay X Wt c (.rsS r) (n + 1) true = anyAt (F := F) c (accM r) := by
  show rsSPay (F := F) c r (n + 1) = _
  unfold rsSPay; rw [if_neg (Nat.succ_ne_zero n)]
theorem rsS_swap (c : Dev nD) (r : Fin 4) (s : ℕ) :
    iprop((if s = 0 then anyAt (F := F) c (accM r) else anyAt (F := F) c (oC r (chF r c 0))) ∗ kPay X Wt c (.rsS r) s true)
      ⊢ iprop(anyAt (F := F) c (accM r) ∗ anyAt (F := F) c (oC r (chF r c 0))) := by
  match s with
  | 0 => rw [if_pos rfl, rsS_pay_zero]
  | n + 1 =>
    rw [if_neg (Nat.succ_ne_zero n), rsS_pay_succ]
    exact Idealize.SL.BI.sep_comm
theorem rsR_pay (c : Dev nD) (r : Fin 4) (n : ℕ) : kPay X Wt c (.rsR r) n true
    = iprop(owns (c : Thread nD τ) (rcvM r) fullShare (V X Wt n (frmD r c) r) ∗ reached ER (cellC (frmD r c) (.reg (creditS r))) n
      ∗ arr (F := F) c r n) := rfl
theorem rsR_pay_to (c : Dev nD) (r : Fin 4) {n : ℕ} (h : n < 16) : kPay X Wt (toD r c) (.rsR r) n true
    = iprop(owns (toD r c : Thread nD τ) (rcvM r) fullShare (V X Wt n c r) ∗ reached ER (cellC c (.reg (creditS r))) n ∗ fwd (F := F) c r n) := by
  rw [rsR_pay, frmD_toD, fwd_arr c r h]
theorem cr_pay (c : Dev nD) (r : Fin 4) (n : ℕ) : kPay X Wt c (.cr r) n true
    = iprop(anyAt (F := F) (toD r c) (rcvM r) ∗ reached ER (cellC (toD r c) (.dma (rsRecv r))) (n + 1)) := rfl
theorem cr_pay_frm (c : Dev nD) (r : Fin 4) (n : ℕ) : kPay X Wt (frmD r c) (.cr r) n true
    = iprop(anyAt (F := F) c (rcvM r) ∗ reached ER (cellC c (.dma (rsRecv r))) (n + 1)) := by
  rw [cr_pay, toD_frmD]

section Steps
variable {c : Dev nD} {r : Fin 4}

/-- What device `c` reads: its parts of `x` and `w`. -/
def inp (c : Dev nD) : sProp 𝕄 := iprop(owns (c : Thread nD τ) xM fullShare (X c) ∗ owns (c : Thread nD τ) wM fullShare (Wt c))

theorem ldX {Q : PUnit → sProp 𝕄} {k' : Dev nD} {ox : Fin 2 → ℕ} (hx : ∀ a, ox a + S64x256.size a ≤ S4096x256.size a)
    (he : ox = ![rowOf r k'.val, 0]) {hl : xM.view.LoadsAt (Rect.unit (s := S4096x256) ox S64x256.size hx).toLoadRect}
    {k : (S64x256.Idx → Elt F .f32) → P F} :
    (owns (c : Thread nD τ) xM fullShare (X c) : sProp 𝕄)
      ⊢ iprop((owns (c : Thread nD τ) xM fullShare (X c) -∗ WP c (k (xr X c r k')) Q)
        -∗ WP c (.op (.load xM (Rect.unit (s := S4096x256) ox S64x256.size hx).toLoadRect hl) k) Q) := by
  subst he
  unfold owns
  iintro ⟨%f, %hf, H⟩ Hk
  have hf' : f = X c := hf
  subst f
  iapply (wp_load_rect 𝒱₀ (c : Thread nD τ) none Set.univ (m := xM) (r := Rect.unit (s := S4096x256) ![rowOf r k'.val, 0] S64x256.size hx)
    (hl := hl) (k := k) (S := xM.view.set) (q := fullShare) (f := X c) (View.set_slice_subset xM.view _)) $$ H
  iintro H
  iapply Hk
  iexists (X c)
  isplitr; · ipureintro; rfl
  iexact H

/-- One product. -/
theorem gemm_rule {Q : PUnit → sProp 𝕄} (n : ℕ) {ox oo : Fin 2 → ℕ} (hx : ∀ a, ox a + S64x256.size a ≤ S4096x256.size a)
    (ho : ∀ a, oo a + S64x2048.size a ≤ S4096x2048.size a) (hex : ox = ![rowOf r (chF r c n).val, 0]) (heo : oo = ![rowOf r (chF r c n).val, 0])
    (k : P F) :
    (iprop(anyAt (F := F) c (oC r (chF r c n)) ∗ inp X Wt c
        ∗ ((owns (c : Thread nD τ) (oC r (chF r c n)) fullShare (Pv X Wt c r n) ∗ inp X Wt c) -∗ WP c k Q)) : sProp 𝕄)
      ⊢ WP c (gemm ox oo hx ho k) Q := by
  subst heo
  unfold gemm inp
  iintro ⟨Ho, ⟨Hx, Hw⟩, Hk⟩
  iapply (ldX X hx hex) $$ Hx
  iintro Hx
  iapply (ldW inb_S256x2048_S256x2048_0_0) $$ Hw
  iintro Hw
  iapply (ldA (m := oM) (fun _ => rfl)) $$ Ho
  iintro Ho
  iapply (sto (m := oM) (fun _ => rfl)) $$ Ho
  iintro Ho
  iapply Hk
  isplitl [Ho]; · iexact Ho
  isplitl [Hx]; · iexact Hx
  iexact Hw

/-- The first send of a ring. -/
theorem rsFirst_rule {Q : PUnit → sProp 𝕄} {oo : Fin 2 → ℕ} (ho : ∀ a, oo a + S64x2048.size a ≤ S4096x2048.size a)
    (heo : oo = ![rowOf r (chF r c 0).val, 0]) (k : P F) :
    (iprop(RF X Wt c r ∗ St X Wt c (firstFrom r.val) ∗ ((scrd (F := F) c (.dma (rsSend r)) ∗ St X Wt c (firstFrom (r.val + 1))) -∗ WP c k Q)) : sProp 𝕄)
      ⊢ WP c (rsFirst c r oo ho k) Q := by
  subst heo
  unfold rsFirst RF
  rw [firstFrom_ring, scrd_rsS]
  iintro ⟨⟨⟨Hts, Ht⟩, Ho, Hd, Hf⟩, HS, Hk⟩
  icases (St_reached X Wt c c _ (mine_rsS r)) $$ HS with ⟨HS, #Hr1⟩
  icases (St_reached X Wt c (toD r c) _ (mine_rsR r)) $$ HS with ⟨HS, #Hr2⟩
  icases (St_reached X Wt c c _ (mine_cr r)) $$ HS with ⟨HS, #Hr3⟩
  iapply (st_send X Wt (.rs r 0) (firstFrom (r.val + 1)) (d := toD r c) (sR := rsRecv r) (sS := rsSend r) rfl (kind_rsR r) (kind_rsS r)
    (mine_rsR r) (mine_rsS r) (by show 0 < 15; decide) (n := 0) (by show 0 < 15; decide) rfl rfl rfl (rcvM_credit r) rfl rfl
    (q := fullShare) (Y := Pv X Wt c r 0) (iprop(reached ER (cellC c (.reg (creditS r))) 0 ∗ fwd (F := F) c r 0))
    (by rw [rsS_pay_zero]; exact anyAt_intro)
    (Entails.of_eq (rsR_pay_to X Wt c r (n := 0) (by decide)).symm)) $$ [HS Ho Hd Hf Hts Ht]
  · isplitl [HS]; · iexact HS
    isplitl [Ho]; · iexact Ho
    isplitl [Hd]; · iexact Hd
    isplitl [Hf]
    · isplitr; · iexact Hr3
      iexact Hf
    isplitl [Hts]; · iexact Hts
    isplitr; · iexact Hr1
    isplitl [Ht]; · iexact Ht
    iexact Hr2
  iintro ⟨HS, Hc⟩
  iapply Hk
  isplitl [Hc]; · iexact Hc
  iexact HS

/-- The two waits of a step; the program may name the buffers as it likes. -/
theorem rsWait_rule {Q : PUnit → sProp 𝕄} {s : ℕ} (hs : s < 15) (l : List It) (hl : ∀ x ∈ l, 13 + 8 * s + 2 * r.val < x.lev ∧ x.lev < 3000)
    {m₁ m₂ m₃ m₄ : Memref sig .tc .vmem S64x2048 .f32} {h₁ : m₁.view.WordExact} {h₂ : m₂.view.WordExact} {h₃ : m₃.view.WordExact}
    {h₄ : m₄.view.WordExact} (e₂ : m₂.view.dmaCredit = Nf) (e₄ : m₄.view.dmaCredit = Nf) (k : P F) :
    (iprop(RS (F := F) c r s ∗ St X Wt c l ∗ ((RM X Wt c r s ∗ St X Wt c l) -∗ WP c k Q)) : sProp 𝕄)
      ⊢ WP c (.op (.waitDma2 (rsSend r) m₁ m₂ h₁ h₂) fun _ => .op (.waitDma2 (rsRecv r) m₃ m₄ h₃ h₄) fun _ => k) Q := by
  unfold RS RM
  rw [scrd_rsS, crd_rs]
  iintro ⟨⟨HpS, HpR, HpC, Hcs, Hcr, Hh, Hkp⟩, HS, Hk⟩
  iapply (st_wait X Wt (kind_rsS r) (mine_rsS r) (n := s) hs rfl e₂ (ι := 0) (by decide) (lev_zero hl)) $$ [HS Hcs HpS]
  · isplitl [HS]; · iexact HS
    isplitl [Hcs]; · iexact Hcs
    iexact HpS
  iintro ⟨HS, HpS, #Hr1, Hpay⟩
  iapply (st_wait X Wt (kind_rsR r) (mine_rsR r) (n := s) hs rfl e₄ (ι := 13 + 8 * s + 2 * r.val) (by have := r.isLt; omega) hl) $$ [HS Hcr HpR]
  · isplitl [HS]; · iexact HS
    isplitl [Hcr]; · iexact Hcr
    iexact HpR
  iintro ⟨HS, HpR, #Hr2, Hpay2⟩
  ihave Hpay2 := (Entails.of_eq (rsR_pay X Wt c r s)) $$ Hpay2
  icases Hpay2 with ⟨Hrcv, #Hr3, Harr⟩
  ihave Harr' := (arr_keep (F := F) c r hs) $$ Harr
  icases Harr' with ⟨Hkn, Hfw⟩
  iapply Hk
  isplitr [HS]
  · isplitl [HpS HpR HpC]
    · isplitl [HpS]; · iexact HpS
      isplitl [HpR]; · iexact HpR
      iexact HpC
    isplitr
    · isplitr; · iexact Hr1
      isplitr; · iexact Hr2
      iexact Hr3
    isplitl [Hrcv]; · iexact Hrcv
    isplitl [Hh Hpay]
    · iapply (rsS_swap X Wt c r s)
      isplitl [Hh]; · iexact Hh
      iexact Hpay
    isplitl [Hkp Hkn]
    · rw [kps_step]
      isplitl [Hkp]; · iexact Hkp
      iexact Hkn
    iexact Hfw
  iexact HS

/-- Adding what arrived. -/
theorem rsAdd_rule {Q : PUnit → sProp 𝕄} (s : ℕ) {oo : Fin 2 → ℕ} (ho : ∀ a, oo a + S64x2048.size a ≤ S4096x2048.size a)
    (heo : oo = ![rowOf r (chF r c (s + 1)).val, 0]) (k : P F) :
    (iprop(owns (c : Thread nD τ) (rcvM r) fullShare (V X Wt s (frmD r c) r)
        ∗ owns (c : Thread nD τ) (oC r (chF r c (s + 1))) fullShare (Pv X Wt c r (s + 1)) ∗ anyAt (F := F) c (accM r)
        ∗ ((anyAt (F := F) c (rcvM r) ∗ anyAt (F := F) c (oC r (chF r c (s + 1))) ∗ owns (c : Thread nD τ) (accM r) fullShare (V X Wt (s + 1) c r))
          -∗ WP c k Q)) : sProp 𝕄)
      ⊢ WP c (rsAdd r oo ho k) Q := by
  subst heo
  unfold rsAdd
  iintro ⟨Hr, Ho, Ha, Hk⟩
  iapply (ldW inb_S64x2048_S64x2048_0_0) $$ Hr
  iintro Hr
  iapply (ld (m := oM) (fun _ => rfl)) $$ Ho
  iintro Ho
  iapply (ldWA inb_S64x2048_S64x2048_0_0) $$ Ha
  iintro Ha
  iapply (stoW inb_S64x2048_S64x2048_0_0) $$ Ha
  iintro Ha
  iapply Hk
  isplitl [Hr]; · iapply (anyAt_intro (F := F)); iexact Hr
  isplitl [Ho]; · iapply (anyAt_intro (F := F)); iexact Ho
  iexact Ha

/-- The add and the next send of a step. -/
theorem rsNext_rule {Q : PUnit → sProp 𝕄} {s : ℕ} (hs : s < 14) {oo : Fin 2 → ℕ} (ho : ∀ a, oo a + S64x2048.size a ≤ S4096x2048.size a)
    (heo : oo = ![rowOf r (chF r c (s + 1)).val, 0]) (k : P F) :
    (iprop(RM X Wt c r s ∗ RT X Wt c r s ∗ St X Wt c (rsAt s r.val)
        ∗ ((RS (F := F) c r (s + 1) ∗ anyAt (F := F) c (oC r (chF r c (s + 1))) ∗ St X Wt c (rsAt s (r.val + 1))) -∗ WP c k Q)) : sProp 𝕄)
      ⊢ WP c (rsAdd r oo ho (rsNext c r k)) Q := by
  unfold RM RT
  rw [rsAt_ring, crd_cr]
  iintro ⟨⟨⟨HpS, HpR, HpC⟩, ⟨#Hr1, #Hr2, #Hr3⟩, Hrcv, ⟨Ha, Ho0⟩, Hkp, Hfw⟩, ⟨⟨Hts, Htc, Ht, Hcc, Hcr⟩, Ho⟩, HS, Hk⟩
  iapply (rsAdd_rule X Wt s ho heo)
  isplitl [Hrcv]; · iexact Hrcv
  isplitl [Ho]; · iexact Ho
  isplitl [Ha]; · iexact Ha
  iintro ⟨Hrcv, Ho, Ha⟩
  unfold rsNext
  iapply (st_signal X Wt (.cr r s) (It.rs r (s + 1) :: rsAt s (r.val + 1)) (d := frmD r c) rfl rfl (kind_cr r) (mine_cr r)
    hs (Finset.mem_singleton_self _) rfl rfl) $$ [HS Htc Hrcv]
  · isplitl [HS]; · iexact HS
    isplitl [Htc]; · iexact Htc
    isplitr; · iexact Hr3
    iapply (Entails.of_eq (cr_pay_frm X Wt c r s).symm)
    isplitl [Hrcv]; · iexact Hrcv
    iexact Hr2
  iintro HS
  iapply (st_semWait X Wt (kind_cr r) (mine_cr r) (n := s) hs rfl rfl (ι := 20 + 8 * s + 2 * r.val) (by have := r.isLt; omega) (rsAt_lev' hs r))
    $$ [HS Hcc HpC]
  · isplitl [HS]; · iexact HS
    isplitl [Hcc]; · iexact Hcc
    iexact HpC
  iintro ⟨HS, HpC, #Hr4, Hpay⟩
  ihave Hpay := (Entails.of_eq (cr_pay X Wt c r s)) $$ Hpay
  icases Hpay with ⟨Hd, #Hr5⟩
  iapply (st_send X Wt (.rs r (s + 1)) (rsAt s (r.val + 1)) (d := toD r c) (sR := rsRecv r) (sS := rsSend r) rfl (kind_rsR r) (kind_rsS r)
    (mine_rsR r) (mine_rsS r) (by show s + 1 < 15; omega) (n := s + 1) (by show s + 1 < 15; omega) rfl rfl rfl (rcvM_credit r) rfl rfl
    (q := fullShare) (Y := V X Wt (s + 1) c r) (iprop(reached ER (cellC c (.reg (creditS r))) (s + 1) ∗ fwd (F := F) c r (s + 1)))
    (by rw [rsS_pay_succ]; exact anyAt_intro)
    (Entails.of_eq (rsR_pay_to X Wt c r (n := s + 1) (by omega)).symm)) $$ [HS Ha Hd Hfw Hts Ht]
  · isplitl [HS]; · iexact HS
    isplitl [Ha]; · iexact Ha
    isplitl [Hd]; · iexact Hd
    isplitl [Hfw]
    · isplitr; · iexact Hr4
      iexact Hfw
    isplitl [Hts]; · iexact Hts
    isplitr; · iexact Hr1
    isplitl [Ht]; · iexact Ht
    iexact Hr5
  iintro ⟨HS, Hc⟩
  iapply Hk
  isplitr [Ho HS]
  · unfold RS
    rw [scrd_rsS, if_neg (Nat.succ_ne_zero s)]
    isplitl [HpS]; · iexact HpS
    isplitl [HpR]; · iexact HpR
    isplitl [HpC]; · iexact HpC
    isplitl [Hc]; · iexact Hc
    isplitl [Hcr]; · iexact Hcr
    isplitl [Ho0]; · iexact Ho0
    iexact Hkp
  isplitl [Ho]; · iexact Ho
  iexact HS

/-- Steps before the last. -/
theorem rsStep0_rule {Q : PUnit → sProp 𝕄} (k : P F) :
    (iprop((RS (F := F) c r 0 ∗ RT X Wt c r 0) ∗ St X Wt c (rsAt 0 r.val)
        ∗ (((RS (F := F) c r 1 ∗ anyAt (F := F) c (oC r (chF r c 1))) ∗ St X Wt c (rsAt 0 (r.val + 1))) -∗ WP c k Q)) : sProp 𝕄)
      ⊢ WP c (rsStep0 c r k) Q := by
  unfold rsStep0 rsWait0 rsAddS
  iintro ⟨⟨HR, HT⟩, HS, Hk⟩
  iapply (rsWait_rule X Wt (s := 0) (by decide) _ (rsAt_lev (by decide) r) (oAt_credit _ _) (rcvM_credit r))
  isplitl [HR]; · iexact HR
  isplitl [HS]; · iexact HS
  iintro ⟨HR, HS⟩
  iapply (rsNext_rule X Wt (s := 0) (by decide) _ (off5_eq c r (Fin.succ 0)))
  isplitl [HR]; · iexact HR
  isplitl [HT]; · iexact HT
  isplitl [HS]; · iexact HS
  iintro ⟨HR, Ho, HS⟩
  iapply Hk
  isplitr [HS]
  · isplitl [HR]; · iexact HR
    iexact Ho
  iexact HS

theorem rsStepS_rule {Q : PUnit → sProp 𝕄} (s : Fin 15) (hs : s.val < 14) (k : P F) :
    (iprop((RS (F := F) c r s.val ∗ RT X Wt c r s.val) ∗ St X Wt c (rsAt s.val r.val)
        ∗ (((RS (F := F) c r (s.val + 1) ∗ anyAt (F := F) c (oC r (chF r c (s.val + 1)))) ∗ St X Wt c (rsAt s.val (r.val + 1))) -∗ WP c k Q)) : sProp 𝕄)
      ⊢ WP c (rsStepS c s r k) Q := by
  unfold rsStepS rsWait rsAddS
  iintro ⟨⟨HR, HT⟩, HS, Hk⟩
  iapply (rsWait_rule X Wt (s := s.val) s.isLt _ (rsAt_lev hs r) (accM_credit r) (rcvM_credit r))
  isplitl [HR]; · iexact HR
  isplitl [HS]; · iexact HS
  iintro ⟨HR, HS⟩
  iapply (rsNext_rule X Wt (s := s.val) hs _ (off5_eq c r s.succ))
  isplitl [HR]; · iexact HR
  isplitl [HT]; · iexact HT
  isplitl [HS]; · iexact HS
  iintro ⟨HR, Ho, HS⟩
  iapply Hk
  isplitr [HS]
  · isplitl [HR]; · iexact HR
    iexact Ho
  iexact HS

/-- The last step. -/
theorem rsStepE_rule {Q : PUnit → sProp 𝕄} (k : P F) :
    (iprop((RS (F := F) c r 14 ∗ owns (c : Thread nD τ) (oC r (chF r c 15)) fullShare (Pv X Wt c r 15)) ∗ St X Wt c (mxFrom 0)
        ∗ ((RE X Wt c r ∗ St X Wt c (mxFrom 0)) -∗ WP c k Q)) : sProp 𝕄)
      ⊢ WP c (rsStepE c r k) Q := by
  unfold rsStepE rsWait rsAddS
  iintro ⟨⟨HR, Ho⟩, HS, Hk⟩
  iapply (rsWait_rule X Wt (s := 14) (by decide) _ (fun x hx => ⟨Nat.lt_trans (by have := r.isLt; omega) (mxFrom_lev x hx).1, (mxFrom_lev x hx).2⟩)
    (accM_credit r) (rcvM_credit r))
  isplitl [HR]; · iexact HR
  isplitl [HS]; · iexact HS
  unfold RM
  iintro ⟨⟨Hp, -, Hrcv, ⟨Ha, Ho0⟩, Hkp, -⟩, HS⟩
  iapply (rsAdd_rule X Wt 14 _ (off5_eq c r (Fin.succ 14)))
  isplitl [Hrcv]; · iexact Hrcv
  isplitl [Ho]; · iexact Ho
  isplitl [Ha]; · iexact Ha
  iintro ⟨Hrcv, Ho, Ha⟩
  iapply Hk
  unfold RE
  isplitr [HS]
  · isplitl [Hp]; · iexact Hp
    isplitl [Hrcv]; · iexact Hrcv
    isplitl [Ha]; · iexact Ha
    isplitl [Ho0 Ho]
    · isplitl [Ho0]; · iexact Ho0
      iexact Ho
    iexact Hkp
  iexact HS

end Steps

end Cert.KernelIdeal.Hand

end
-- ==== Proof.KernelIdeal.Gather.lean ====
/- The gather of the quantised chunks: one rule for each step of one ring. -/
module

public import proofs.«01_k».proof.Proof.KernelIdeal.Sums
public import Idealize.ShloMosaic.Lib.MemrefSat
public import Idealize.ShloMosaic.Lib.Pipeline.Value

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (X : Dev nD → Vec F S4096x256 .f32) (Wt : Dev nD → Vec F S256x2048 .f32)

/-! ## The states of a ring -/

/-- Before the wait of step `s`. -/
def GS (c : Dev nD) (r : Fin 4) (s : ℕ) : sProp 𝕄 :=
  iprop(pos c (.dma (agSend r)) s ∗ scrd c (.dma (agSend r))
    ∗ owns (c : Thread nD τ) (agC r (chF r c (s + 15))) fullShare.left (qv X Wt r (chF r c s)))
/-- What the send of step `n` uses up. -/
def GU (c : Dev nD) (r : Fin 4) (n : ℕ) : sProp 𝕄 :=
  iprop(stok c (.dma (agSend r)) n ∗ It.tok c (.ag r n) ∗ anyAt (F := F) (toD r c) (agC r (chF r (toD r c) n)))
/-- What the wait of step `s` uses up. -/
def GW (c : Dev nD) (r : Fin 4) (s : ℕ) : sProp 𝕄 :=
  iprop(pos c (.dma (agRecvN r s)) 0 ∗ It.crd c (.ag r s) ∗ anyAt (F := F) c (oC r (chF r c s)))
/-- What is done after step `s`. -/
def GD (c : Dev nD) (r : Fin 4) (s : ℕ) : sProp 𝕄 :=
  iprop(pos c (.dma (agRecvN r s)) 1 ∗ anyAt (F := F) c (agC r (chF r c (s + 15)))
    ∗ owns (c : Thread nD τ) (oC r (chF r c s)) fullShare (Dv X Wt c r (chF r c (s + 1))))
/-- The end of a ring: its last chunk, and the chunk of its own. -/
def GE (c : Dev nD) (r : Fin 4) : sProp 𝕄 :=
  iprop(pos c (.dma (agSend r)) 15 ∗ anyAt (F := F) c (agC r (chF r c 14)))

/-- What is left to pay at step `s` before ring `i`. -/
def agLeft (s i : ℕ) : List It := ((rings.drop i).map fun r => It.ag r s) ++ agFrom (s + 1)

theorem agLeft_zero {s : ℕ} (h : s < 15) : agFrom s = agLeft s 0 := by
  have H : ∀ s : Fin 15, agFrom s.val = agLeft s.val 0 := by decide +kernel
  exact H ⟨s, h⟩
theorem agLeft_ring (s : ℕ) (r : Fin 4) : agLeft s r.val = It.ag r s :: agLeft s (r.val + 1) := by
  match r with
  | 0 => rfl | 1 => rfl | 2 => rfl | 3 => rfl
theorem agLeft_four (s : ℕ) : agLeft s 4 = agFrom (s + 1) := rfl
theorem agLeft_lev {s : ℕ} (h : s < 14) (r : Fin 4) : ∀ x ∈ agLeft (s + 1) r.val, 2000 + 4 * s + r.val < x.lev ∧ x.lev < 3000 := by
  have H : ∀ (s : Fin 14) (r : Fin 4), ∀ x ∈ agLeft (s.val + 1) r.val, 2000 + 4 * s.val + r.val < x.lev ∧ x.lev < 3000 := by decide +kernel
  exact H ⟨s, h⟩ r

theorem agRecvN_val (r : Fin 4) (s : Fin 15) : agRecvN r s.val = agRecv r s := by
  show agRecv r (Fin.ofNat 15 s.val) = _
  rw [show Fin.ofNat 15 s.val = s from Fin.ext (Nat.mod_eq_of_lt s.isLt)]
theorem scrd_agS (c : Dev nD) (r : Fin 4) :
    scrd (F := F) c (.dma (agSend r)) = cred (tallyAt (cellC c (.dma (agSend r))) 0 Nq) := by unfold scrd; rw [kind_agS]; rfl
theorem crd_ag (c : Dev nD) (r : Fin 4) (s : ℕ) :
    It.crd (F := F) c (.ag r s) = cred (tallyAt (cellC c (.dma (agRecvN r s))) (2000 + 4 * s + r.val) Nq) := rfl

theorem aAt_credit (oo : Fin 2 → ℕ) (ho : ∀ a, oo a + S64x2048.size a ≤ S4096x2048.size a) : (agAt oo ho).view.dmaCredit = Nq := rfl

theorem agS_pay (c : Dev nD) (r : Fin 4) (n : ℕ) : kPay X Wt c (.agS r) n true
    = owns (c : Thread nD τ) (agC r (chF r c (n + 15))) fullShare.right (qv X Wt r (chF r c n)) := rfl
theorem agR_pay (c : Dev nD) (r : Fin 4) (s : Fin 15) (n : ℕ) : kPay X Wt c (.agR r s) n true
    = owns (c : Thread nD τ) (agC r (chF r c s.val)) fullShare (qv X Wt r (chF r c (s.val + 1))) := rfl

section Steps
variable {c : Dev nD} {r : Fin 4}

theorem pay159_eq (sc : F .f32) (v : Vec F S64x2048 .f32) : k0_pay159 sc v = k0_pay166 sc (k0_pay158 sc v) := by
  show mulf (extf .f32 (k0_pay157 sc v) bitsLt_fp8e4m3_f32) _ = mulf (extf .f32 (shapeCast S64x2048 (k0_pay157 sc v) _) bitsLt_fp8e4m3_f32) _
  rw [shapeCast_self]

/-- Quantising a ring's sum. -/
theorem quant_rule {Q : PUnit → sProp 𝕄} {oo : Fin 2 → ℕ} (ho : ∀ a, oo a + S64x2048.size a ≤ S4096x2048.size a)
    (hp : (Rect.unit (s := S4096x2048) oo S64x2048.size ho).PackedRows (EltTy.packing .fp8e4m3))
    (heo : oo = ![rowOf r (chF r c 15).val, 0]) (k : P F) :
    (iprop((owns (c : Thread nD τ) (accM r) fullShare (Sv X Wt c r) ∗ anyAt (F := F) c (agC r (chF r c 15)) ∗ anyAt (F := F) c (oC r (chF r c 15)))
        ∗ ((anyAt (F := F) c (accM r) ∗ owns (c : Thread nD τ) (agC r (chF r c 15)) fullShare (qv X Wt r (chF r c 0))
          ∗ owns (c : Thread nD τ) (oC r (chF r c 15)) fullShare (Dv X Wt c r (chF r c 16))) -∗ WP c k Q)) : sProp 𝕄)
      ⊢ WP c (quantP r (scl X Wt c) oo ho hp k) Q := by
  subst heo
  unfold quantP accLoad Dv
  rw [chF_16, chF_zero]
  unfold qv
  rw [← pay159_eq]
  iintro ⟨⟨Ha, Hg, Ho⟩, Hk⟩
  iapply (ldW inb_S64x2048_S64x2048_0_0) $$ Ha
  iintro Ha
  iapply (ldA (m := agM) (fun _ => rfl)) $$ Hg
  iintro Hg
  iapply (sto (m := agM) (fun _ => rfl)) $$ Hg
  iintro Hg
  iapply (ldA (m := oM) (fun _ => rfl)) $$ Ho
  iintro Ho
  iapply (sto (m := oM) (fun _ => rfl)) $$ Ho
  iintro Ho
  iapply Hk
  isplitl [Ha]; · iapply (anyAt_intro (F := F)); iexact Ha
  isplitl [Hg]; · iexact Hg
  iexact Ho

/-- The send of step `n`. -/
theorem agSend_rule {Q : PUnit → sProp 𝕄} (t : Fin 15) (n : ℕ) (hn : t.val = n) {oo : Fin 2 → ℕ} (ho : ∀ a, oo a + S64x2048.size a ≤ S4096x2048.size a)
    (hw : (Rect.unit (s := S4096x2048) oo S64x2048.size ho).WholeWords (EltTy.packing .fp8e4m3))
    (heo : oo = ![rowOf r (chF r c (n + 15)).val, 0]) (l : List It) (k : P F) :
    (iprop(GU (F := F) c r n ∗ reached ER (cellC c (.dma (agSend r))) n
        ∗ owns (c : Thread nD τ) (agC r (chF r c (n + 15))) fullShare (qv X Wt r (chF r c n)) ∗ St X Wt c (It.ag r n :: l)
        ∗ ((scrd c (.dma (agSend r)) ∗ owns (c : Thread nD τ) (agC r (chF r c (n + 15))) fullShare.left (qv X Wt r (chF r c n))
            ∗ St X Wt c l) -∗ WP c k Q)) : sProp 𝕄)
      ⊢ WP c (agSendP c r t oo ho hw k) Q := by
  subst hn
  subst heo
  unfold agSendP GU
  rw [scrd_agS, chF_toD' r c (Nat.lt_succ_of_lt t.isLt)]
  iintro ⟨⟨Hts, Ht, Hd⟩, #Hr1, Hg, HS, Hk⟩
  icases (St_reached X Wt c (toD r c) _ (mine_agR r t)) $$ HS with ⟨HS, #Hr2⟩
  ihave Hg := (owns_halves (c : Thread nD τ) (agC r (chF r c (t.val + 15))) fullShare _).1 $$ Hg
  icases Hg with ⟨Hl, Hr⟩
  iapply (st_send X Wt (.ag r t.val) l (d := toD r c) (sR := agRecv r t) (sS := agSend r)
    (congrArg (fun x => cellC (toD r c) (.dma x)) (agRecvN_val r t)) (kind_agR r t) (kind_agS r)
    (mine_agR r t) (mine_agS r) (by show 0 < 1; decide) (n := t.val) t.isLt rfl rfl rfl (aAt_credit _ ho) rfl rfl
    (q := fullShare.right) (Y := qv X Wt r (chF r c t.val)) (iprop(emp))
    (Entails.of_eq (agS_pay X Wt c r t.val).symm)
    (by
      rw [agR_pay, chF_toD r c (by have := t.isLt; omega), chF_toD' r c (Nat.lt_succ_of_lt t.isLt)]
      iintro ⟨H, -⟩
      iexact H)) $$ [HS Hr Hd Hts Ht]
  · isplitl [HS]; · iexact HS
    isplitl [Hr]; · iexact Hr
    isplitl [Hd]; · iexact Hd
    isplitr; · iempintro
    isplitl [Hts]; · iexact Hts
    isplitr; · iexact Hr1
    isplitl [Ht]; · iexact Ht
    iexact Hr2
  iintro ⟨HS, Hc⟩
  iapply Hk
  isplitl [Hc]; · iexact Hc
  isplitl [Hl]; · iexact Hl
  iexact HS

/-- The waits of step `s`. -/
theorem agWait_rule {Q : PUnit → sProp 𝕄} (s : Fin 15) {oo : Fin 2 → ℕ} (ho : ∀ a, oo a + S64x2048.size a ≤ S4096x2048.size a)
    (hw : (Rect.unit (s := S4096x2048) oo S64x2048.size ho).WholeWords (EltTy.packing .fp8e4m3))
    (l : List It) (hl : ∀ x ∈ l, 2000 + 4 * s.val + r.val < x.lev ∧ x.lev < 3000) (k : P F) :
    (iprop(GS X Wt c r s.val ∗ pos c (.dma (agRecvN r s.val)) 0 ∗ It.crd c (.ag r s.val) ∗ St X Wt c l
        ∗ ((pos c (.dma (agSend r)) (s.val + 1) ∗ reached ER (cellC c (.dma (agSend r))) (s.val + 1) ∗ pos c (.dma (agRecvN r s.val)) 1
            ∗ anyAt (F := F) c (agC r (chF r c (s.val + 15)))
            ∗ owns (c : Thread nD τ) (agC r (chF r c s.val)) fullShare (qv X Wt r (chF r c (s.val + 1))) ∗ St X Wt c l) -∗ WP c k Q)) : sProp 𝕄)
      ⊢ WP c (agWaitP r s oo ho hw k) Q := by
  unfold agWaitP GS
  rw [scrd_agS, crd_ag, agRecvN_val]
  iintro ⟨⟨HpS, Hcs, Hl⟩, HpR, Hcr, HS, Hk⟩
  iapply (st_wait X Wt (kind_agS r) (mine_agS r) (n := s.val) s.isLt rfl (aAt_credit _ ho) (ι := 0) (by decide) (lev_zero hl)) $$ [HS Hcs HpS]
  · isplitl [HS]; · iexact HS
    isplitl [Hcs]; · iexact Hcs
    iexact HpS
  iintro ⟨HS, HpS, #Hr1, Hpay⟩
  iapply (st_wait X Wt (kind_agR r s) (mine_agR r s) (n := 0) (by show 0 < 1; decide) rfl (aAt_credit _ ho) (ι := 2000 + 4 * s.val + r.val)
    (by have := r.isLt; have := s.isLt; omega) hl) $$ [HS Hcr HpR]
  · isplitl [HS]; · iexact HS
    isplitl [Hcr]; · iexact Hcr
    iexact HpR
  iintro ⟨HS, HpR, -, Hpay2⟩
  iapply Hk
  isplitl [HpS]; · iexact HpS
  isplitr; · iexact Hr1
  isplitl [HpR]; · iexact HpR
  isplitl [Hl Hpay]
  · iapply (anyAt_intro (F := F))
    iapply (owns_halves (c : Thread nD τ) (agC r (chF r c (s.val + 15))) fullShare (qv X Wt r (chF r c s.val))).2
    isplitl [Hl]; · iexact Hl
    iapply (Entails.of_eq (agS_pay X Wt c r s.val)); iexact Hpay
  isplitl [Hpay2]
  · iapply (Entails.of_eq (agR_pay X Wt c r s 0)); iexact Hpay2
  iexact HS

/-- Putting an arrived chunk into the result. -/
theorem agPut_rule {Q : PUnit → sProp 𝕄} {q : PosShare TreeShare} {k' e : Dev nD} {oo : Fin 2 → ℕ}
    (ho : ∀ a, oo a + S64x2048.size a ≤ S4096x2048.size a) (heo : oo = ![rowOf r k'.val, 0]) (k : P F) :
    (iprop(owns (c : Thread nD τ) (agC r k') q (qv X Wt r e) ∗ anyAt (F := F) c (oC r k')
        ∗ ((owns (c : Thread nD τ) (agC r k') q (qv X Wt r e) ∗ owns (c : Thread nD τ) (oC r k') fullShare (Dv X Wt c r e)) -∗ WP c k Q)) : sProp 𝕄)
      ⊢ WP c (agPut (scl X Wt c) oo ho k) Q := by
  subst heo
  unfold agPut
  iintro ⟨Hg, Ho, Hk⟩
  iapply (ld (m := agM) (fun _ => rfl)) $$ Hg
  iintro Hg
  iapply (ldA (m := oM) (fun _ => rfl)) $$ Ho
  iintro Ho
  iapply (sto (m := oM) (fun _ => rfl)) $$ Ho
  iintro Ho
  iapply Hk
  isplitl [Hg]; · iexact Hg
  iexact Ho

/-- The first send. -/
theorem agFirst_rule {Q : PUnit → sProp 𝕄} (k : P F) :
    (iprop((pos c (.dma (agSend r)) 0 ∗ GU (F := F) c r 0 ∗ owns (c : Thread nD τ) (agC r (chF r c 15)) fullShare (qv X Wt r (chF r c 0)))
        ∗ St X Wt c (agLeft 0 r.val) ∗ ((GS X Wt c r 0 ∗ St X Wt c (agLeft 0 (r.val + 1))) -∗ WP c k Q)) : sProp 𝕄)
      ⊢ WP c (agFirstS c r k) Q := by
  unfold agFirstS
  rw [agLeft_ring]
  iintro ⟨⟨HpS, HU, Hg⟩, HS, Hk⟩
  icases (St_reached X Wt c c _ (mine_agS r)) $$ HS with ⟨HS, #Hr1⟩
  iapply (agSend_rule X Wt 0 0 rfl _ _ (off11_own c r))
  isplitl [HU]; · iexact HU
  isplitr; · iexact Hr1
  isplitl [Hg]; · iexact Hg
  isplitl [HS]; · iexact HS
  iintro ⟨Hc, Hl, HS⟩
  iapply Hk
  unfold GS
  isplitr [HS]
  · isplitl [HpS]; · iexact HpS
    isplitl [Hc]; · iexact Hc
    iexact Hl
  iexact HS

/-- Step `s`, before the last: the program may name the chunk waited for as it likes. -/
theorem agStep_rule {Q : PUnit → sProp 𝕄} (s t : Fin 15) (hst : t.val = s.val + 1) {ow : Fin 2 → ℕ} (how : ∀ a, ow a + S64x2048.size a ≤ S4096x2048.size a)
    (hww : (Rect.unit (s := S4096x2048) ow S64x2048.size how).WholeWords (EltTy.packing .fp8e4m3)) (k : P F) :
    (iprop((GS X Wt c r s.val ∗ GW (F := F) c r s.val ∗ GU (F := F) c r (s.val + 1)) ∗ St X Wt c (agLeft (s.val + 1) r.val)
        ∗ (((GS X Wt c r (s.val + 1) ∗ GD X Wt c r s.val) ∗ St X Wt c (agLeft (s.val + 1) (r.val + 1))) -∗ WP c k Q)) : sProp 𝕄)
      ⊢ WP c (agWaitP r s ow how hww (agNextS c s t r (agPutS c (scl X Wt c) s r k))) Q := by
  have hs : s.val < 14 := by have := t.isLt; omega
  have hch : chF r c (s.val + 1 + 15) = chF r c s.val := chF_add r c (Nat.lt_succ_of_lt s.isLt)
  unfold GW GD agNextS agPutS
  iintro ⟨⟨HG, ⟨HpR, Hcr, Ho⟩, HU⟩, HS, Hk⟩
  iapply (agWait_rule X Wt s _ _ (agLeft (s.val + 1) r.val) (agLeft_lev hs r))
  isplitl [HG]; · iexact HG
  isplitl [HpR]; · iexact HpR
  isplitl [Hcr]; · iexact Hcr
  isplitl [HS]; · iexact HS
  iintro ⟨HpS, #Hr1, HpR, Hga, Hg, HS⟩
  rw [agLeft_ring]
  iapply (agSend_rule X Wt t (s.val + 1) hst _ _ ((off11_eq c r s).trans (by rw [hch]; rfl)))
  isplitl [HU]; · iexact HU
  isplitr; · iexact Hr1
  rw [hch]
  isplitl [Hg]; · iexact Hg
  isplitl [HS]; · iexact HS
  iintro ⟨Hc, Hl, HS⟩
  iapply (agPut_rule X Wt (k' := chF r c s.val) (e := chF r c (s.val + 1)) _ (off5_eq c r s.castSucc))
  isplitl [Hl]; · iexact Hl
  isplitl [Ho]; · iexact Ho
  iintro ⟨Hl, Ho⟩
  iapply Hk
  isplitr [HS]
  · isplitl [HpS Hc Hl]
    · unfold GS
      rw [hch]
      isplitl [HpS]; · iexact HpS
      isplitl [Hc]; · iexact Hc
      iexact Hl
    isplitl [HpR]; · iexact HpR
    isplitl [Hga]; · iexact Hga
    iexact Ho
  iexact HS

/-- The last step. -/
theorem agStepE_rule {Q : PUnit → sProp 𝕄} (k : P F) :
    (iprop((GS X Wt c r 14 ∗ GW (F := F) c r 14) ∗ St X Wt c []
        ∗ (((GE (F := F) c r ∗ GD X Wt c r 14) ∗ St X Wt c []) -∗ WP c k Q)) : sProp 𝕄)
      ⊢ WP c (agStepE c (scl X Wt c) r k) Q := by
  unfold GW GD GE agStepE agWaitS agPutS
  iintro ⟨⟨HG, ⟨HpR, Hcr, Ho⟩⟩, HS, Hk⟩
  iapply (agWait_rule X Wt 14 _ _ [] (fun x hx => absurd hx (List.not_mem_nil)))
  isplitl [HG]; · iexact HG
  isplitl [HpR]; · iexact HpR
  isplitl [Hcr]; · iexact Hcr
  isplitl [HS]; · iexact HS
  iintro ⟨HpS, -, HpR, Hga, Hg, HS⟩
  iapply (agPut_rule X Wt (k' := chF r c 14) (e := chF r c 15) _ (off5_eq c r (Fin.castSucc 14)))
  isplitl [Hg]; · iexact Hg
  isplitl [Ho]; · iexact Ho
  iintro ⟨Hl, Ho⟩
  iapply Hk
  isplitr [HS]
  · isplitl [HpS Hl]
    · isplitl [HpS]; · iexact HpS
      iapply (anyAt_intro (F := F)); iexact Hl
    isplitl [HpR]; · iexact HpR
    isplitl [Hga]; · iexact Hga
    iexact Ho
  iexact HS

end Steps

end Cert.KernelIdeal.Hand

end
-- ==== Proof.KernelIdeal.Maxima.lean ====
/- The exchange of the maxima: one rule for each send, each wait, and the list of waits. -/
module

public import proofs.«01_k».proof.Proof.KernelIdeal.Sums
public import Idealize.ShloMosaic.Lib.MemrefSat

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (X : Dev nD → Vec F S4096x256 .f32) (Wt : Dev nD → Vec F S256x2048 .f32)

section Steps
variable {c : Dev nD}

/-- The first element of a block of 8 × 128. -/
def z8 : S8x128.Idx := fun a => ⟨0, zero8 a⟩

theorem slot_emb (e : Dev nD) (h : ∀ a, (![e.val, 0, 0] : Fin 3 → ℕ) a + S1x1x1.size a ≤ S16x8x128.size a) (x : S1x1x1.Idx) :
    (mxrM.access (Rect.unit (s := S16x8x128) ![e.val, 0, 0] S1x1x1.size h)).emb x = (slotC e).view.emb z8 := by
  have h0 : ∀ a, (x a).val = 0 := fun a => by
    have := (x a).isLt
    match a with
    | 0 => exact Nat.lt_one_iff.1 this
    | 1 => exact Nat.lt_one_iff.1 this
    | 2 => exact Nat.lt_one_iff.1 this
  have hz : ∀ a, ((Shape.reshapeEquiv squeezes_S1x8x128_S8x128.numel_eq z8 : S1x8x128.Idx) a).val = 0 := by decide +kernel
  funext a
  refine Fin.ext ?_
  show (![e.val, 0, 0] : Fin 3 → ℕ) a + 1 * (x a).val = (![e.val, 0, 0] : Fin 3 → ℕ) a + 1 * ((Shape.reshapeEquiv squeezes_S1x8x128_S8x128.numel_eq z8 : S1x8x128.Idx) a).val
  rw [h0, hz]

/-- The read of one number of a slot. -/
theorem ldSlot {Q : PUnit → sProp 𝕄} (e : Dev nD) {off : Fin 3 → ℕ} (h : ∀ a, off a + S1x1x1.size a ≤ S16x8x128.size a) (ho : off = ![e.val, 0, 0])
    {Y : S8x128.Idx → Elt F .f32} {hl : mxrM.view.LoadsAt (Rect.unit (s := S16x8x128) off S1x1x1.size h).toLoadRect}
    {k : (S1x1x1.Idx → Elt F .f32) → P F} :
    (owns (c : Thread nD τ) (slotC e) fullShare Y : sProp 𝕄)
      ⊢ iprop((owns (c : Thread nD τ) (slotC e) fullShare Y -∗ WP c (k fun _ => Y z8) Q)
        -∗ WP c (.op (.load mxrM (Rect.unit (s := S16x8x128) off S1x1x1.size h).toLoadRect hl) k) Q) := by
  subst ho
  unfold owns
  iintro ⟨%f, %hf, H⟩ Hk
  subst hf
  have hread : (mxrM.access (Rect.unit (s := S16x8x128) ![e.val, 0, 0] S1x1x1.size h)).read (Elt F) f
      = fun _ => (slotC e).view.read (Elt F) f z8 := funext fun x => by
    rw [View.read_apply, View.read_apply, slot_emb]
  have hsub : (mxrM.access (Rect.unit (s := S16x8x128) ![e.val, 0, 0] S1x1x1.size h)).set ⊆ (slotC e).view.set := by
    intro i hi
    obtain ⟨x, -, rfl⟩ := Finset.mem_map.1 hi
    rw [slot_emb]
    exact View.emb_mem_set _ _
  have key : ∀ v : S1x1x1.Idx → Elt F .f32, v = (mxrM.access (Rect.unit (s := S16x8x128) ![e.val, 0, 0] S1x1x1.size h)).read (Elt F) f →
      ((slotC e).view.loc (c : Thread nD τ) ↦[(slotC e).view.set]{fullShare} f : sProp 𝕄)
        ⊢ iprop((((slotC e).view.loc (c : Thread nD τ) ↦[(slotC e).view.set]{fullShare} f) -∗ WP c (k v) Q)
          -∗ WP c (.op (.load mxrM (Rect.unit (s := S16x8x128) ![e.val, 0, 0] S1x1x1.size h).toLoadRect hl) k) Q) := by
    rintro _ rfl
    exact wp_load_rect 𝒱₀ (c : Thread nD τ) none Set.univ (m := mxrM) (r := Rect.unit (s := S16x8x128) ![e.val, 0, 0] S1x1x1.size h)
      (hl := hl) (k := k) (S := (slotC e).view.set) (q := fullShare) (f := f) hsub
  iapply (key _ hread.symm) $$ H
  iintro H
  iapply Hk
  iexists f
  isplitr; · ipureintro; rfl
  iexact H

/-! ## What a step uses up and leaves -/

/-- For one send, -/
def XU (c : Dev nD) (i : Fin 15) : sProp 𝕄 :=
  iprop(stok c (.dma (mxSend i)) 0 ∗ It.tok c (.mx i) ∗ anyAt (F := F) (mxD c i) (slotC c) ∗ owns (c : Thread nD τ) mxsM (mxPiece i) (mxv X Wt c))
/-- for one receive, -/
def XW (c : Dev nD) (i : Fin 15) : sProp 𝕄 :=
  iprop(pos c (.dma (mxRecv (mxD c i))) 0 ∗ cred (tallyAt (cellC c (.dma (mxRecv (mxD c i)))) 1000 Nm))
/-- after it. -/
def XD (c : Dev nD) (i : Fin 15) : sProp 𝕄 :=
  iprop(pos c (.dma (mxRecv (mxD c i))) 1 ∗ anyAt (F := F) c (slotC (mxD c i)))

theorem mxFrom_step (i : Fin 15) : mxFrom i.val = It.mx i :: mxFrom (i.val + 1) := by
  have H : ∀ i : Fin 15, mxFrom i.val = It.mx i :: mxFrom (i.val + 1) := by decide +kernel
  exact H i
theorem mxFrom_end : mxFrom 15 = agFrom 0 := by decide +kernel
theorem agFrom_lev : ∀ x ∈ agFrom 0, 1000 < x.lev ∧ x.lev < 3000 := by decide +kernel

theorem sAt_credit (off : Fin 3 → ℕ) (h : ∀ a, off a + S1x8x128.size a ≤ S16x8x128.size a) : (slotAt off h).view.dmaCredit = Nm := rfl
theorem mxs_credit : mxsM.view.dmaCredit = Nm := by decide +kernel
theorem scrd_mxS (c : Dev nD) (i : Fin 15) :
    scrd (F := F) c (.dma (mxSend i)) = cred (tallyAt (cellC c (.dma (mxSend i))) 0 Nm) := by unfold scrd; rw [kind_mxS]; rfl
theorem mxRecv_at {off : Fin 1 → ℕ} (h : ∀ a, off a + S1.size a ≤ S16.size a) {e : Dev nD} (he : off = ![e.val]) : mxRecvAt off h = mxRecv e := by
  subst he; rfl
theorem mxS_pay (c : Dev nD) (i : Fin 15) (n : ℕ) : kPay X Wt c (.mxS i) n true = owns (c : Thread nD τ) mxsM (mxPiece i) (mxv X Wt c) := rfl
theorem mxR_pay (c e : Dev nD) (n : ℕ) : kPay X Wt c (.mxR e) n true = owns (c : Thread nD τ) (slotC e) fullShare (mxv X Wt e) := rfl
theorem mxR_rounds {c e : Dev nD} (h : e ≠ c) : 0 < nRounds c (.mxR e) := by
  show 0 < if e = c then 0 else 1
  rw [if_neg h]; exact Nat.one_pos

/-- A send of the maximum. -/
theorem mxSend_gen {Q : PUnit → sProp 𝕄} (i : Fin 15) {o1 : Fin 1 → ℕ} {o3 : Fin 3 → ℕ} (h1 : ∀ a, o1 a + S1.size a ≤ S16.size a)
    (h3 : ∀ a, o3 a + S1x8x128.size a ≤ S16x8x128.size a) (e1 : o1 = ![c.val]) (e3 : o3 = ![c.val, 0, 0])
    {hsc : (slotAt o3 h3).view.ref.isScScratch = false} {hs : mxsM.view.WordExact} {hd : (slotAt o3 h3).view.WordExact}
    {hsem : DmaTarget.Typed .vmem (.dma (mxRecvAt o1 h1)) (.remote (Dev.tc (mxD c i) : Thread nD τ) (slotAt o3 h3) (.dma (mxSend i)) hsc)}
    (k : PUnit → P F) :
    (iprop(XU X Wt c i ∗ St X Wt c (mxFrom i.val) ∗ ((scrd (F := F) c (.dma (mxSend i)) ∗ St X Wt c (mxFrom (i.val + 1))) -∗ WP c (k ⟨⟩) Q)) : sProp 𝕄)
      ⊢ WP c (.op (.enqueueDma mxsM (.remote (Dev.tc (mxD c i) : Thread nD τ) (slotAt o3 h3) (.dma (mxSend i)) hsc) (.dma (mxRecvAt o1 h1)) hs hd hsem) k) Q := by
  subst e1 e3
  unfold XU
  rw [scrd_mxS, mxFrom_step]
  iintro ⟨⟨Hts, Ht, Hd, Hm⟩, HS, Hk⟩
  icases (St_reached X Wt c c _ (mine_mxS i)) $$ HS with ⟨HS, #Hr1⟩
  icases (St_reached X Wt c (mxD c i) _ (mine_mxR c)) $$ HS with ⟨HS, #Hr2⟩
  iapply (st_send X Wt (.mx i) (mxFrom (i.val + 1)) (d := mxD c i) (sR := mxRecv c) (sS := mxSend i)
    rfl (kind_mxR c) (kind_mxS i) (mine_mxR c) (mine_mxS i) (mxR_rounds (mxD_ne c i).symm) (n := 0) (by show 0 < 1; decide) rfl rfl rfl
    (sAt_credit _ h3) rfl rfl (q := mxPiece i) (Y := mxv X Wt c) (iprop(emp))
    (Entails.of_eq (mxS_pay X Wt c i 0).symm)
    (by
      rw [mxR_pay]
      iintro ⟨H, -⟩
      iexact H)) $$ [HS Hm Hd Hts Ht]
  · isplitl [HS]; · iexact HS
    isplitl [Hm]; · iexact Hm
    isplitl [Hd]; · iexact Hd
    isplitr; · iempintro
    isplitl [Hts]; · iexact Hts
    isplitr; · iexact Hr1
    isplitl [Ht]; · iexact Ht
    iexact Hr2
  iintro ⟨HS, Hc⟩
  iapply Hk
  isplitl [Hc]; · iexact Hc
  iexact HS

theorem mxSend_rule {Q : PUnit → sProp 𝕄} (i : Fin 15) (k : P F) :
    (iprop(XU X Wt c i ∗ St X Wt c (mxFrom i.val) ∗ ((scrd (F := F) c (.dma (mxSend i)) ∗ St X Wt c (mxFrom (i.val + 1))) -∗ WP c k Q)) : sProp 𝕄)
      ⊢ WP c (mxSendP c (mxD c i) i k) Q :=
  mxSend_gen X Wt i _ _ (off6_eq c) (off7_eq c) fun _ => k

/-- The receive of one maximum. -/
theorem mxRecv_rule {Q : PUnit → sProp 𝕄} (i : Fin 15) (a : F .f32) (k : F .f32 → P F) :
    (iprop(XW (F := F) c i ∗ St X Wt c (agFrom 0)
        ∗ ((XD (F := F) c i ∗ St X Wt c (agFrom 0)) -∗ WP c (k (k0_pay146 a (mxOne X Wt (mxD c i)))) Q)) : sProp 𝕄)
      ⊢ WP c (mxRecvP c i a k) Q := by
  unfold mxRecvP XW XD
  rw [mxRecv_at _ (off8_eq c i)]
  iintro ⟨⟨Hp, Hc⟩, HS, Hk⟩
  iapply (st_wait X Wt (kind_mxR (mxD c i)) (mine_mxR (mxD c i)) (n := 0) (mxR_rounds (mxD_ne c i)) rfl (sAt_credit _ _) (ι := 1000) (by decide) agFrom_lev)
    $$ [HS Hc Hp]
  · isplitl [HS]; · iexact HS
    isplitl [Hc]; · iexact Hc
    iexact Hp
  iintro ⟨HS, Hp, -, Hpay⟩
  ihave Hpay := (Entails.of_eq (mxR_pay X Wt c (mxD c i) 0)) $$ Hpay
  iapply (ldSlot (mxD c i) _ (off10_eq c i)) $$ Hpay
  iintro Hpay
  iapply Hk
  isplitr [HS]
  · isplitl [Hp]; · iexact Hp
    iapply (anyAt_intro (F := F)); iexact Hpay
  iexact HS

/-- All of them, folded in one after the other. -/
theorem mxRecvL_rule {Q : PUnit → sProp 𝕄} : ∀ (l : List (Fin 15)) (a : F .f32) (k : F .f32 → P F),
    (iprop(bigSepL l (XW (F := F) c) ∗ St X Wt c (agFrom 0)
        ∗ ((bigSepL l (XD (F := F) c) ∗ St X Wt c (agFrom 0)) -∗ WP c (k (foldMax X Wt c l a)) Q)) : sProp 𝕄)
      ⊢ WP c (mxRecvL c l a k) Q
  | [], a, k => by
    show _ ⊢ WP c (k a) Q
    iintro ⟨HP, HJ, Hk⟩
    iapply Hk
    isplitl [HP]; · iexact HP
    iexact HJ
  | i :: l, a, k => by
    show _ ⊢ WP c (mxRecvP c i a fun a' => mxRecvL c l a' k) Q
    refine BIBase.Entails.trans ?_ (mxRecv_rule X Wt i a fun a' => mxRecvL c l a' k)
    rw [bigSepL_cons', bigSepL_cons']
    iintro ⟨⟨Ha, Hl⟩, HJ, Hk⟩
    isplitl [Ha]; · iexact Ha
    isplitl [HJ]; · iexact HJ
    iintro ⟨Ha', HJ⟩
    iapply (mxRecvL_rule l (k0_pay146 a (mxOne X Wt (mxD c i))) k)
    isplitl [Hl]; · iexact Hl
    isplitl [HJ]; · iexact HJ
    iintro ⟨Hl', HJ⟩
    iapply Hk
    isplitl [Ha' Hl']
    · isplitl [Ha']; · iexact Ha'
      iexact Hl'
    iexact HJ

/-- The wait for one send. -/
theorem mxWait_rule {Q : PUnit → sProp 𝕄} (i : Fin 15) (k : P F) :
    (iprop((pos c (.dma (mxSend i)) 0 ∗ scrd (F := F) c (.dma (mxSend i))) ∗ St X Wt c (agFrom 0)
        ∗ (((pos c (.dma (mxSend i)) 1 ∗ owns (c : Thread nD τ) mxsM (mxPiece i) (mxv X Wt c)) ∗ St X Wt c (agFrom 0)) -∗ WP c k Q)) : sProp 𝕄)
      ⊢ WP c (mxWaitP c i k) Q := by
  unfold mxWaitP
  rw [scrd_mxS]
  iintro ⟨⟨Hp, Hc⟩, HS, Hk⟩
  iapply (st_wait X Wt (kind_mxS i) (mine_mxS i) (n := 0) (by show 0 < 1; decide) rfl mxs_credit (ι := 0) (by decide) (lev_zero agFrom_lev))
    $$ [HS Hc Hp]
  · isplitl [HS]; · iexact HS
    isplitl [Hc]; · iexact Hc
    iexact Hp
  iintro ⟨HS, Hp, -, Hpay⟩
  ihave Hpay := (Entails.of_eq (mxS_pay X Wt c i 0)) $$ Hpay
  iapply Hk
  isplitr [HS]
  · isplitl [Hp]; · iexact Hp
    iexact Hpay
  iexact HS

/-- The buffer of the maximum held whole at known contents is its points-to at them. -/
theorem owns_mxs (q : PosShare TreeShare) (Y : Vec F S8x128 .f32) :
    (owns (c : Thread nD τ) mxsM q Y : sProp 𝕄) = (mxsM.view.loc (c : Thread nD τ) ↦[mxsM.view.set]{q} Y) := by
  have h1 : (owns (c : Thread nD τ) mxsM q Y : sProp 𝕄) ⊢ (mxsM.view.loc (c : Thread nD τ) ↦[mxsM.view.set]{q} Y) := by
    unfold owns
    iintro ⟨%f, %hf, H⟩
    have hf' : f = Y := hf
    subst hf'
    iexact H
  have h2 : (mxsM.view.loc (c : Thread nD τ) ↦[mxsM.view.set]{q} Y : sProp 𝕄) ⊢ owns (c : Thread nD τ) mxsM q Y := by
    unfold owns
    iintro H
    iexists Y
    isplitr; · ipureintro; rfl
    iexact H
  exact Entails.antisymm h1 h2

/-- It is dealt among the fifteen sends. -/
theorem mxs_deal (Y : Vec F S8x128 .f32) :
    (owns (c : Thread nD τ) mxsM fullShare Y : sProp 𝕄) = bigSepL steps fun i => owns (c : Thread nD τ) mxsM (mxPiece i) Y := by
  have hu : (Finset.univ : Finset (Fin 15)) = steps.toFinset := by decide
  simp only [owns_mxs]
  rw [Idealize.ShloMosaic.Transfers.pointsTo_deal (Finset.univ : Finset (Fin 15)) ⟨0, Finset.mem_univ _⟩ fullShare,
    bigSep_eq_bigSepL_of_eq steps hu (by decide)]
  rfl

end Steps

end Cert.KernelIdeal.Hand

end
-- ==== Proof.KernelIdeal.Parts.lean ====
/- The three parts of the program, each over all rings and steps. -/
module

public import proofs.«01_k».proof.Proof.KernelIdeal.Gather
public import proofs.«01_k».proof.Proof.KernelIdeal.Maxima

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (X : Dev nD → Vec F S4096x256 .f32) (Wt : Dev nD → Vec F S256x2048 .f32)

/-- One part for each ring; -/
abbrev R4 (Φ : Fin 4 → sProp 𝕄) : sProp 𝕄 := bigSepL rings Φ
/-- one for each of `m` steps from `n` on. -/
abbrev Ns (n m : ℕ) (Φ : ℕ → sProp 𝕄) : sProp 𝕄 := bigSepL (List.range' n m) Φ

theorem R4_eq (Φ : Fin 4 → sProp 𝕄) : R4 Φ = iprop(Φ 0 ∗ Φ 1 ∗ Φ 2 ∗ Φ 3) := by
  unfold R4 rings
  rw [bigSepL_cons', bigSepL_cons', bigSepL_cons', bigSepL_singleton]

theorem Ns_first (n m : ℕ) (Φ : ℕ → sProp 𝕄) : Ns n (m + 1) Φ = iprop(Φ n ∗ Ns (n + 1) m Φ) := by
  unfold Ns
  rw [List.range'_succ, bigSepL_cons']
theorem Ns_last (n m : ℕ) (Φ : ℕ → sProp 𝕄) : Ns n (m + 1) Φ = iprop(Ns n m Φ ∗ Φ (n + m)) := by
  unfold Ns
  rw [List.range'_concat, bigSepL_append, bigSepL_singleton, Nat.one_mul]
theorem Ns_shift (n m : ℕ) (Φ : ℕ → sProp 𝕄) : Ns (n + 1) m Φ = Ns n m fun k => Φ (k + 1) := by
  induction m generalizing n with
  | zero => rfl
  | succ m ih => rw [Ns_first, Ns_first, ih]

theorem R4_two (Φ Ψ : Fin 4 → sProp 𝕄) : R4 (fun r => iprop(Φ r ∗ Ψ r)) = iprop(R4 Φ ∗ R4 Ψ) := bigSepL_two Φ Ψ rings

theorem steps_nat (Φ : Fin 15 → sProp 𝕄) : bigSepL steps Φ = Ns 0 15 fun n => Φ (Fin.ofNat 15 n) := by
  unfold Ns
  rw [← bigSepL_map (Fin.ofNat 15) (List.range' 0 15) Φ]
  congr 1

section Parts
variable {c : Dev nD}

theorem rings_rule {Q : PUnit → sProp 𝕄} {f : Fin 4 → P F → P F} (Pre Post : Fin 4 → sProp 𝕄) (J : ℕ → sProp 𝕄)
    (h : ∀ (r : Fin 4) (k : P F), iprop(Pre r ∗ J r.val ∗ ((Post r ∗ J (r.val + 1)) -∗ WP c k Q)) ⊢ WP c (f r k) Q) (k : P F) :
    (iprop(R4 Pre ∗ J 0 ∗ ((R4 Post ∗ J 4) -∗ WP c k Q)) : sProp 𝕄) ⊢ WP c (seqL rings f k) Q := by
  show _ ⊢ WP c (f 0 (f 1 (f 2 (f 3 k)))) Q
  rw [R4_eq, R4_eq]
  have h0 : ∀ k : P F, iprop(Pre 0 ∗ J 0 ∗ ((Post 0 ∗ J 1) -∗ WP c k Q)) ⊢ WP c (f 0 k) Q := h 0
  have h1 : ∀ k : P F, iprop(Pre 1 ∗ J 1 ∗ ((Post 1 ∗ J 2) -∗ WP c k Q)) ⊢ WP c (f 1 k) Q := h 1
  have h2 : ∀ k : P F, iprop(Pre 2 ∗ J 2 ∗ ((Post 2 ∗ J 3) -∗ WP c k Q)) ⊢ WP c (f 2 k) Q := h 2
  have h3 : ∀ k : P F, iprop(Pre 3 ∗ J 3 ∗ ((Post 3 ∗ J 4) -∗ WP c k Q)) ⊢ WP c (f 3 k) Q := h 3
  iintro ⟨⟨H0, H1, H2, H3⟩, HJ, Hk⟩
  iapply (h0 _)
  isplitl [H0]; · iexact H0
  isplitl [HJ]; · iexact HJ
  iintro ⟨H0, HJ⟩
  iapply (h1 _)
  isplitl [H1]; · iexact H1
  isplitl [HJ]; · iexact HJ
  iintro ⟨H1, HJ⟩
  iapply (h2 _)
  isplitl [H2]; · iexact H2
  isplitl [HJ]; · iexact HJ
  iintro ⟨H2, HJ⟩
  iapply (h3 _)
  isplitl [H3]; · iexact H3
  isplitl [HJ]; · iexact HJ
  iintro ⟨H3, HJ⟩
  iapply Hk
  isplitl [H0 H1 H2 H3]
  · isplitl [H0]; · iexact H0
    isplitl [H1]; · iexact H1
    isplitl [H2]; · iexact H2
    iexact H3
  iexact HJ

theorem steps_rule {Q : PUnit → sProp 𝕄} {f : Fin 15 → P F → P F} (Pre Post : Fin 15 → sProp 𝕄) (J : ℕ → sProp 𝕄)
    (h : ∀ (i : Fin 15) (k : P F), iprop(Pre i ∗ J i.val ∗ ((Post i ∗ J (i.val + 1)) -∗ WP c k Q)) ⊢ WP c (f i k) Q) (k : P F) :
    (iprop(bigSepL steps Pre ∗ J 0 ∗ ((bigSepL steps Post ∗ J 15) -∗ WP c k Q)) : sProp 𝕄) ⊢ WP c (seqL steps f k) Q := by
  rw [steps_nat, steps_nat]
  refine seqL_rule (val := Fin.val) steps 0 15 (by decide) (fun i _ k => ?_) k
  have e : Fin.ofNat 15 i.val = i := Fin.ext (Nat.mod_eq_of_lt i.isLt)
  simp only [e]
  exact h i k

/-! ## The sums -/

/-- What ring `r` begins with. -/
def RB (c : Dev nD) (r : Fin 4) : sProp 𝕄 :=
  iprop(pos c (.dma (rsSend r)) 0 ∗ pos c (.dma (rsRecv r)) 0 ∗ pos c (.reg (creditS r)) 0 ∗ It.crd (F := F) c (.rs r 0) ∗ anyAt (F := F) c (accM r))
/-- The tokens of the first send, -/
def RFt (c : Dev nD) (r : Fin 4) : sProp 𝕄 := iprop(stok (F := F) c (.dma (rsSend r)) 0 ∗ It.tok c (.rs r 0))
/-- and of step `s`. -/
def RTt (c : Dev nD) (s : ℕ) (r : Fin 4) : sProp 𝕄 :=
  iprop(stok c (.dma (rsSend r)) (s + 1) ∗ It.tok c (.cr r s) ∗ It.tok c (.rs r (s + 1)) ∗ It.crd (F := F) c (.cr r s) ∗ It.crd c (.rs r (s + 1)))
/-- Chunk `n` of the result at anything, -/
def OA (c : Dev nD) (n : ℕ) (r : Fin 4) : sProp 𝕄 := anyAt (F := F) c (oC r (chF r c n))
/-- or holding its product. -/
def OP (c : Dev nD) (n : ℕ) (r : Fin 4) : sProp 𝕄 := owns (c : Thread nD τ) (oC r (chF r c n)) fullShare (Pv X Wt c r n)
def RCV (c : Dev nD) (r : Fin 4) : sProp 𝕄 := anyAt (F := F) (toD r c) (rcvM r)
/-- The chunks of the gathered buffer that ring `r`'s receiver lends. -/
def AGL (c : Dev nD) (r : Fin 4) : sProp 𝕄 := bigSep (Finset.range 15) fun s => anyAt (F := F) (toD r c) (agC r (chF r (toD r c) s))

theorem RF_split (c : Dev nD) : R4 (RF X Wt c) = iprop(R4 (RFt (F := F) c) ∗ R4 (OP X Wt c 0) ∗ R4 (RCV (F := F) c) ∗ R4 fun r => fwd (F := F) c r 0) := by
  rw [← bigSepL_two, ← bigSepL_two, ← bigSepL_two]; rfl
theorem RT_split (c : Dev nD) (s : ℕ) : R4 (fun r => RT X Wt c r s) = iprop(R4 (RTt (F := F) c s) ∗ R4 (OP X Wt c (s + 1))) := by
  rw [← bigSepL_two]; rfl
theorem RS_begin (c : Dev nD) : iprop(R4 (RB (F := F) c) ∗ R4 fun r => scrd (F := F) c (.dma (rsSend r))) ⊢ R4 fun r => RS (F := F) c r 0 := by
  rw [← bigSepL_two]
  refine bigSepL_mono fun r _ => ?_
  unfold RB RS kps
  rw [if_pos rfl, show Finset.Ico 1 (0 + 1) = ∅ from Finset.Ico_self 1, bigSep_empty]
  iintro ⟨⟨H1, H2, H3, H4, H5⟩, H6⟩
  isplitl [H1]; · iexact H1
  isplitl [H2]; · iexact H2
  isplitl [H3]; · iexact H3
  isplitl [H6]; · iexact H6
  isplitl [H4]; · iexact H4
  isplitl [H5]; · iexact H5
  iempintro

theorem gemm0_all {Q : PUnit → sProp 𝕄} (k : P F) :
    (iprop(R4 (OA (F := F) c 0) ∗ inp X Wt c ∗ ((R4 (OP X Wt c 0) ∗ inp X Wt c) -∗ WP c k Q)) : sProp 𝕄) ⊢ WP c (seqL rings (gemm0 c) k) Q :=
  rings_rule (OA (F := F) c 0) (OP X Wt c 0) (fun _ => inp X Wt c) (fun r k => gemm_rule X Wt 0 _ _ (off1_eq c r) (off2_eq c r) k) k

theorem gemmS_all {Q : PUnit → sProp 𝕄} (k : P F) :
    (iprop(Ns 0 15 (fun s => R4 (OA (F := F) c (s + 1))) ∗ inp X Wt c
      ∗ ((Ns 0 15 (fun s => R4 (OP X Wt c (s + 1))) ∗ inp X Wt c) -∗ WP c k Q)) : sProp 𝕄) ⊢ WP c (seqL steps (fun s => seqL rings (gemmS c s)) k) Q :=
  seqL_rule (val := Fin.val) (J := fun _ => inp X Wt c) steps 0 15 (by decide)
    (fun s _ k => rings_rule (OA (F := F) c (s.val + 1)) (OP X Wt c (s.val + 1)) (fun _ => inp X Wt c)
      (fun r k => gemm_rule X Wt (s.val + 1) _ _ (off4_eq c r s.succ) (off5_eq c r s.succ) k) k) k

theorem rsFirst_all {Q : PUnit → sProp 𝕄} (k : P F) :
    (iprop(R4 (RF X Wt c) ∗ St X Wt c (firstFrom 0)
      ∗ ((R4 (fun r => scrd (F := F) c (.dma (rsSend r))) ∗ St X Wt c (rsFrom 0)) -∗ WP c k Q)) : sProp 𝕄) ⊢ WP c (seqL rings (rsFirstS c) k) Q :=
  rings_rule (RF X Wt c) (fun r => scrd (F := F) c (.dma (rsSend r))) (fun i => St X Wt c (firstFrom i))
    (fun r k => rsFirst_rule X Wt _ (off3_eq c r) k) k

theorem rsStep0_all {Q : PUnit → sProp 𝕄} (k : P F) :
    (iprop((R4 (fun r => RS (F := F) c r 0) ∗ R4 (fun r => RT X Wt c r 0)) ∗ St X Wt c (rsFrom 0)
      ∗ (((R4 (fun r => RS (F := F) c r 1) ∗ R4 (OA (F := F) c 1)) ∗ St X Wt c (rsFrom 1)) -∗ WP c k Q)) : sProp 𝕄)
      ⊢ WP c (seqL rings (rsStep0 c) k) Q := by
  rw [← bigSepL_two, ← bigSepL_two, rsAt_zero (by decide)]
  exact rings_rule _ _ (fun i => St X Wt c (rsAt 0 i)) (fun r k => rsStep0_rule X Wt k) k

theorem rsStepS_all {Q : PUnit → sProp 𝕄} (s : Fin 15) (hs : s.val < 14) (k : P F) :
    (iprop((R4 (fun r => RS (F := F) c r s.val) ∗ R4 (fun r => RT X Wt c r s.val)) ∗ St X Wt c (rsFrom s.val)
      ∗ (((R4 (fun r => RS (F := F) c r (s.val + 1)) ∗ R4 (OA (F := F) c (s.val + 1))) ∗ St X Wt c (rsFrom (s.val + 1))) -∗ WP c k Q)) : sProp 𝕄)
      ⊢ WP c (seqL rings (rsStepS c s) k) Q := by
  rw [← bigSepL_two, ← bigSepL_two, rsAt_zero hs]
  exact rings_rule _ _ (fun i => St X Wt c (rsAt s.val i)) (fun r k => rsStepS_rule X Wt s hs k) k

theorem rsMid_all {Q : PUnit → sProp 𝕄} (k : P F) :
    (iprop(Ns 1 13 (fun s => R4 (fun r => RT X Wt c r s)) ∗ (R4 (fun r => RS (F := F) c r 1) ∗ St X Wt c (rsFrom 1))
      ∗ ((Ns 1 13 (fun s => R4 (OA (F := F) c (s + 1))) ∗ (R4 (fun r => RS (F := F) c r 14) ∗ St X Wt c (rsFrom 14))) -∗ WP c k Q)) : sProp 𝕄)
      ⊢ WP c (seqL midSteps (fun s => seqL rings (rsStepS c s)) k) Q := by
  refine seqL_rule (val := Fin.val) (J := fun s => iprop(R4 (fun r => RS (F := F) c r s) ∗ St X Wt c (rsFrom s))) midSteps 1 13 (by decide) (fun s hs k => ?_) k
  have hs' : s.val < 14 := by
    have H : ∀ s ∈ midSteps, s.val < 14 := by decide
    exact H s hs
  iintro ⟨HT, ⟨HR, HS⟩, Hk⟩
  iapply (rsStepS_all X Wt s hs' k)
  isplitl [HT HR]
  · isplitl [HR]; · iexact HR
    iexact HT
  isplitl [HS]; · iexact HS
  iintro ⟨⟨HR, HO⟩, HS⟩
  iapply Hk
  isplitl [HO]; · iexact HO
  isplitl [HR]; · iexact HR
  iexact HS

theorem rsStepE_all {Q : PUnit → sProp 𝕄} (k : P F) :
    (iprop((R4 (fun r => RS (F := F) c r 14) ∗ R4 (OP X Wt c 15)) ∗ St X Wt c (mxFrom 0)
      ∗ ((R4 (RE X Wt c) ∗ St X Wt c (mxFrom 0)) -∗ WP c k Q)) : sProp 𝕄)
      ⊢ WP c (seqL rings (rsStepE c) k) Q := by
  rw [← bigSepL_two]
  exact rings_rule _ (RE X Wt c) (fun _ => St X Wt c (mxFrom 0)) (fun r k => rsStepE_rule X Wt k) k

theorem toD_two : ∀ c : Dev nD, toD 2 (frmD 0 c) = c := by decide +kernel
theorem toD_three : ∀ c : Dev nD, toD 3 (frmD 1 c) = c := by decide +kernel
theorem bar_true (c : Dev nD) : kPay X Wt (frmD 0 c) .bar 0 true = iprop(Lend (F := F) 0 c ∗ Lend 2 c) := by
  show iprop(Lend (F := F) 0 (toD 0 (frmD 0 c)) ∗ Lend 2 (toD 2 (frmD 0 c))) = _
  rw [toD_frmD, toD_two]
theorem bar_false (c : Dev nD) : kPay X Wt (frmD 1 c) .bar 0 false = iprop(Lend (F := F) 1 c ∗ Lend 3 c) := by
  show iprop(Lend (F := F) 1 (toD 1 (frmD 1 c)) ∗ Lend 3 (toD 3 (frmD 1 c))) = _
  rw [toD_frmD, toD_three]
theorem bar_pays (c : Dev nD) : iprop(barPay (F := F) c true ∗ barPay (F := F) c false) ⊢ iprop(R4 (RCV (F := F) c) ∗ R4 (AGL (F := F) c)) := by
  rw [← R4_two, R4_eq]
  show iprop((Lend (F := F) 0 (toD 0 c) ∗ Lend (F := F) 2 (toD 2 c)) ∗ (Lend (F := F) 1 (toD 1 c) ∗ Lend (F := F) 3 (toD 3 c)))
    ⊢ iprop(Lend (F := F) 0 (toD 0 c) ∗ Lend (F := F) 1 (toD 1 c) ∗ Lend (F := F) 2 (toD 2 c) ∗ Lend (F := F) 3 (toD 3 c))
  iintro ⟨⟨H0, H2⟩, H1, H3⟩
  isplitl [H0]; · iexact H0
  isplitl [H1]; · iexact H1
  isplitl [H2]; · iexact H2
  iexact H3

/-- What the sums begin with, -/
def rsPre (c : Dev nD) : sProp 𝕄 :=
  iprop((St X Wt c allIts ∗ It.tok c .b0 ∗ It.tok c .b1 ∗ R4 (fun r => Lend (F := F) r c)
      ∗ pos c (.reg barS) 0 ∗ cred (tallyAt (cellC c (.reg barS)) 1 2))
    ∗ inp X Wt c ∗ (R4 (OA (F := F) c 0) ∗ Ns 0 15 fun s => R4 (OA (F := F) c (s + 1)))
    ∗ R4 (RFt (F := F) c) ∗ R4 (fun r => fwd (F := F) c r 0) ∗ R4 (RB (F := F) c) ∗ Ns 0 14 fun s => R4 (RTt (F := F) c s))
/-- and end with. -/
def rsPost (c : Dev nD) : sProp 𝕄 :=
  iprop(St X Wt c (mxFrom 0) ∗ pos c (.reg barS) 1 ∗ inp X Wt c ∗ R4 (AGL (F := F) c) ∗ R4 (RE X Wt c) ∗ Ns 0 14 fun s => R4 (OA (F := F) c (s + 1)))

theorem Ns_two (n m : ℕ) (Φ Ψ : ℕ → sProp 𝕄) : Ns n m (fun s => iprop(Φ s ∗ Ψ s)) = iprop(Ns n m Φ ∗ Ns n m Ψ) := bigSepL_two Φ Ψ _

theorem rsPart_rule {Q : PUnit → sProp 𝕄} (k : P F) :
    (iprop(rsPre X Wt c ∗ (rsPost X Wt c -∗ WP c k Q)) : sProp 𝕄) ⊢ WP c (rsPart c k) Q := by
  unfold rsPart rsPre rsPost
  rw [dev1_eq, dev2_eq, R4_eq (fun r => Lend (F := F) r c)]
  iintro ⟨⟨⟨HS, Ht0, Ht1, ⟨HL0, HL1, HL2, HL3⟩, Hpb, Hcb⟩, Hin, ⟨HO0, HO⟩, HFt, Hf, HB, HTt⟩, Hk⟩
  icases (St_reached X Wt c (frmD 0 c) _ mine_bar) $$ HS with ⟨HS, #Hr0⟩
  icases (St_reached X Wt c (frmD 1 c) _ mine_bar) $$ HS with ⟨HS, #Hr1⟩
  iapply (st_signal X Wt .b0 (.b1 :: firstFrom 0) (d := frmD 0 c) (sem := barS) rfl rfl kind_bar mine_bar (by show 0 < 1; decide) (by decide) rfl rfl)
    $$ [HS Ht0 HL0 HL2]
  · isplitl [HS]; · iexact HS
    isplitl [Ht0]; · iexact Ht0
    isplitr; · iexact Hr0
    iapply (Entails.of_eq (bar_true X Wt c).symm)
    isplitl [HL0]; · iexact HL0
    iexact HL2
  iintro HS
  iapply (st_signal X Wt .b1 (firstFrom 0) (d := frmD 1 c) (sem := barS) rfl rfl kind_bar mine_bar (by show 0 < 1; decide) (by decide) rfl rfl)
    $$ [HS Ht1 HL1 HL3]
  · isplitl [HS]; · iexact HS
    isplitl [Ht1]; · iexact Ht1
    isplitr; · iexact Hr1
    iapply (Entails.of_eq (bar_false X Wt c).symm)
    isplitl [HL1]; · iexact HL1
    iexact HL3
  iintro HS
  iapply (gemm0_all X Wt)
  isplitl [HO0]; · iexact HO0
  isplitl [Hin]; · iexact Hin
  iintro ⟨HP0, Hin⟩
  iapply (st_barWait X Wt firstFrom_lev) $$ [HS Hcb Hpb]
  · isplitl [HS]; · iexact HS
    isplitl [Hcb]; · iexact Hcb
    iexact Hpb
  iintro ⟨HS, Hpb, Hb1, Hb2⟩
  icases (bar_pays (F := F) c) $$ [Hb1 Hb2] with ⟨Hrcv, HAG⟩
  · isplitl [Hb1]; · iexact Hb1
    iexact Hb2
  ihave HF := (Entails.of_eq (RF_split X Wt c).symm) $$ [HFt HP0 Hrcv Hf]
  · isplitl [HFt]; · iexact HFt
    isplitl [HP0]; · iexact HP0
    isplitl [Hrcv]; · iexact Hrcv
    iexact Hf
  iapply (rsFirst_all X Wt)
  isplitl [HF]; · iexact HF
  isplitl [HS]; · iexact HS
  iintro ⟨Hsc, HS⟩
  ihave HR := (RS_begin (F := F) c) $$ [HB Hsc]
  · isplitl [HB]; · iexact HB
    iexact Hsc
  iapply (gemmS_all X Wt)
  isplitl [HO]; · iexact HO
  isplitl [Hin]; · iexact Hin
  iintro ⟨HP, Hin⟩
  ihave HP := (Entails.of_eq (Ns_last 0 14 (fun s => R4 (OP X Wt c (s + 1))))) $$ HP
  icases HP with ⟨HP, HPe⟩
  have hT : (iprop(Ns 0 14 (fun s => R4 (RTt (F := F) c s)) ∗ Ns 0 14 (fun s => R4 (OP X Wt c (s + 1)))) : sProp 𝕄)
      = iprop(R4 (fun r => RT X Wt c r 0) ∗ Ns 1 13 fun s => R4 (fun r => RT X Wt c r s)) := by
    rw [← Ns_two, ← Ns_first 0 13 (fun s => R4 (fun r => RT X Wt c r s))]
    simp only [RT_split]
  ihave HT := (Entails.of_eq hT) $$ [HTt HP]
  · isplitl [HTt]; · iexact HTt
    iexact HP
  icases HT with ⟨HT0, HT⟩
  iapply (rsStep0_all X Wt)
  isplitl [HR HT0]
  · isplitl [HR]; · iexact HR
    iexact HT0
  isplitl [HS]; · iexact HS
  iintro ⟨⟨HR, HO1⟩, HS⟩
  iapply (rsMid_all X Wt)
  isplitl [HT]; · iexact HT
  isplitl [HR HS]
  · isplitl [HR]; · iexact HR
    iexact HS
  iintro ⟨HO, HR, HS⟩
  iapply (rsStepE_all X Wt)
  isplitl [HR HPe]
  · isplitl [HR]; · iexact HR
    iexact HPe
  isplitl [HS]; · iexact HS
  iintro ⟨HE, HS⟩
  iapply Hk
  isplitl [HS]; · iexact HS
  isplitl [Hpb]; · iexact Hpb
  isplitl [Hin]; · iexact Hin
  isplitl [HAG]; · iexact HAG
  isplitl [HE]; · iexact HE
  iapply (Entails.of_eq (Ns_first 0 13 (fun s => R4 (OA (F := F) c (s + 1)))).symm)
  isplitl [HO1]; · iexact HO1
  iexact HO

/-! ## The maxima -/

/-- What one send uses up besides the maximum. -/
def XT (c : Dev nD) (i : Fin 15) : sProp 𝕄 :=
  iprop(stok c (.dma (mxSend i)) 0 ∗ It.tok c (.mx i) ∗ anyAt (F := F) (mxD c i) (slotC c))
/-- The sums of the four rings. -/
def ACC (c : Dev nD) (r : Fin 4) : sProp 𝕄 := owns (c : Thread nD τ) (accM r) fullShare (Sv X Wt c r)

def mxPre (c : Dev nD) : sProp 𝕄 :=
  iprop(St X Wt c (mxFrom 0) ∗ R4 (ACC X Wt c) ∗ anyAt (F := F) c mxsM ∗ bigSepL steps (XT (F := F) c) ∗ bigSepL steps (XW (F := F) c)
    ∗ bigSepL steps fun i => pos c (.dma (mxSend i)) 0)
def mxPost (c : Dev nD) : sProp 𝕄 :=
  iprop(St X Wt c (agFrom 0) ∗ R4 (ACC X Wt c) ∗ anyAt (F := F) c mxsM ∗ bigSepL steps (XD (F := F) c)
    ∗ bigSepL steps fun i => pos c (.dma (mxSend i)) 1)

theorem acc_load {Q : PUnit → sProp 𝕄} (r : Fin 4) (k : Vec F S64x2048 .f32 → P F) :
    (iprop(ACC X Wt c r ∗ (ACC X Wt c r -∗ WP c (k (Sv X Wt c r)) Q)) : sProp 𝕄) ⊢ WP c (accLoad r k) Q := by
  unfold accLoad ACC
  iintro ⟨H, Hk⟩
  iapply (ldW inb_S64x2048_S64x2048_0_0) $$ H
  iexact Hk

theorem mx_put {Q : PUnit → sProp 𝕄} (v : Vec F S8x128 .f32) (k : P F) :
    (iprop(anyAt (F := F) c mxsM ∗ (owns (c : Thread nD τ) mxsM fullShare v -∗ WP c k Q)) : sProp 𝕄) ⊢ WP c (mxPut v k) Q := by
  unfold mxPut
  iintro ⟨H, Hk⟩
  iapply (ldWA inb_S8x128_S8x128_0_0) $$ H
  iintro H
  iapply (stoW inb_S8x128_S8x128_0_0) $$ H
  iexact Hk

theorem XU_split (c : Dev nD) : bigSepL steps (XU X Wt c)
    = iprop(bigSepL steps (XT (F := F) c) ∗ bigSepL steps fun i => owns (c : Thread nD τ) mxsM (mxPiece i) (mxv X Wt c)) := by
  rw [← bigSepL_two]
  refine congrArg (bigSepL steps) (funext fun i => ?_)
  unfold XU XT
  have h1 : (iprop(stok c (.dma (mxSend i)) 0 ∗ It.tok c (.mx i) ∗ anyAt (F := F) (mxD c i) (slotC c) ∗ owns (c : Thread nD τ) mxsM (mxPiece i) (mxv X Wt c)) : sProp 𝕄)
      ⊢ iprop((stok c (.dma (mxSend i)) 0 ∗ It.tok c (.mx i) ∗ anyAt (F := F) (mxD c i) (slotC c)) ∗ owns (c : Thread nD τ) mxsM (mxPiece i) (mxv X Wt c)) := by
    iintro ⟨H1, H2, H3, H4⟩
    isplitr [H4]
    · isplitl [H1]; · iexact H1
      isplitl [H2]; · iexact H2
      iexact H3
    iexact H4
  have h2 : (iprop((stok c (.dma (mxSend i)) 0 ∗ It.tok c (.mx i) ∗ anyAt (F := F) (mxD c i) (slotC c)) ∗ owns (c : Thread nD τ) mxsM (mxPiece i) (mxv X Wt c)) : sProp 𝕄)
      ⊢ iprop(stok c (.dma (mxSend i)) 0 ∗ It.tok c (.mx i) ∗ anyAt (F := F) (mxD c i) (slotC c) ∗ owns (c : Thread nD τ) mxsM (mxPiece i) (mxv X Wt c)) := by
    iintro ⟨⟨H1, H2, H3⟩, H4⟩
    isplitl [H1]; · iexact H1
    isplitl [H2]; · iexact H2
    isplitl [H3]; · iexact H3
    iexact H4
  exact Entails.antisymm h1 h2

theorem mxPart_rule {Q : PUnit → sProp 𝕄} (k : F .f32 → P F) :
    (iprop(mxPre X Wt c ∗ (mxPost X Wt c -∗ WP c (k (scl X Wt c)) Q)) : sProp 𝕄) ⊢ WP c (mxPart c k) Q := by
  unfold mxPart mxPre mxPost
  rw [R4_eq (ACC X Wt c)]
  iintro ⟨⟨HS, ⟨H0, H1, H2, H3⟩, Hm, HT, HW, Hp⟩, Hk⟩
  iapply (acc_load X Wt 0)
  isplitl [H0]; · iexact H0
  iintro H0
  iapply (acc_load X Wt 1)
  isplitl [H1]; · iexact H1
  iintro H1
  iapply (acc_load X Wt 2)
  isplitl [H2]; · iexact H2
  iintro H2
  iapply (acc_load X Wt 3)
  isplitl [H3]; · iexact H3
  iintro H3
  iapply (mx_put (mxv X Wt c))
  isplitl [Hm]; · iexact Hm
  iintro Hm
  ihave Hm := (Entails.of_eq (mxs_deal (c := c) (mxv X Wt c))) $$ Hm
  ihave HU := (Entails.of_eq (XU_split X Wt c).symm) $$ [HT Hm]
  · isplitl [HT]; · iexact HT
    iexact Hm
  iapply (steps_rule (XU X Wt c) (fun i => scrd (F := F) c (.dma (mxSend i))) (fun i => St X Wt c (mxFrom i)) (fun i k => mxSend_rule X Wt i k))
  isplitl [HU]; · iexact HU
  isplitl [HS]; · iexact HS
  iintro ⟨Hc, HS⟩
  iapply (mxRecvL_rule X Wt steps)
  isplitl [HW]; · iexact HW
  isplitl [HS]; · iexact HS
  iintro ⟨HD, HS⟩
  iapply (steps_rule (fun i => iprop(pos c (.dma (mxSend i)) 0 ∗ scrd (F := F) c (.dma (mxSend i))))
    (fun i => iprop(pos c (.dma (mxSend i)) 1 ∗ owns (c : Thread nD τ) mxsM (mxPiece i) (mxv X Wt c)))
    (fun _ => St X Wt c (agFrom 0)) (fun i k => mxWait_rule X Wt i k))
  isplitl [Hp Hc]
  · iapply (Entails.of_eq (bigSepL_two (fun i => pos (F := F) c (.dma (mxSend i)) 0) (fun i => scrd (F := F) c (.dma (mxSend i))) steps).symm)
    isplitl [Hp]; · iexact Hp
    iexact Hc
  isplitl [HS]; · iexact HS
  iintro ⟨Hp, HS⟩
  ihave Hp := (Entails.of_eq (bigSepL_two (fun i => pos (F := F) c (.dma (mxSend i)) 1)
    (fun i => owns (c : Thread nD τ) mxsM (mxPiece i) (mxv X Wt c)) steps)) $$ Hp
  icases Hp with ⟨Hp, Hm⟩
  iapply Hk
  isplitl [HS]; · iexact HS
  isplitl [H0 H1 H2 H3]
  · isplitl [H0]; · iexact H0
    isplitl [H1]; · iexact H1
    isplitl [H2]; · iexact H2
    iexact H3
  isplitl [Hm]
  · iapply (anyAt_intro (F := F))
    iapply (Entails.of_eq (mxs_deal (c := c) (mxv X Wt c)).symm); iexact Hm
  isplitl [HD]; · iexact HD
  iexact Hp

/-! ## The gather -/

def AG (c : Dev nD) (n : ℕ) (r : Fin 4) : sProp 𝕄 := anyAt (F := F) c (agC r (chF r c n))
def AQ (c : Dev nD) (r : Fin 4) : sProp 𝕄 := owns (c : Thread nD τ) (agC r (chF r c 15)) fullShare (qv X Wt r (chF r c 0))
def OD (c : Dev nD) (n : ℕ) (r : Fin 4) : sProp 𝕄 := owns (c : Thread nD τ) (oC r (chF r c n)) fullShare (Dv X Wt c r (chF r c (n + 1)))
def AA (c : Dev nD) (r : Fin 4) : sProp 𝕄 := anyAt (F := F) c (accM r)

theorem quant_all {Q : PUnit → sProp 𝕄} (k : P F) :
    (iprop((R4 (ACC X Wt c) ∗ R4 (AG (F := F) c 15) ∗ R4 (OA (F := F) c 15))
      ∗ ((R4 (AA (F := F) c) ∗ R4 (AQ X Wt c) ∗ R4 (OD X Wt c 15)) -∗ WP c k Q)) : sProp 𝕄) ⊢ WP c (seqL rings (quantS c (scl X Wt c)) k) Q := by
  rw [← bigSepL_two, ← bigSepL_two, ← bigSepL_two, ← bigSepL_two]
  iintro ⟨H, Hk⟩
  iapply (rings_rule _ _ (fun _ => iprop(emp)) (fun r k => by
    iintro ⟨H, -, Hk⟩
    iapply (quant_rule X Wt (inbO _ (ch_lt r c _) (off5_own c r)) (packed _ (ch_lt r c _) (off5_own c r)) (off5_own c r) k)
    isplitl [H]; · iexact H
    iintro H
    iapply Hk
    isplitl [H]; · iexact H
    iempintro) k)
  isplitl [H]; · iexact H
  isplitr; · iempintro
  iintro ⟨H, -⟩
  iapply Hk
  iexact H

theorem agFirst_all {Q : PUnit → sProp 𝕄} (k : P F) :
    (iprop((R4 (fun r => pos (F := F) c (.dma (agSend r)) 0) ∗ R4 (fun r => GU (F := F) c r 0) ∗ R4 (AQ X Wt c)) ∗ St X Wt c (agFrom 0)
      ∗ ((R4 (fun r => GS X Wt c r 0) ∗ St X Wt c (agFrom 1)) -∗ WP c k Q)) : sProp 𝕄) ⊢ WP c (seqL rings (agFirstS c) k) Q := by
  rw [← bigSepL_two, ← bigSepL_two, agLeft_zero (by decide)]
  exact rings_rule _ _ (fun i => St X Wt c (agLeft 0 i)) (fun r k => agFirst_rule X Wt k) k

/-- What step `s` of the gather uses up. -/
def GT (c : Dev nD) (s : ℕ) (r : Fin 4) : sProp 𝕄 := iprop(GW (F := F) c r s ∗ GU (F := F) c r (s + 1))

theorem agStep_all {Q : PUnit → sProp 𝕄} {f : Fin 4 → P F → P F} (s : Fin 15) (hs : s.val < 14)
    (hf : ∀ (r : Fin 4) (k : P F), iprop((GS X Wt c r s.val ∗ GW (F := F) c r s.val ∗ GU (F := F) c r (s.val + 1)) ∗ St X Wt c (agLeft (s.val + 1) r.val)
        ∗ (((GS X Wt c r (s.val + 1) ∗ GD X Wt c r s.val) ∗ St X Wt c (agLeft (s.val + 1) (r.val + 1))) -∗ WP c k Q)) ⊢ WP c (f r k) Q) (k : P F) :
    (iprop(R4 (GT (F := F) c s.val) ∗ (R4 (fun r => GS X Wt c r s.val) ∗ St X Wt c (agFrom (s.val + 1)))
      ∗ ((R4 (fun r => GD X Wt c r s.val) ∗ (R4 (fun r => GS X Wt c r (s.val + 1)) ∗ St X Wt c (agFrom (s.val + 2)))) -∗ WP c k Q)) : sProp 𝕄)
      ⊢ WP c (seqL rings f k) Q := by
  have H := rings_rule (fun r => iprop(GS X Wt c r s.val ∗ GT (F := F) c s.val r)) (fun r => iprop(GS X Wt c r (s.val + 1) ∗ GD X Wt c r s.val))
    (fun i => St X Wt c (agLeft (s.val + 1) i)) hf k
  rw [R4_two, R4_two] at H
  rw [agLeft_zero (by omega : s.val + 1 < 15)]
  iintro ⟨HT, ⟨HG, HS⟩, Hk⟩
  iapply H
  isplitl [HG HT]
  · isplitl [HG]; · iexact HG
    iexact HT
  isplitl [HS]; · iexact HS
  iintro ⟨⟨HG, HD⟩, HS⟩
  iapply Hk
  isplitl [HD]; · iexact HD
  isplitl [HG]; · iexact HG
  iexact HS

theorem agMid_all {Q : PUnit → sProp 𝕄} (k : P F) :
    (iprop(Ns 1 13 (fun s => R4 (GT (F := F) c s)) ∗ (R4 (fun r => GS X Wt c r 1) ∗ St X Wt c (agFrom 2))
      ∗ ((Ns 1 13 (fun s => R4 (fun r => GD X Wt c r s)) ∗ (R4 (fun r => GS X Wt c r 14) ∗ St X Wt c (agFrom 15))) -∗ WP c k Q)) : sProp 𝕄)
      ⊢ WP c (seqL agMid (fun s => seqL rings (agStepS c (scl X Wt c) s)) k) Q := by
  refine seqL_rule (val := fun s : Fin 14 => s.succ.val) (J := fun s => iprop(R4 (fun r => GS X Wt c r s) ∗ St X Wt c (agFrom (s + 1))))
    agMid 1 13 (by decide) (fun s hs k => ?_) k
  have hs' : s.succ.val < 14 ∧ (s.succ + 1 : Fin 15).val = s.succ.val + 1 := by
    have H : ∀ s ∈ agMid, s.succ.val < 14 ∧ (s.succ + 1 : Fin 15).val = s.succ.val + 1 := by decide
    exact H s hs
  exact agStep_all X Wt (f := agStepS c (scl X Wt c) s) s.succ hs'.1 (fun r k => agStep_rule X Wt s.succ (s.succ + 1) hs'.2
    (inbO _ (ch_lt r c _) (off11_eq c r s.castSucc)) (packed _ (ch_lt r c _) (off11_eq c r s.castSucc)).wholeWords k) k

theorem agStepE_all {Q : PUnit → sProp 𝕄} (k : P F) :
    (iprop((R4 (fun r => GS X Wt c r 14) ∗ R4 (fun r => GW (F := F) c r 14)) ∗ St X Wt c []
      ∗ (((R4 (GE (F := F) c) ∗ R4 (fun r => GD X Wt c r 14)) ∗ St X Wt c []) -∗ WP c k Q)) : sProp 𝕄)
      ⊢ WP c (seqL rings (agStepE c (scl X Wt c)) k) Q := by
  rw [← bigSepL_two, ← bigSepL_two]
  exact rings_rule _ _ (fun _ => St X Wt c []) (fun r k => agStepE_rule X Wt k) k

def agPre (c : Dev nD) : sProp 𝕄 :=
  iprop(St X Wt c (agFrom 0) ∗ (R4 (ACC X Wt c) ∗ R4 (AG (F := F) c 15) ∗ R4 (OA (F := F) c 15)) ∗ R4 (fun r => pos (F := F) c (.dma (agSend r)) 0)
    ∗ Ns 0 15 (fun s => R4 (fun r => GU (F := F) c r s)) ∗ Ns 0 15 (fun s => R4 (fun r => GW (F := F) c r s)))
def agPost (c : Dev nD) : sProp 𝕄 :=
  iprop(St X Wt c [] ∗ R4 (AA (F := F) c) ∗ R4 (OD X Wt c 15) ∗ R4 (GE (F := F) c) ∗ Ns 0 15 (fun s => R4 (fun r => GD X Wt c r s)))

theorem agPart_rule {Q : PUnit → sProp 𝕄} :
    (iprop(agPre X Wt c ∗ (agPost X Wt c -∗ WP c (.ret ⟨⟩) Q)) : sProp 𝕄) ⊢ WP c (agPart c (scl X Wt c)) Q := by
  unfold agPart agPre agPost
  iintro ⟨⟨HS, Hq, Hp, HU, HW⟩, Hk⟩
  ihave HU := (Entails.of_eq (Ns_first 0 14 (fun s => R4 (fun r => GU (F := F) c r s)))) $$ HU
  icases HU with ⟨HU0, HU⟩
  ihave HW := (Entails.of_eq (Ns_last 0 14 (fun s => R4 (fun r => GW (F := F) c r s)))) $$ HW
  icases HW with ⟨HW, HWe⟩
  have hT : (iprop(Ns 0 14 (fun s => R4 (fun r => GW (F := F) c r s)) ∗ Ns 1 14 (fun s => R4 (fun r => GU (F := F) c r s))) : sProp 𝕄)
      = iprop(R4 (GT (F := F) c 0) ∗ Ns 1 13 fun s => R4 (GT (F := F) c s)) := by
    rw [Ns_shift 0 14, ← Ns_two, ← Ns_first 0 13 (fun s => R4 (GT (F := F) c s))]
    refine congrArg (Ns 0 14) (funext fun s => ?_)
    rw [← bigSepL_two]; rfl
  ihave HT := (Entails.of_eq hT) $$ [HW HU]
  · isplitl [HW]; · iexact HW
    iexact HU
  icases HT with ⟨HT0, HT⟩
  iapply (quant_all X Wt)
  isplitl [Hq]; · iexact Hq
  iintro ⟨HA, HQ, HO⟩
  iapply (agFirst_all X Wt)
  isplitl [Hp HU0 HQ]
  · isplitl [Hp]; · iexact Hp
    isplitl [HU0]; · iexact HU0
    iexact HQ
  isplitl [HS]; · iexact HS
  iintro ⟨HG, HS⟩
  iapply (agStep_all X Wt (f := agStep0 c (scl X Wt c)) (0 : Fin 15) (by decide) (fun r k => agStep_rule X Wt 0 1 rfl
    (inbO _ (ch_lt r c _) (off11_own c r)) (packed _ (ch_lt r c _) (off11_own c r)).wholeWords k))
  isplitl [HT0]; · iexact HT0
  isplitl [HG HS]
  · isplitl [HG]; · iexact HG
    iexact HS
  iintro ⟨HD0, HG, HS⟩
  iapply (agMid_all X Wt)
  isplitl [HT]; · iexact HT
  isplitl [HG HS]
  · isplitl [HG]; · iexact HG
    iexact HS
  iintro ⟨HD, HG, HS⟩
  iapply (agStepE_all X Wt)
  isplitl [HG HWe]
  · isplitl [HG]; · iexact HG
    iexact HWe
  isplitl [HS]; · iexact HS
  iintro ⟨⟨HE, HDe⟩, HS⟩
  iapply Hk
  isplitl [HS]; · iexact HS
  isplitl [HA]; · iexact HA
  isplitl [HO]; · iexact HO
  isplitl [HE]; · iexact HE
  iapply (Entails.of_eq (Ns_last 0 14 (fun s => R4 (fun r => GD X Wt c r s))).symm)
  isplitr [HDe]
  · iapply (Entails.of_eq (Ns_first 0 13 (fun s => R4 (fun r => GD X Wt c r s))).symm)
    isplitl [HD0]; · iexact HD0
    iexact HD
  iexact HDe

end Parts

end Cert.KernelIdeal.Hand

end
-- ==== Proof.KernelIdeal.Split.lean ====
/- The whole buffers cut into the chunks of the four rings and the slots of the sixteen devices, and put together again. -/
module

public import proofs.«01_k».proof.Proof.KernelIdeal.Parts

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (X : Dev nD → Vec F S4096x256 .f32) (Wt : Dev nD → Vec F S256x2048 .f32)

/-! ## Lists of families -/

theorem bigSepL_flatMap {I J : Type} (l : List I) (g : I → List J) (Φ : J → sProp 𝕄) :
    bigSepL (l.flatMap g) Φ = bigSepL l fun a => bigSepL (g a) Φ := by
  induction l with
  | nil => rfl
  | cons a l ih => rw [List.flatMap_cons, bigSepL_append, bigSepL_cons, ih]; rfl

theorem bigSepL_swap {I : Type} [DecidableEq I] {l l' : List I} (h : l.Perm l') (hn : l.Nodup) (Φ : I → sProp 𝕄) : bigSepL l Φ = bigSepL l' Φ := by
  rw [← bigSep_eq_bigSepL_of_eq l rfl hn Φ]
  exact bigSep_eq_bigSepL_of_eq l' (List.toFinset_eq_of_perm _ _ h) (h.nodup_iff.1 hn) Φ

/-- Four rings as a family over all of them. -/
theorem R4_univ (Φ : Fin 4 → sProp 𝕄) : bigSep Finset.univ Φ = R4 Φ :=
  bigSep_univ_eq_bigSepL rings (by decide) (by decide) Φ

/-- Sixteen steps as a family over all of them. -/
theorem N16_univ (Φ : ℕ → sProp 𝕄) : (bigSep Finset.univ fun n : Fin 16 => Φ n.val) = Ns 0 16 Φ := by
  rw [bigSep_univ_eq_bigSepL (List.finRange 16) (by decide) (by decide) (fun n : Fin 16 => Φ n.val)]
  exact (bigSepL_map (fun n : Fin 16 => n.val) (List.finRange 16) Φ).symm

theorem range15 (Φ : ℕ → sProp 𝕄) : bigSep (Finset.range 15) Φ = Ns 0 15 Φ :=
  bigSep_eq_bigSepL_of_eq (List.range' 0 15) (by decide) (by decide) Φ
theorem ico16 (Φ : ℕ → sProp 𝕄) : bigSep (Finset.Ico 1 16) Φ = Ns 1 15 Φ :=
  bigSep_eq_bigSepL_of_eq (List.range' 1 15) (by decide) (by decide) Φ

theorem grid_univ (Φ : ℕ → Fin 4 → sProp 𝕄) :
    (bigSep Finset.univ fun t : Fin 16 × Fin 4 => Φ t.1.val t.2) = Ns 0 16 fun n => R4 (Φ n) := by
  rw [bigSep_univ_prod, ← N16_univ]
  exact bigSep_congr fun n _ => R4_univ _

/-- Rings and steps in the other order. -/
theorem Ns_R4 (n m : ℕ) (Φ : ℕ → Fin 4 → sProp 𝕄) : (Ns n m fun s => R4 (Φ s)) = R4 fun r => Ns n m fun s => Φ s r := by
  induction m generalizing n with
  | zero =>
    rw [R4_eq]
    have h1 : (iprop(emp) : sProp 𝕄) ⊢ iprop(emp ∗ emp ∗ emp ∗ emp) := by
      iintro -
      isplitl []; · iempintro
      isplitl []; · iempintro
      isplitl [] <;> iempintro
    have h2 : (iprop(emp ∗ emp ∗ emp ∗ emp) : sProp 𝕄) ⊢ iprop(emp) := by
      iintro -
      iempintro
    exact Entails.antisymm h1 h2
  | succ m ih => simp only [Ns_first, R4_two, ih]

/-! ## The chunks of a buffer -/

/-- The rows of chunk `k` of ring `r`. -/
abbrev chR (r : Fin 4) (k : Dev nD) : Rect S4096x2048 := Rect.unit (s := S4096x2048) ![rowOf r k.val, 0] S64x2048.size (inbOk r k)

/-- The number of a block of 64 rows. -/
def blk (r : Fin 4) (k : Dev nD) : ℕ := 16 * (bix r).val + k.val
theorem rowOf_blk (r : Fin 4) (k : Dev nD) : rowOf r k.val = 64 * blk r k := by unfold rowOf blk; omega
theorem blk_inj : ∀ (c : Dev nD) (p q : Fin 16 × Fin 4), blk p.2 (chF p.2 c p.1.val) = blk q.2 (chF q.2 c q.1.val) → p = q := by decide +kernel
theorem blk_surj : ∀ (c : Dev nD) (b : Fin 64), ∃ p : Fin 16 × Fin 4, blk p.2 (chF p.2 c p.1.val) = b.val := by decide +kernel

theorem mem_chR (r : Fin 4) (k : Dev nD) (x : S4096x2048.Idx) : x ∈ (chR r k).set ↔ (x 0).val / 64 = blk r k := by
  rw [Rect.mem_set_unit]
  have h1 : (x 1).val < 2048 := (x 1).isLt
  constructor
  · intro h
    have h0 : rowOf r k.val ≤ (x 0).val ∧ (x 0).val < rowOf r k.val + 64 := h 0
    rw [rowOf_blk] at h0
    omega
  · intro h a
    match a with
    | 0 => show rowOf r k.val ≤ (x 0).val ∧ (x 0).val < rowOf r k.val + 64; rw [rowOf_blk]; omega
    | 1 => show 0 ≤ (x 1).val ∧ (x 1).val < 0 + 2048; omega

theorem chR_disj (c : Dev nD) (p q : Fin 16 × Fin 4) (h : p ≠ q) :
    Disjoint (chR p.2 (chF p.2 c p.1.val)).set (chR q.2 (chF q.2 c q.1.val)).set := by
  refine Finset.disjoint_left.2 fun x hp hq => h ?_
  rw [mem_chR] at hp hq
  exact blk_inj c p q (hp.symm.trans hq)

theorem chR_cover (c : Dev nD) :
    (Finset.univ : Finset (Fin 16 × Fin 4)).biUnion (fun p => (chR p.2 (chF p.2 c p.1.val)).set) = Finset.univ := by
  ext x
  have hx : (x 0).val < 4096 := (x 0).isLt
  simp only [Finset.mem_biUnion, Finset.mem_univ, true_and, iff_true]
  obtain ⟨p, hp⟩ := blk_surj c ⟨(x 0).val / 64, by omega⟩
  exact ⟨p, (mem_chR _ _ _).2 hp.symm⟩

section Chunks
variable {e : EltTy} (m : Memref sig .tc .vmem S4096x2048 e)

/-- Chunk `k` of ring `r` of a buffer. -/
abbrev chM (r : Fin 4) (k : Dev nD) : Memref sig .tc .vmem S64x2048 e := m.slice (chR r k) (fun _ => rfl)

/-- A buffer at some contents is its chunks at some contents, as the device counts them. -/
theorem chunks_split (c : Dev nD) : anyAt (F := F) c m ⊢ Ns 0 16 fun n => R4 fun r => anyAt (F := F) c (chM m r (chF r c n)) := by
  rw [← grid_univ fun n r => anyAt (F := F) c (chM m r (chF r c n))]
  have h : ∀ Y : S4096x2048.Idx → Elt F e, (owns (c : Thread nD τ) m fullShare Y : sProp 𝕄)
      ⊢ bigSep Finset.univ fun t : Fin 16 × Fin 4 => anyAt (F := F) c (chM m t.2 (chF t.2 c t.1.val)) := fun Y =>
    BIBase.Entails.trans (owns_rects (c : Thread nD τ) m fullShare (fun t : Fin 16 × Fin 4 => chR t.2 (chF t.2 c t.1.val)) (fun _ _ => rfl)
      (chR_disj c) (chR_cover c) Y) (bigSep_mono fun t _ => anyAt_intro)
  unfold anyAt at h ⊢
  iintro ⟨%Y, H⟩
  iapply (h Y)
  iexact H

/-- Chunks of one value are the buffer at that value. -/
theorem chunks_join (c : Dev nD) (Y : S4096x2048.Idx → Elt F e) :
    (Ns 0 16 fun n => R4 fun r => owns (c : Thread nD τ) (chM m r (chF r c n)) fullShare fun j => Y ((chR r (chF r c n)).emb j))
      ⊢ (owns (c : Thread nD τ) m fullShare Y : sProp 𝕄) := by
  rw [← grid_univ fun n r => (owns (c : Thread nD τ) (chM m r (chF r c n)) fullShare (fun j => Y ((chR r (chF r c n)).emb j)) : sProp 𝕄)]
  exact owns_of_rects (c : Thread nD τ) m fullShare (fun t : Fin 16 × Fin 4 => chR t.2 (chF t.2 c t.1.val)) (fun _ _ => rfl)
      (chR_disj c) (chR_cover c) Y

/-- Chunks at some contents are the buffer at some contents. -/
theorem chunks_any (c : Dev nD) :
    (Ns 0 16 fun n => R4 fun r => anyAt (F := F) c (chM m r (chF r c n))) ⊢ anyAt (F := F) c m := by
  rw [← grid_univ fun n r => anyAt (F := F) c (chM m r (chF r c n))]
  refine BIBase.Entails.trans (bigSep_mono fun t _ => ?_)
    (BIBase.Entails.trans (ownsSat_of_rects (c : Thread nD τ) m fullShare (fun t : Fin 16 × Fin 4 => chR t.2 (chF t.2 c t.1.val)) (fun _ _ => rfl)
      (chR_disj c) (chR_cover c) (Ψ := fun _ _ => True)) ?_)
  · exact (ownsSat_true (c : Thread nD τ) _ fullShare).2
  · unfold anyAt
    exact ownsSat_any (c : Thread nD τ) m fullShare

end Chunks

/-! ## The slots of the maxima -/

abbrev slR (e : Dev nD) : Rect S16x8x128 := Rect.unit (s := S16x8x128) ![e.val, 0, 0] S1x8x128.size (inbSlot e)

theorem mem_slR (e : Dev nD) (x : S16x8x128.Idx) : x ∈ (slR e).set ↔ (x 0).val = e.val := by
  rw [Rect.mem_set_unit]
  have h1 : (x 1).val < 8 := (x 1).isLt
  have h2 : (x 2).val < 128 := (x 2).isLt
  constructor
  · intro h
    have h0 : e.val ≤ (x 0).val ∧ (x 0).val < e.val + 1 := h 0
    omega
  · intro h a
    match a with
    | 0 => show e.val ≤ (x 0).val ∧ (x 0).val < e.val + 1; omega
    | 1 => show 0 ≤ (x 1).val ∧ (x 1).val < 0 + 8; omega
    | 2 => show 0 ≤ (x 2).val ∧ (x 2).val < 0 + 128; omega

theorem slR_disj (p q : Dev nD) (h : p ≠ q) : Disjoint (slR p).set (slR q).set := by
  refine Finset.disjoint_left.2 fun x hp hq => h ?_
  rw [mem_slR] at hp hq
  exact Fin.ext (hp.symm.trans hq)

theorem slR_cover : (Finset.univ : Finset (Dev nD)).biUnion (fun p => (slR p).set) = Finset.univ := by
  ext x
  simp only [Finset.mem_biUnion, Finset.mem_univ, true_and, iff_true]
  exact ⟨⟨(x 0).val, (x 0).isLt⟩, (mem_slR _ _).2 rfl⟩

theorem set_slot (e : Dev nD) : (slotC e).view.set = (mxrM.slice (slR e) (fun _ => rfl)).view.set := by
  show ((mxrM.slice (slR e) (fun _ => rfl)).squeeze S8x128 squeezes_S1x8x128_S8x128).view.set = _
  ext i
  constructor
  · intro h
    obtain ⟨x, -, rfl⟩ := Finset.mem_map.1 h
    exact View.emb_mem_set _ _
  · intro h
    obtain ⟨x, -, rfl⟩ := Finset.mem_map.1 h
    refine Finset.mem_map.2 ⟨(Shape.reshapeEquiv squeezes_S1x8x128_S8x128.numel_eq).symm x, Finset.mem_univ _, ?_⟩
    show (mxrM.slice (slR e) (fun _ => rfl)).view.emb (Shape.reshapeEquiv squeezes_S1x8x128_S8x128.numel_eq ((Shape.reshapeEquiv squeezes_S1x8x128_S8x128.numel_eq).symm x)) = _
    rw [Equiv.apply_symm_apply]

theorem anyAt_slot (c e : Dev nD) : anyAt (F := F) c (slotC e) = anyAt (F := F) c (mxrM.slice (slR e) (fun _ => rfl)) := by
  have h1 : anyAt (F := F) c (slotC e) ⊢ anyAt (F := F) c (mxrM.slice (slR e) (fun _ => rfl)) := by
    unfold anyAt owns
    iintro ⟨%Y, %f, -, H⟩
    iexists ((mxrM.slice (slR e) (fun _ => rfl)).view.read (Elt F) f)
    iexists f
    isplitr; · ipureintro; rfl
    rw [← set_slot e]
    iexact H
  have h2 : anyAt (F := F) c (mxrM.slice (slR e) (fun _ => rfl)) ⊢ anyAt (F := F) c (slotC e) := by
    unfold anyAt owns
    iintro ⟨%Y, %f, -, H⟩
    iexists ((slotC e).view.read (Elt F) f)
    iexists f
    isplitr; · ipureintro; rfl
    rw [set_slot e]
    iexact H
  exact Entails.antisymm h1 h2

theorem slots_split (c : Dev nD) : anyAt (F := F) c mxrM ⊢ bigSep Finset.univ fun e : Dev nD => anyAt (F := F) c (slotC e) := by
  rw [bigSep_congr fun e _ => anyAt_slot (F := F) c e]
  have h : ∀ Y : S16x8x128.Idx → Elt F .f32, (owns (c : Thread nD τ) mxrM fullShare Y : sProp 𝕄)
      ⊢ bigSep Finset.univ fun e : Dev nD => anyAt (F := F) c (mxrM.slice (slR e) (fun _ => rfl)) := fun Y =>
    BIBase.Entails.trans (owns_rects (c : Thread nD τ) mxrM fullShare slR (fun _ _ => rfl) slR_disj slR_cover Y)
      (bigSep_mono fun t _ => anyAt_intro)
  unfold anyAt at h ⊢
  iintro ⟨%Y, H⟩
  iapply (h Y)
  iexact H

theorem slots_join (c : Dev nD) : (bigSep Finset.univ fun e : Dev nD => anyAt (F := F) c (slotC e)) ⊢ anyAt (F := F) c mxrM := by
  rw [bigSep_congr fun e _ => anyAt_slot (F := F) c e]
  refine BIBase.Entails.trans (bigSep_mono fun t _ => ?_)
    (BIBase.Entails.trans (ownsSat_of_rects (c : Thread nD τ) mxrM fullShare slR (fun _ _ => rfl) slR_disj slR_cover (Ψ := fun _ _ => True)) ?_)
  · exact (ownsSat_true (c : Thread nD τ) _ fullShare).2
  · unfold anyAt
    exact ownsSat_any (c : Thread nD τ) mxrM fullShare

/-! ## The other fifteen devices -/

theorem ring_all : ∀ c : Dev nD, (Finset.univ : Finset (Dev nD)) = (c :: (List.range' 1 15).map (chF 1 c)).toFinset := by decide +kernel
theorem ring_nodup : ∀ c : Dev nD, (c :: (List.range' 1 15).map (chF 1 c)).Nodup := by decide +kernel
theorem mxD_perm : ∀ c : Dev nD, ((List.range' 1 15).map (chF 1 c)).Perm (steps.map (mxD c)) := by decide +kernel
theorem mxD_perm0 : ∀ c : Dev nD, ((List.range' 1 15).map (chF 0 c)).Perm (steps.map (mxD c)) := by decide +kernel
theorem mxE_perm : ∀ c : Dev nD, (steps.map (mxE c)).Perm (steps.map (mxD c)) := by decide +kernel
theorem nodup0 : ∀ c : Dev nD, ((List.range' 1 15).map (chF 0 c)).Nodup := by decide +kernel
theorem nodupE : ∀ c : Dev nD, (steps.map (mxE c)).Nodup := by decide +kernel

/-- A family over all devices: the device's own, and the others as it counts them up; -/
theorem all_up (c : Dev nD) (Φ : Dev nD → sProp 𝕄) : bigSep Finset.univ Φ = iprop(Φ c ∗ Ns 1 15 fun j => Φ (chF 1 c j)) := by
  rw [bigSep_univ_eq_bigSepL _ (ring_all c) (ring_nodup c) Φ, bigSepL_cons', bigSepL_map]
/-- or as it sends to them; -/
theorem up_mxD (c : Dev nD) (Φ : Dev nD → sProp 𝕄) : (Ns 1 15 fun j => Φ (chF 1 c j)) = bigSepL steps fun i => Φ (mxD c i) := by
  show bigSepL (List.range' 1 15) (fun j => Φ (chF 1 c j)) = _
  rw [← bigSepL_map (chF 1 c), bigSepL_swap (mxD_perm c) (ring_nodup c).of_cons, bigSepL_map]
/-- or counting down; -/
theorem down_mxD (c : Dev nD) (Φ : Dev nD → sProp 𝕄) : (Ns 1 15 fun j => Φ (chF 0 c j)) = bigSepL steps fun i => Φ (mxD c i) := by
  show bigSepL (List.range' 1 15) (fun j => Φ (chF 0 c j)) = _
  rw [← bigSepL_map (chF 0 c), bigSepL_swap (mxD_perm0 c) (nodup0 c), bigSepL_map]
/-- or as they send to it. -/
theorem mxE_mxD_all (c : Dev nD) (Φ : Dev nD → sProp 𝕄) : (bigSepL steps fun i => Φ (mxE c i)) = bigSepL steps fun i => Φ (mxD c i) := by
  rw [← bigSepL_map (mxE c), bigSepL_swap (mxE_perm c) (nodupE c), bigSepL_map]

/-! ## The result -/

/-- The ring and the chunk of a row, -/
def rgOf (x : S4096x2048.Idx) : Fin 4 := bix ⟨(x 0).val / 1024, by have : (x 0).val < 4096 := (x 0).isLt; omega⟩
def ckOf (x : S4096x2048.Idx) : Dev nD := ⟨(x 0).val / 64 % 16, Nat.mod_lt _ (by decide)⟩
/-- and the place in its chunk. -/
def inCh (x : S4096x2048.Idx) : S64x2048.Idx
  | 0 => ⟨(x 0).val % 64, Nat.mod_lt _ (by decide)⟩
  | 1 => ⟨(x 1).val, (x 1).isLt⟩

/-- What device `c`'s result holds. -/
def outV (c : Dev nD) : Vec F S4096x2048 .f32 := fun x => Dv X Wt c (rgOf x) (chF (rgOf x) (ckOf x) 1) (inCh x)

theorem rg_emb : ∀ (r : Fin 4) (k : Dev nD) (i : Fin 64), bix (Fin.ofNat 4 ((rowOf r k.val + i.val) / 1024)) = r := by decide +kernel
theorem ck_emb : ∀ (r : Fin 4) (k : Dev nD) (i : Fin 64), (rowOf r k.val + i.val) / 64 % 16 = k.val := by decide +kernel

theorem outV_emb (c : Dev nD) (r : Fin 4) (n : ℕ) (hn : n < 16) :
    (fun j => outV X Wt c ((chR r (chF r c n)).emb j)) = Dv X Wt c r (chF r c (n + 1)) := by
  funext j
  have hj0 : (j 0).val < 64 := (j 0).isLt
  have hv : ((chR r (chF r c n)).emb j 0).val = rowOf r (chF r c n).val + (j 0).val := by
    show rowOf r (chF r c n).val + 1 * (j 0).val = _; omega
  have hv1 : ((chR r (chF r c n)).emb j 1).val = (j 1).val := by
    show 0 + 1 * (j 1).val = _; omega
  have h1 : rgOf ((chR r (chF r c n)).emb j) = r := by
    have := rg_emb r (chF r c n) ⟨(j 0).val, hj0⟩
    unfold rgOf
    refine Eq.trans (congrArg bix (Fin.ext ?_)) this
    have hlt : ((chR r (chF r c n)).emb j 0).val < 4096 := ((chR r (chF r c n)).emb j 0).isLt
    show ((chR r (chF r c n)).emb j 0).val / 1024 = (rowOf r (chF r c n).val + (j 0).val) / 1024 % 4
    rw [hv] at hlt ⊢; omega
  have h2 : ckOf ((chR r (chF r c n)).emb j) = chF r c n := by
    refine Fin.ext (Eq.trans ?_ (ck_emb r (chF r c n) ⟨(j 0).val, hj0⟩))
    show ((chR r (chF r c n)).emb j 0).val / 64 % 16 = _
    rw [hv]
  have h3 : inCh ((chR r (chF r c n)).emb j) = j := by
    funext a
    refine Fin.ext ?_
    match a with
    | 0 =>
      show ((chR r (chF r c n)).emb j 0).val % 64 = (j 0).val
      rw [hv, rowOf_blk]; omega
    | 1 => exact hv1
  unfold outV
  rw [h1, h2, h3, chF_chF r c hn]

end Cert.KernelIdeal.Hand

end
-- ==== Proof.KernelIdeal.Whole.lean ====
/- The whole body of the kernel on one device: what it begins with, dealt to the three parts, and what it ends with. -/
module

public import proofs.«01_k».proof.Proof.KernelIdeal.Split

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (X : Dev nD → Vec F S4096x256 .f32) (Wt : Dev nD → Vec F S256x2048 .f32)

theorem Ns_congr (n m : ℕ) (Φ Ψ : ℕ → sProp 𝕄) (h : ∀ s, n ≤ s → s < n + m → Φ s = Ψ s) : Ns n m Φ = Ns n m Ψ := by
  induction m generalizing n with
  | zero => rfl
  | succ m ih => rw [Ns_first, Ns_first, h n (le_refl _) (by omega), ih (n + 1) fun s h1 h2 => h s (by omega) (by omega)]

/-- One thing for each payment of a device, -/
def pays (tk : It → sProp 𝕄) : sProp 𝕄 :=
  iprop((tk .b0 ∗ tk .b1) ∗ R4 (fun r => tk (.rs r 0)) ∗ (Ns 0 14 fun s => R4 fun r => iprop(tk (.cr r s) ∗ tk (.rs r (s + 1))))
    ∗ (bigSepL steps fun i => tk (.mx i)) ∗ Ns 0 15 fun s => R4 fun r => tk (.ag r s))

theorem pays_eq (tk : It → sProp 𝕄) : bigSepL allIts tk ⊢ pays tk := by
  have h2 : ∀ s, bigSepL (rsIts s) tk = R4 fun r => iprop(tk (.cr r s) ∗ tk (.rs r (s + 1))) := fun s => by
    unfold rsIts
    rw [bigSepL_flatMap]
    refine congrArg (bigSepL rings) (funext fun r => ?_)
    rw [bigSepL_cons', bigSepL_singleton]
  have h3 : ∀ s, bigSepL (agIts s) tk = R4 fun r => tk (.ag r s) := fun s => bigSepL_map _ _ _
  unfold allIts firstFrom rsFrom mxFrom agFrom pays
  rw [bigSepL_cons', bigSepL_cons', bigSepL_append, bigSepL_append, bigSepL_append, bigSepL_flatMap, bigSepL_flatMap, List.drop_zero, List.drop_zero,
    bigSepL_map, bigSepL_map]
  simp only [h2, h3]
  iintro ⟨H0, H1, H2, H3, H4, H5⟩
  isplitl [H0 H1]
  · isplitl [H0]; · iexact H0
    iexact H1
  isplitl [H2]; · iexact H2
  isplitl [H3]; · iexact H3
  isplitl [H4]; · iexact H4
  iexact H5

/-- one thing for each semaphore of the kernel's own. -/
def each (c : Dev nD) (Φ : SemLoc sig → sProp 𝕄) : sProp 𝕄 :=
  iprop(R4 (fun r => Φ (.reg (creditS r))) ∗ R4 (fun r => Φ (.dma (rsSend r))) ∗ R4 (fun r => Φ (.dma (rsRecv r))) ∗ R4 (fun r => Φ (.dma (agSend r)))
    ∗ (Ns 0 15 fun s => R4 fun r => Φ (.dma (agRecvN r s))) ∗ (bigSepL steps fun i => Φ (.dma (mxSend i)))
    ∗ Φ (.dma (mxRecv c)) ∗ bigSepL steps fun i => Φ (.dma (mxRecv (mxD c i))))

/-- The semaphores listed so. -/
def semsL (c : Dev nD) : List (SemLoc sig) :=
  rings.map (fun r => .reg (creditS r)) ++ (rings.map (fun r => .dma (rsSend r)) ++ (rings.map (fun r => .dma (rsRecv r)) ++ (rings.map (fun r => .dma (agSend r))
    ++ ((List.range' 0 15).flatMap (fun s => rings.map fun r => .dma (agRecvN r s)) ++ (steps.map (fun i => .dma (mxSend i))
    ++ (.dma (mxRecv c) :: steps.map fun i => .dma (mxRecv (mxD c i))))))))

/-- The place of a semaphore among the kernel's own. -/
def numOf : SemLoc sig → ℕ
  | .reg i => i.val
  | .dma i => i.val + 1

theorem numOf_osem : ∀ i : Fin 107, numOf (osem i) = i.val := by decide +kernel
theorem osem_inj : Function.Injective osem := fun i j h => Fin.ext (by rw [← numOf_osem i, ← numOf_osem j, h])
theorem semsL_nodup : ∀ c : Dev nD, ((semsL c).map numOf).Nodup := by decide +kernel
theorem semsL_mem : ∀ (c : Dev nD) (i : Fin 107), osem i ∈ semsL c := by decide +kernel
theorem semsL_own : ∀ c : Dev nD, ∀ sm ∈ semsL c, ∃ i : Fin 107, osem i = sm := by decide +kernel

theorem each_eq (c : Dev nD) (Φ : SemLoc sig → sProp 𝕄) : (bigSep Finset.univ fun i : Fin 107 => Φ (osem i)) = each c Φ := by
  have h1 : (bigSep Finset.univ fun i : Fin 107 => Φ (osem i)) = bigSep (Finset.univ.map ⟨osem, osem_inj⟩) Φ := by rw [bigSep_map]; rfl
  have h2 : Finset.univ.map ⟨osem, osem_inj⟩ = (semsL c).toFinset := by
    ext sm
    rw [Finset.mem_map, List.mem_toFinset]
    constructor
    · rintro ⟨i, -, rfl⟩; exact semsL_mem c i
    · intro h; obtain ⟨i, hi⟩ := semsL_own c sm h; exact ⟨i, Finset.mem_univ _, hi⟩
  rw [h1, bigSep_eq_bigSepL_of_eq _ h2 (List.Nodup.of_map _ (semsL_nodup c)) Φ]
  unfold semsL each
  rw [bigSepL_append, bigSepL_append, bigSepL_append, bigSepL_append, bigSepL_append, bigSepL_append, bigSepL_flatMap, bigSepL_cons']
  simp only [bigSepL_map]

/-! ## What the body begins and ends with -/

/-- The tokens of a device's payments to itself. -/
def selfs (c : Dev nD) : sProp 𝕄 :=
  iprop((Ns 0 15 fun n => R4 fun r => stok (F := F) c (.dma (rsSend r)) n) ∗ (Ns 0 15 fun n => R4 fun r => stok (F := F) c (.dma (agSend r)) n)
    ∗ bigSepL steps fun i => stok (F := F) c (.dma (mxSend i)) 0)

/-- The buffers other than those of the input and the result. -/
def rest (c : Dev nD) : sProp 𝕄 :=
  iprop(anyAt (F := F) c agM ∗ R4 (fun r => anyAt (F := F) c (rcvM r)) ∗ R4 (AA (F := F) c) ∗ anyAt (F := F) c mxsM ∗ anyAt (F := F) c mxrM)

def bodyIn (c : Dev nD) : sProp 𝕄 :=
  iprop(St X Wt c allIts ∗ pays (It.tok (F := F) c) ∗ pays (It.crd (F := F) c) ∗ selfs (F := F) c
    ∗ (pos c (.reg barS) 0 ∗ each c fun sm => pos (F := F) c sm 0) ∗ (inp X Wt c ∗ anyAt (F := F) c oM) ∗ rest (F := F) c)
def bodyOut (c : Dev nD) : sProp 𝕄 :=
  iprop(St X Wt c [] ∗ (pos c (.reg barS) 1 ∗ each c fun sm => pos (F := F) c sm (nRounds c (kindOf sm)))
    ∗ (inp X Wt c ∗ owns (c : Thread nD τ) oM fullShare (outV X Wt c)) ∗ rest (F := F) c)

/-! ## The beginning -/

theorem out_start (c : Dev nD) : anyAt (F := F) c oM ⊢ iprop(R4 (OA (F := F) c 0) ∗ Ns 0 15 fun s => R4 (OA (F := F) c (s + 1))) := by
  refine BIBase.Entails.trans (chunks_split oM c) (Entails.of_eq ?_)
  rw [Ns_first, Ns_shift]; rfl

theorem ag_start (c : Dev nD) : iprop(anyAt (F := F) c agM ∗ R4 (fun r => anyAt (F := F) c (rcvM r)))
    ⊢ iprop(R4 (fun r => Lend (F := F) r c) ∗ R4 (AG (F := F) c 15)) := by
  have h : R4 (fun r => Lend (F := F) r c) = iprop(R4 (fun r => anyAt (F := F) c (rcvM r)) ∗ Ns 0 15 fun s => R4 (AG (F := F) c s)) := by
    unfold Lend
    rw [R4_two, Ns_R4]
    simp only [range15]
    rfl
  have h' : (Ns 0 16 fun n => R4 fun r => anyAt (F := F) c (chM agM r (chF r c n)))
      = iprop((Ns 0 15 fun s => R4 (AG (F := F) c s)) ∗ R4 (AG (F := F) c 15)) := Ns_last 0 15 _
  rw [h]
  iintro ⟨HA, HR⟩
  ihave HA := (chunks_split agM c) $$ HA
  ihave HA := (Entails.of_eq h') $$ HA
  icases HA with ⟨HA, HE⟩
  isplitl [HA HR]
  · isplitl [HR]; · iexact HR
    iexact HA
  iexact HE

theorem mx_start (c : Dev nD) : anyAt (F := F) c mxrM ⊢ iprop(R4 (fun r => fwd (F := F) c r 0) ∗ anyAt (F := F) c (slotC c)) := by
  refine BIBase.Entails.trans (slots_split c) ?_
  rw [all_up c, R4_eq, ← ico16 (fun j => anyAt (F := F) c (slotC (chF 1 c j)))]
  have h0 : fwd (F := F) c 0 0 = bigSep (Finset.Ico 1 16) fun j => anyAt (F := F) c (slotC (chF 1 c j)) := by
    unfold fwd slotsP; rw [if_pos rfl, chF_zero]
  have h1 : fwd (F := F) c 1 0 = iprop(emp) := if_neg (by decide)
  have h2 : fwd (F := F) c 2 0 = iprop(emp) := if_neg (by decide)
  have h3 : fwd (F := F) c 3 0 = iprop(emp) := if_neg (by decide)
  rw [h0, h1, h2, h3]
  iintro ⟨Hc, H⟩
  isplitl [H]
  · isplitl [H]; · iexact H
    isplitl []; · iempintro
    isplitl [] <;> iempintro
  iexact Hc

theorem RTt_deal (c : Dev nD) :
    iprop((Ns 0 14 fun s => R4 fun r => stok (F := F) c (.dma (rsSend r)) (s + 1))
      ∗ (Ns 0 14 fun s => R4 fun r => iprop(It.tok (F := F) c (.cr r s) ∗ It.tok (F := F) c (.rs r (s + 1))))
      ∗ (Ns 0 14 fun s => R4 fun r => iprop(It.crd (F := F) c (.cr r s) ∗ It.crd (F := F) c (.rs r (s + 1)))))
      ⊢ Ns 0 14 fun s => R4 (RTt (F := F) c s) := by
  have h : (Ns 0 14 fun s => R4 (RTt (F := F) c s))
      = iprop((Ns 0 14 fun s => R4 fun r => stok (F := F) c (.dma (rsSend r)) (s + 1))
        ∗ (Ns 0 14 fun s => R4 fun r => It.tok (F := F) c (.cr r s)) ∗ (Ns 0 14 fun s => R4 fun r => It.tok (F := F) c (.rs r (s + 1)))
        ∗ (Ns 0 14 fun s => R4 fun r => It.crd (F := F) c (.cr r s)) ∗ (Ns 0 14 fun s => R4 fun r => It.crd (F := F) c (.rs r (s + 1)))) := by
    rw [← Ns_two, ← Ns_two, ← Ns_two, ← Ns_two]
    refine congrArg (Ns 0 14) (funext fun s => ?_)
    rw [← R4_two, ← R4_two, ← R4_two, ← R4_two]
    rfl
  rw [h]
  simp only [R4_two, Ns_two]
  iintro ⟨H1, ⟨H2, H3⟩, H4, H5⟩
  isplitl [H1]; · iexact H1
  isplitl [H2]; · iexact H2
  isplitl [H3]; · iexact H3
  isplitl [H4]; · iexact H4
  iexact H5

theorem bar_crd (c : Dev nD) : iprop(It.crd (F := F) c .b0 ∗ It.crd (F := F) c .b1) ⊢ (cred (tallyAt (cellC c (.reg barS)) 1 2) : sProp 𝕄) := by
  have e : (tallyAt (cellC c (.reg barS)) 1 2 : CellTallies nD τ sig ℕ) = tallyAt (cellC c (.reg barS)) 1 1 + tallyAt (cellC c (.reg barS)) 1 1 := by
    exact (tallyAt_add _ _ 1 1).symm
  rw [e]
  exact (cred_add _ _).2

/-- What is kept for the maxima and the gather. -/
def later (c : Dev nD) : sProp 𝕄 :=
  iprop((anyAt (F := F) c (slotC c) ∗ R4 (AG (F := F) c 15) ∗ anyAt (F := F) c mxsM)
    ∗ ((bigSepL steps fun i => It.tok (F := F) c (.mx i)) ∗ Ns 0 15 fun s => R4 fun r => It.tok (F := F) c (.ag r s))
    ∗ ((bigSepL steps fun i => It.crd (F := F) c (.mx i)) ∗ Ns 0 15 fun s => R4 fun r => It.crd (F := F) c (.ag r s))
    ∗ ((Ns 0 15 fun n => R4 fun r => stok (F := F) c (.dma (agSend r)) n) ∗ bigSepL steps fun i => stok (F := F) c (.dma (mxSend i)) 0)
    ∗ R4 (fun r => pos (F := F) c (.dma (agSend r)) 0)
    ∗ (Ns 0 15 fun s => R4 fun r => pos (F := F) c (.dma (agRecvN r s)) 0) ∗ (bigSepL steps fun i => pos (F := F) c (.dma (mxSend i)) 0)
    ∗ pos (F := F) c (.dma (mxRecv c)) 0 ∗ bigSepL steps fun i => pos (F := F) c (.dma (mxRecv (mxD c i))) 0)

theorem begin_body (c : Dev nD) : bodyIn X Wt c ⊢ iprop(rsPre X Wt c ∗ later (F := F) c) := by
  have hs : (Ns 0 15 fun n => R4 fun r => stok (F := F) c (.dma (rsSend r)) n)
      = iprop(R4 (fun r => stok (F := F) c (.dma (rsSend r)) 0) ∗ Ns 0 14 fun n => R4 fun r => stok (F := F) c (.dma (rsSend r)) (n + 1)) := by
    rw [Ns_first, Ns_shift]
  have hB : R4 (RB (F := F) c) = iprop(R4 (fun r => pos (F := F) c (.dma (rsSend r)) 0) ∗ R4 (fun r => pos (F := F) c (.dma (rsRecv r)) 0)
      ∗ R4 (fun r => pos (F := F) c (.reg (creditS r)) 0) ∗ R4 (fun r => It.crd (F := F) c (.rs r 0)) ∗ R4 (AA (F := F) c)) := by
    rw [← R4_two, ← R4_two, ← R4_two, ← R4_two]; rfl
  have hF : R4 (RFt (F := F) c) = iprop(R4 (fun r => stok (F := F) c (.dma (rsSend r)) 0) ∗ R4 fun r => It.tok (F := F) c (.rs r 0)) := by
    rw [← R4_two]; rfl
  unfold bodyIn rsPre later pays selfs each rest
  rw [hs, hB, hF]
  iintro ⟨HS, ⟨⟨Ht0, Ht1⟩, HtF, HtT, HtM, HtG⟩, ⟨Hcb, HcF, HcT, HcM, HcG⟩, ⟨⟨Hs0, HsT⟩, HsG, HsM⟩, ⟨Hpb, Hpc, Hps, Hpr, Hpg, HpG, HpM, Hpo, HpR⟩,
    ⟨Hin, HO⟩, ⟨HA, Hrcv, Hacc, Hmxs, Hmxr⟩⟩
  icases (out_start c) $$ HO with ⟨HO0, HO⟩
  icases (ag_start c) $$ [HA Hrcv] with ⟨HL, HA⟩
  · isplitl [HA]; · iexact HA
    iexact Hrcv
  icases (mx_start c) $$ Hmxr with ⟨Hf, Hown⟩
  ihave Hcb := (bar_crd c) $$ Hcb
  ihave HT := (RTt_deal c) $$ [HsT HtT HcT]
  · isplitl [HsT]; · iexact HsT
    isplitl [HtT]; · iexact HtT
    iexact HcT
  isplitl [HS Ht0 Ht1 HL Hpb Hcb Hin HO0 HO Hs0 HtF Hf Hps Hpr Hpc HcF Hacc HT]
  · isplitl [HS Ht0 Ht1 HL Hpb Hcb]
    · isplitl [HS]; · iexact HS
      isplitl [Ht0]; · iexact Ht0
      isplitl [Ht1]; · iexact Ht1
      isplitl [HL]; · iexact HL
      isplitl [Hpb]; · iexact Hpb
      iexact Hcb
    isplitl [Hin]; · iexact Hin
    isplitl [HO0 HO]
    · isplitl [HO0]; · iexact HO0
      iexact HO
    isplitl [Hs0 HtF]
    · isplitl [Hs0]; · iexact Hs0
      iexact HtF
    isplitl [Hf]; · iexact Hf
    isplitl [Hps Hpr Hpc HcF Hacc]
    · isplitl [Hps]; · iexact Hps
      isplitl [Hpr]; · iexact Hpr
      isplitl [Hpc]; · iexact Hpc
      isplitl [HcF]; · iexact HcF
      iexact Hacc
    iexact HT
  isplitl [Hown HA Hmxs]
  · isplitl [Hown]; · iexact Hown
    isplitl [HA]; · iexact HA
    iexact Hmxs
  isplitl [HtM HtG]
  · isplitl [HtM]; · iexact HtM
    iexact HtG
  isplitl [HcM HcG]
  · isplitl [HcM]; · iexact HcM
    iexact HcG
  isplitl [HsG HsM]
  · isplitl [HsG]; · iexact HsG
    iexact HsM
  isplitl [Hpg]; · iexact Hpg
  isplitl [HpG]; · iexact HpG
  isplitl [HpM]; · iexact HpM
  isplitl [Hpo]; · iexact Hpo
  iexact HpR

end Cert.KernelIdeal.Hand

end
-- ==== Proof.KernelIdeal.Body.lean ====
/- The whole body of the kernel on one device, run: the three parts one after the other, and what is left put together. -/
module

public import proofs.«01_k».proof.Proof.KernelIdeal.Whole

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (X : Dev nD → Vec F S4096x256 .f32) (Wt : Dev nD → Vec F S256x2048 .f32)

/-- The sums' end and what was kept are what the maxima begin with and what the gather takes. -/
def mid (c : Dev nD) : sProp 𝕄 :=
  iprop((pos c (.reg barS) 1 ∗ inp X Wt c)
    ∗ (R4 (fun r => pos (F := F) c (.dma (rsSend r)) 15) ∗ R4 (fun r => pos (F := F) c (.dma (rsRecv r)) 15) ∗ R4 (fun r => pos (F := F) c (.reg (creditS r)) 14))
    ∗ (R4 (fun r => anyAt (F := F) c (rcvM r)) ∗ anyAt (F := F) c (slotC c) ∗ pos (F := F) c (.dma (mxRecv c)) 0)
    ∗ (R4 (AG (F := F) c 15) ∗ R4 (OA (F := F) c 15) ∗ R4 (fun r => pos (F := F) c (.dma (agSend r)) 0)
      ∗ Ns 0 15 (fun s => R4 (fun r => GU (F := F) c r s)) ∗ Ns 0 15 (fun s => R4 (fun r => GW (F := F) c r s))))

theorem RE_split (c : Dev nD) : R4 (RE X Wt c)
    ⊢ iprop((R4 (fun r => pos (F := F) c (.dma (rsSend r)) 15) ∗ R4 (fun r => pos (F := F) c (.dma (rsRecv r)) 15) ∗ R4 (fun r => pos (F := F) c (.reg (creditS r)) 14))
      ∗ R4 (fun r => anyAt (F := F) c (rcvM r)) ∗ R4 (ACC X Wt c) ∗ (R4 (OA (F := F) c 0) ∗ R4 (OA (F := F) c 15))
      ∗ bigSepL steps fun i => anyAt (F := F) (mxD c i) (slotC c)) := by
  have h : R4 (RE X Wt c)
      = iprop((R4 (fun r => pos (F := F) c (.dma (rsSend r)) 15) ∗ R4 (fun r => pos (F := F) c (.dma (rsRecv r)) 15) ∗ R4 (fun r => pos (F := F) c (.reg (creditS r)) 14))
      ∗ R4 (fun r => anyAt (F := F) c (rcvM r)) ∗ R4 (ACC X Wt c) ∗ (R4 (OA (F := F) c 0) ∗ R4 (OA (F := F) c 15)) ∗ R4 fun r => kps (F := F) c r 15) := by
    rw [← R4_two, ← R4_two, ← R4_two, ← R4_two, ← R4_two, ← R4_two, ← R4_two]; rfl
  have hk : R4 (fun r => kps (F := F) c r 15) ⊢ bigSepL steps fun i => anyAt (F := F) (mxD c i) (slotC c) := by
    rw [R4_eq, ← down_mxD c (fun d => anyAt (F := F) d (slotC c))]
    have h0 : kps (F := F) c 0 15 = Ns 1 15 fun j => anyAt (F := F) (chF 0 c j) (slotC c) := by
      unfold kps
      rw [ico16]
      exact congrArg (Ns 1 15) (funext fun j => if_pos rfl)
    rw [h0]
    iintro ⟨H, -⟩
    iexact H
  rw [h]
  iintro ⟨H1, H2, H3, H4, H5⟩
  isplitl [H1]; · iexact H1
  isplitl [H2]; · iexact H2
  isplitl [H3]; · iexact H3
  isplitl [H4]; · iexact H4
  iapply hk; iexact H5

theorem sums_to_maxima (c : Dev nD) : iprop(rsPost X Wt c ∗ later (F := F) c) ⊢ iprop(mxPre X Wt c ∗ mid X Wt c) := by
  have hAGL : R4 (AGL (F := F) c) = Ns 0 15 fun s => R4 fun r => anyAt (F := F) (toD r c) (agC r (chF r (toD r c) s)) := by
    rw [Ns_R4]
    exact congrArg (bigSepL rings) (funext fun r => range15 _)
  have hGU : (Ns 0 15 fun s => R4 fun r => GU (F := F) c r s) = iprop((Ns 0 15 fun n => R4 fun r => stok (F := F) c (.dma (agSend r)) n)
      ∗ (Ns 0 15 fun s => R4 fun r => It.tok (F := F) c (.ag r s)) ∗ Ns 0 15 fun s => R4 fun r => anyAt (F := F) (toD r c) (agC r (chF r (toD r c) s))) := by
    rw [← Ns_two, ← Ns_two]
    refine congrArg (Ns 0 15) (funext fun s => ?_)
    rw [← R4_two, ← R4_two]; rfl
  have hGW : (Ns 0 15 fun s => R4 fun r => GW (F := F) c r s) = iprop((Ns 0 15 fun s => R4 fun r => pos (F := F) c (.dma (agRecvN r s)) 0)
      ∗ (Ns 0 15 fun s => R4 fun r => It.crd (F := F) c (.ag r s)) ∗ R4 (OA (F := F) c 0) ∗ Ns 0 14 fun s => R4 (OA (F := F) c (s + 1))) := by
    have e : iprop(R4 (OA (F := F) c 0) ∗ Ns 0 14 fun s => R4 (OA (F := F) c (s + 1))) = Ns 0 15 fun s => R4 (OA (F := F) c s) := by
      rw [Ns_first 0 14 (fun s => R4 (OA (F := F) c s)), Ns_shift]
    rw [e, ← Ns_two, ← Ns_two]
    refine congrArg (Ns 0 15) (funext fun s => ?_)
    rw [← R4_two, ← R4_two]; rfl
  have hXT : bigSepL steps (XT (F := F) c) = iprop((bigSepL steps fun i => stok (F := F) c (.dma (mxSend i)) 0) ∗ (bigSepL steps fun i => It.tok (F := F) c (.mx i))
      ∗ bigSepL steps fun i => anyAt (F := F) (mxD c i) (slotC c)) := by
    rw [← bigSepL_two, ← bigSepL_two]; rfl
  have hXW : bigSepL steps (XW (F := F) c) = iprop((bigSepL steps fun i => pos (F := F) c (.dma (mxRecv (mxD c i))) 0) ∗ bigSepL steps fun i => It.crd (F := F) c (.mx i)) := by
    have e : (bigSepL steps fun i => It.crd (F := F) c (.mx i)) = bigSepL steps fun i => (cred (tallyAt (cellC c (.dma (mxRecv (mxD c i)))) 1000 Nm) : sProp 𝕄) :=
      mxE_mxD_all c fun d => (cred (tallyAt (cellC c (.dma (mxRecv d))) 1000 Nm) : sProp 𝕄)
    rw [e, ← bigSepL_two]; rfl
  unfold rsPost later mxPre mid
  rw [hAGL, hGU, hGW, hXT, hXW]
  iintro ⟨⟨HS, Hpb, Hin, HAG, HRE, HO⟩, ⟨Hown, HA, Hmxs⟩, ⟨HtM, HtG⟩, ⟨HcM, HcG⟩, ⟨HsG, HsM⟩, Hpg, HpG, HpM, Hpo, HpR⟩
  icases (RE_split X Wt c) $$ HRE with ⟨Hp, Hrcv, Hacc, ⟨HO0, HOe⟩, Hk⟩
  isplitl [HS Hacc Hmxs HsM HtM Hk HpR HcM HpM]
  · isplitl [HS]; · iexact HS
    isplitl [Hacc]; · iexact Hacc
    isplitl [Hmxs]; · iexact Hmxs
    isplitl [HsM HtM Hk]
    · isplitl [HsM]; · iexact HsM
      isplitl [HtM]; · iexact HtM
      iexact Hk
    isplitl [HpR HcM]
    · isplitl [HpR]; · iexact HpR
      iexact HcM
    iexact HpM
  isplitl [Hpb Hin]
  · isplitl [Hpb]; · iexact Hpb
    iexact Hin
  isplitl [Hp]; · iexact Hp
  isplitl [Hrcv Hown Hpo]
  · isplitl [Hrcv]; · iexact Hrcv
    isplitl [Hown]; · iexact Hown
    iexact Hpo
  isplitl [HA]; · iexact HA
  isplitl [HOe]; · iexact HOe
  isplitl [Hpg]; · iexact Hpg
  isplitl [HsG HtG HAG]
  · isplitl [HsG]; · iexact HsG
    isplitl [HtG]; · iexact HtG
    iexact HAG
  isplitl [HpG]; · iexact HpG
  isplitl [HcG]; · iexact HcG
  isplitl [HO0]; · iexact HO0
  iexact HO

/-! ## The end -/

theorem out_end (c : Dev nD) : iprop((Ns 0 15 fun s => R4 (OD X Wt c s)) ∗ R4 (OD X Wt c 15)) ⊢ (owns (c : Thread nD τ) oM fullShare (outV X Wt c) : sProp 𝕄) := by
  refine BIBase.Entails.trans (Entails.of_eq ?_) (chunks_join oM c (outV X Wt c))
  rw [← Ns_last 0 15 (fun s => R4 (OD X Wt c s))]
  refine Ns_congr 0 16 _ _ fun n _ hn => congrArg R4 (funext fun r => ?_)
  exact congrArg (owns (c : Thread nD τ) (oC r (chF r c n)) fullShare) (outV_emb X Wt c r n (by omega)).symm

theorem ag_end (c : Dev nD) : iprop((Ns 0 15 fun s => R4 fun r => anyAt (F := F) c (agC r (chF r c (s + 15)))) ∗ R4 (AG (F := F) c 14)) ⊢ anyAt (F := F) c agM := by
  have h : iprop((Ns 0 15 fun s => R4 (AG (F := F) c s)) ∗ R4 (AG (F := F) c 15)) ⊢ anyAt (F := F) c agM := by
    rw [← Ns_last 0 15 (fun s => R4 (AG (F := F) c s))]
    exact chunks_any agM c
  have e : (Ns 0 15 fun s => R4 fun r => anyAt (F := F) c (agC r (chF r c (s + 15))))
      = iprop(R4 (AG (F := F) c 15) ∗ Ns 0 14 fun s => R4 (AG (F := F) c s)) := by
    rw [Ns_first, Ns_shift]
    refine congrArg₂ BI.sep rfl (Ns_congr 0 14 _ _ fun n _ hn => congrArg R4 (funext fun r => ?_))
    show anyAt (F := F) c (agC r (chF r c (n + 16))) = _
    rw [chF_add r c (by omega)]; rfl
  rw [e]
  iintro ⟨⟨H15, H⟩, H14⟩
  iapply h
  rw [Ns_last 0 14 (fun s => R4 (AG (F := F) c s))]
  isplitl [H H14]
  · isplitl [H]; · iexact H
    iexact H14
  iexact H15

theorem mx_end (c : Dev nD) : iprop(anyAt (F := F) c (slotC c) ∗ bigSepL steps fun i => anyAt (F := F) c (slotC (mxD c i))) ⊢ anyAt (F := F) c mxrM := by
  refine BIBase.Entails.trans (Entails.of_eq ?_) (slots_join c)
  rw [all_up c, up_mxD c fun e => anyAt (F := F) c (slotC e)]

/-- What the maxima leave for the end. -/
def kept (c : Dev nD) : sProp 𝕄 :=
  iprop((pos c (.reg barS) 1 ∗ inp X Wt c)
    ∗ (R4 (fun r => pos (F := F) c (.dma (rsSend r)) 15) ∗ R4 (fun r => pos (F := F) c (.dma (rsRecv r)) 15) ∗ R4 (fun r => pos (F := F) c (.reg (creditS r)) 14))
    ∗ (R4 (fun r => anyAt (F := F) c (rcvM r)) ∗ anyAt (F := F) c (slotC c) ∗ pos (F := F) c (.dma (mxRecv c)) 0)
    ∗ anyAt (F := F) c mxsM ∗ bigSepL steps (XD (F := F) c) ∗ bigSepL steps fun i => pos (F := F) c (.dma (mxSend i)) 1)

theorem maxima_to_gather (c : Dev nD) : iprop(mxPost X Wt c ∗ mid X Wt c) ⊢ iprop(agPre X Wt c ∗ kept X Wt c) := by
  unfold mxPost mid agPre kept
  iintro ⟨⟨HS, Hacc, Hmxs, HXD, HpM⟩, H1, H2, H3, HA, HO, Hpg, HU, HW⟩
  isplitl [HS Hacc HA HO Hpg HU HW]
  · isplitl [HS]; · iexact HS
    isplitl [Hacc HA HO]
    · isplitl [Hacc]; · iexact Hacc
      isplitl [HA]; · iexact HA
      iexact HO
    isplitl [Hpg]; · iexact Hpg
    isplitl [HU]; · iexact HU
    iexact HW
  isplitl [H1]; · iexact H1
  isplitl [H2]; · iexact H2
  isplitl [H3]; · iexact H3
  isplitl [Hmxs]; · iexact Hmxs
  isplitl [HXD]; · iexact HXD
  iexact HpM

theorem rounds_of (c : Dev nD) {sm : SemLoc sig} {k : Kd} (h : kindOf sm = k) {n : ℕ} (hn : nRounds c k = n) : nRounds c (kindOf sm) = n := by rw [h, hn]

theorem each_end (c : Dev nD) : (each c fun sm => pos (F := F) c sm (nRounds c (kindOf sm)))
    = iprop(R4 (fun r => pos (F := F) c (.reg (creditS r)) 14) ∗ R4 (fun r => pos (F := F) c (.dma (rsSend r)) 15) ∗ R4 (fun r => pos (F := F) c (.dma (rsRecv r)) 15)
      ∗ R4 (fun r => pos (F := F) c (.dma (agSend r)) 15) ∗ (Ns 0 15 fun s => R4 fun r => pos (F := F) c (.dma (agRecvN r s)) 1)
      ∗ (bigSepL steps fun i => pos (F := F) c (.dma (mxSend i)) 1) ∗ pos (F := F) c (.dma (mxRecv c)) 0 ∗ bigSepL steps fun i => pos (F := F) c (.dma (mxRecv (mxD c i))) 1) := by
  have h1 : ∀ r, nRounds c (kindOf (.reg (creditS r))) = 14 := fun r => rounds_of c (kind_cr r) rfl
  have h2 : ∀ r, nRounds c (kindOf (.dma (rsSend r))) = 15 := fun r => rounds_of c (kind_rsS r) rfl
  have h3 : ∀ r, nRounds c (kindOf (.dma (rsRecv r))) = 15 := fun r => rounds_of c (kind_rsR r) rfl
  have h4 : ∀ r, nRounds c (kindOf (.dma (agSend r))) = 15 := fun r => rounds_of c (kind_agS r) rfl
  have h5 : ∀ r s, nRounds c (kindOf (.dma (agRecvN r s))) = 1 := fun r s => rounds_of c (kind_agR r _) rfl
  have h6 : ∀ i, nRounds c (kindOf (.dma (mxSend i))) = 1 := fun i => rounds_of c (kind_mxS i) rfl
  have h7 : nRounds c (kindOf (.dma (mxRecv c))) = 0 := rounds_of c (kind_mxR c) (if_pos rfl)
  have h8 : ∀ i, nRounds c (kindOf (.dma (mxRecv (mxD c i)))) = 1 := fun i => rounds_of c (kind_mxR _) (if_neg (mxD_ne c i))
  unfold each
  simp only [h1, h2, h3, h4, h5, h6, h7, h8]

theorem end_body (c : Dev nD) : iprop(agPost X Wt c ∗ kept X Wt c) ⊢ bodyOut X Wt c := by
  have hGD : (Ns 0 15 fun s => R4 fun r => GD X Wt c r s) = iprop((Ns 0 15 fun s => R4 fun r => pos (F := F) c (.dma (agRecvN r s)) 1)
      ∗ (Ns 0 15 fun s => R4 fun r => anyAt (F := F) c (agC r (chF r c (s + 15)))) ∗ Ns 0 15 fun s => R4 (OD X Wt c s)) := by
    rw [← Ns_two, ← Ns_two]
    refine congrArg (Ns 0 15) (funext fun s => ?_)
    rw [← R4_two, ← R4_two]; rfl
  have hGE : R4 (GE (F := F) c) = iprop(R4 (fun r => pos (F := F) c (.dma (agSend r)) 15) ∗ R4 (AG (F := F) c 14)) := by
    rw [← R4_two]; rfl
  have hXD : bigSepL steps (XD (F := F) c) = iprop((bigSepL steps fun i => pos (F := F) c (.dma (mxRecv (mxD c i))) 1)
      ∗ bigSepL steps fun i => anyAt (F := F) c (slotC (mxD c i))) := by rw [← bigSepL_two]; rfl
  unfold agPost kept bodyOut rest
  rw [hGD, hGE, hXD, each_end]
  iintro ⟨⟨HS, Hacc, HOe, ⟨Hpg, HAe⟩, HpG, HA, HO⟩, ⟨Hpb, Hin⟩, ⟨Hps, Hpr, Hpc⟩, ⟨Hrcv, Hown, Hpo⟩, Hmxs, ⟨HpR, Hsl⟩, HpM⟩
  ihave HOut := (out_end X Wt c) $$ [HO HOe]
  · isplitl [HO]; · iexact HO
    iexact HOe
  ihave HAg := (ag_end c) $$ [HA HAe]
  · isplitl [HA]; · iexact HA
    iexact HAe
  ihave HMx := (mx_end c) $$ [Hown Hsl]
  · isplitl [Hown]; · iexact Hown
    iexact Hsl
  isplitl [HS]; · iexact HS
  isplitl [Hpb Hps Hpr Hpc Hpg HpG HpM Hpo HpR]
  · isplitl [Hpb]; · iexact Hpb
    isplitl [Hpc]; · iexact Hpc
    isplitl [Hps]; · iexact Hps
    isplitl [Hpr]; · iexact Hpr
    isplitl [Hpg]; · iexact Hpg
    isplitl [HpG]; · iexact HpG
    isplitl [HpM]; · iexact HpM
    isplitl [Hpo]; · iexact Hpo
    iexact HpR
  isplitl [Hin HOut]
  · isplitl [Hin]; · iexact Hin
    iexact HOut
  isplitl [HAg]; · iexact HAg
  isplitl [Hrcv]; · iexact Hrcv
  isplitl [Hacc]; · iexact Hacc
  isplitl [Hmxs]; · iexact Hmxs
  iexact HMx

/-- The kernel's body on device `c`. -/
theorem body_rule (c : Dev nD) {Q : PUnit → sProp 𝕄} :
    (iprop(bodyIn X Wt c ∗ (bodyOut X Wt c -∗ WP c (.ret ⟨⟩) Q)) : sProp 𝕄) ⊢ WP c (rsPart c <| mxPart c fun sc => agPart c sc) Q := by
  iintro ⟨H, Hk⟩
  icases (begin_body X Wt c) $$ H with ⟨HR, HL⟩
  iapply (rsPart_rule X Wt)
  isplitl [HR]; · iexact HR
  iintro HR
  icases (sums_to_maxima X Wt c) $$ [HR HL] with ⟨HM, HL⟩
  · isplitl [HR]; · iexact HR
    iexact HL
  iapply (mxPart_rule X Wt (fun sc => agPart c sc))
  isplitl [HM]; · iexact HM
  iintro HM
  icases (maxima_to_gather X Wt c) $$ [HM HL] with ⟨HG, HL⟩
  · isplitl [HM]; · iexact HM
    iexact HL
  iapply (agPart_rule X Wt)
  isplitl [HG]; · iexact HG
  iintro HG
  iapply Hk
  iapply (end_body X Wt c)
  isplitl [HG]; · iexact HG
  iexact HL

end Cert.KernelIdeal.Hand

end
-- ==== Proof.KernelIdeal.Start.lean ====
/- What the launch gives each device, its tokens, its semaphores and its credit, and the closing of the semaphores. -/
module

public import proofs.«01_k».proof.Proof.KernelIdeal.Body

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (X : Dev nD → Vec F S4096x256 .f32) (Wt : Dev nD → Vec F S256x2048 .f32)

/-! ## The launch's tokens -/

/-- The tokens of device `c`: of the payments it makes to others, -/
def payTokL (c : Dev nD) : List (GSem nD τ sig × ℕ × Bool) := allIts.map fun i => (It.cell c i, It.rnd i, It.dty i)
/-- and of what its own copies do on its own semaphores when they are sent. -/
def selfTokL (c : Dev nD) : List (GSem nD τ sig × ℕ × Bool) :=
  ((List.range' 0 15).flatMap fun n => rings.map fun r => (cellC c (.dma (rsSend r)), n, true))
    ++ (((List.range' 0 15).flatMap fun n => rings.map fun r => (cellC c (.dma (agSend r)), n, true))
    ++ steps.map fun i => (cellC c (.dma (mxSend i)), 0, true))
def tokL (c : Dev nD) : List (GSem nD τ sig × ℕ × Bool) := payTokL c ++ selfTokL c

/-- Which device a token belongs to. -/
def payer (t : GSem nD τ sig × ℕ × Bool) : Dev nD :=
  match kindOf t.1.2 with
  | .rsR r => frmD r t.1.1.1
  | .cr r => toD r t.1.1.1
  | .agR r _ => frmD r t.1.1.1
  | .mxR e => e
  | .bar => if t.2.2 then toD 0 t.1.1.1 else toD 1 t.1.1.1
  | _ => t.1.1.1

/-- A token's number among those of its device. -/
def code (t : GSem nD τ sig × ℕ × Bool) : ℕ :=
  match kindOf t.1.2 with
  | .mxR e => 1000000 + (t.1.1.1.val + 16 - e.val) % 16
  | .bar => 2000000 + cond t.2.2 1 0
  | _ => numOf t.1.2 * 64 + t.2.1

theorem payer_tok : ∀ c : Dev nD, ∀ t ∈ tokL c, payer t = c := by decide +kernel
theorem code_tok : ∀ c : Dev nD, (tokL c).map code = (tokL 0).map code := by decide +kernel
theorem code_nodup : ((tokL 0).map code).Nodup := by decide +kernel

theorem tokL_nodup (c : Dev nD) : (tokL c).Nodup := List.Nodup.of_map code (by rw [code_tok]; exact code_nodup)

/-- All the tokens of the launch. -/
def ringToks : Finset (GSem nD τ sig × ℕ × Bool) := Finset.univ.biUnion fun c : Dev nD => (tokL c).toFinset

theorem tokL_disj (c d : Dev nD) (h : c ≠ d) : Disjoint (tokL c).toFinset (tokL d).toFinset :=
  Finset.disjoint_left.mpr fun t h1 h2 =>
    h (by rw [← payer_tok c t (List.mem_toFinset.mp h1), payer_tok d t (List.mem_toFinset.mp h2)])

/-- A token of the launch. -/
abbrev dtok (t : GSem nD τ sig × ℕ × Bool) : sProp 𝕄 := dutyTok ER t.1 t.2.1 t.2.2

theorem selfs_eq (c : Dev nD) : bigSepL (selfTokL c) (dtok (F := F)) = selfs (F := F) c := by
  unfold selfTokL selfs
  rw [bigSepL_append, bigSepL_append, bigSepL_flatMap, bigSepL_flatMap, bigSepL_map]
  simp only [bigSepL_map]

theorem toks_eq : (bigSep ringToks (dtok (F := F))) = bigSep Finset.univ fun c : Dev nD => iprop(bigSepL allIts (It.tok (F := F) c) ∗ selfs (F := F) c) := by
  unfold ringToks
  rw [bigSep_biUnion_eq Finset.univ _ _ (fun c _ d _ h => tokL_disj c d h)]
  refine bigSep_congr fun c _ => ?_
  rw [bigSep_eq_bigSepL_of_eq (tokL c) rfl (tokL_nodup c)]
  unfold tokL
  rw [bigSepL_append, selfs_eq]
  unfold payTokL
  rw [bigSepL_map]
  rfl

/-! ## Its semaphores -/

def kcell (ck : Dev nD × Option (Fin 107)) : GSem nD τ sig := cellC ck.1 (csem ck.2)

theorem csem_none : ∀ i : Fin 107, csem none ≠ csem (some i) := by decide +kernel

theorem csem_inj : Function.Injective csem := fun i j h => by
  cases i with
  | none => cases j with
    | none => rfl
    | some j => exact absurd h (csem_none j)
  | some i => cases j with
    | none => exact absurd h.symm (csem_none i)
    | some j => exact congrArg some (osem_inj h)

theorem kcell_inj : Function.Injective kcell := fun ⟨c, i⟩ ⟨d, j⟩ h => by
  have h1 : c = d := congrArg (fun g : GSem nD τ sig => g.1.1) h
  have h2 : csem i = csem j := congrArg (fun g : GSem nD τ sig => g.2) h
  rw [h1, csem_inj h2]

def ringCells : Finset (GSem nD τ sig) := Finset.univ.map ⟨kcell, kcell_inj⟩

theorem cells_eq (Φ : GSem nD τ sig → sProp 𝕄) :
    bigSep ringCells Φ = bigSep Finset.univ fun c : Dev nD => bigSep Finset.univ fun k : Option (Fin 107) => Φ (kcell (c, k)) := by
  unfold ringCells
  rw [← bigSep_univ_prod (fun ck : Dev nD × Option (Fin 107) => Φ (kcell ck))]
  rw [bigSep_map]; rfl

theorem opt_eq (Φ : Option (Fin 107) → sProp 𝕄) :
    bigSep Finset.univ Φ = iprop(Φ none ∗ bigSep Finset.univ fun i : Fin 107 => Φ (some i)) := by
  rw [show (Finset.univ : Finset (Option (Fin 107))) = insert none (Finset.univ.map Function.Embedding.some) from by
      ext x; cases x <;> simp,
    bigSep_insert (by simp), bigSep_map]; rfl

/-! ## The credit -/

/-- What device `c` owes when it begins. -/
def O₀ (c : Dev nD) : CellTallies nD τ sig ℕ := tallyL (allIts.map (It.pay c))

theorem cred_item (i : It) (c : Dev nD) :
    (Pipeline.launchCred (fun d => tallyAt (It.cell d i) (It.lev i) (It.amt i)) c : sProp 𝕄) = It.crd (F := F) c i :=
  Pipeline.launchCred_of_sum (fun d => tallyAt (It.cell d i) (It.lev i) (It.amt i))
    (fun d => tallyAt (cellC d (It.sem (It.src d i) i)) (It.lev i) (It.amt i))
    (Fintype.sum_equiv ⟨fun d => It.dst d i, fun d => It.src d i, fun d => It.src_dst d i, fun d => It.dst_src d i⟩ _ _ fun d => by
      show tallyAt (It.cell d i) _ _ = tallyAt (cellC (It.dst d i) (It.sem (It.src (It.dst d i) i) i)) _ _
      rw [It.src_dst]; rfl)
    (fun d g h => by
      by_contra hg
      exact h (tallyAt_ne_cell (fun he => hg (by rw [he])) _ _)) c

theorem creds (l : List It) (c : Dev nD) :
    (Pipeline.launchCred (fun d => tallyL (l.map (It.pay d))) c : sProp 𝕄) = bigSepL l (It.crd (F := F) c) := by
  induction l with
  | nil => rw [bigSepL_nil]; exact Pipeline.launchCred_zero c
  | cons i l ih =>
    rw [bigSepL_cons', ← ih, ← cred_item]
    exact Pipeline.launchCred_add (fun d => tallyAt (It.cell d i) (It.lev i) (It.amt i)) (fun d => tallyL (l.map (It.pay d))) c

theorem creds_pays (c : Dev nD) : (Pipeline.launchCred O₀ c : sProp 𝕄) ⊢ pays (It.crd (F := F) c) :=
  BIBase.Entails.trans (Entails.of_eq (creds allIts c)) (pays_eq _)

/-! ## What the launch gives each device -/

/-- Funded: the state of each of a device's semaphores, its place in it, and the device's tokens; -/
def G (c : Dev nD) : sProp 𝕄 :=
  iprop((bigSep Finset.univ fun k : Option (Fin 107) => roundState ER (Rd (F := F) X Wt) (kcell (c, k)) 0)
    ∗ ((bigSep Finset.univ fun k : Option (Fin 107) => atPos ER (kcell (c, k)) 0 ∅ 0) ∗ bigSep Finset.univ fun k : Option (Fin 107) => reached ER (kcell (c, k)) 0)
    ∗ (bigSepL allIts (It.tok (F := F) c) ∗ selfs (F := F) c))

/-- what a device then holds alone, -/
def mineOf (c : Dev nD) : sProp 𝕄 :=
  iprop((bigSep Finset.univ fun k : Option (Fin 107) => atPos ER (kcell (c, k)) 0 ∅ 0) ∗ (bigSepL allIts (It.tok (F := F) c) ∗ selfs (F := F) c))
/-- and what all of them know. -/
def recs : sProp 𝕄 := bigSep Finset.univ fun ck : Dev nD × Option (Fin 107) => rec (F := F) X Wt (cellC ck.1 (csem ck.2))
instance recs_persistent : BI.Persistent (recs (F := F) X Wt) := by unfold recs; infer_instance

def G' (c : Dev nD) : sProp 𝕄 := iprop(recs (F := F) X Wt ∗ mineOf (F := F) c)

theorem fund_all : BI.own (ER (initOf ringCells ringToks)) ⊢ (iprop(|==> bigSep Finset.univ (G (F := F) X Wt)) : sProp 𝕄) := by
  iintro HX
  imod (Rounds.fund ER (Rd (F := F) X Wt) ringCells ringToks) $$ HX with ⟨Hst, Hr, Hat, Htok⟩
  imodintro
  ihave Hst := (Entails.of_eq (cells_eq fun g => roundState ER (Rd (F := F) X Wt) g 0)) $$ Hst
  ihave Hat := (Entails.of_eq (cells_eq (F := F) fun g => atPos ER g 0 ∅ 0)) $$ Hat
  ihave Hr := (Entails.of_eq (cells_eq (F := F) fun g => reached ER g 0)) $$ Hr
  ihave Htok := (Entails.of_eq (toks_eq (F := F))) $$ Htok
  unfold G; simp only [bigSep_sep']
  isplitl [Hst]; · iexact Hst
  isplitl [Hat Hr]
  · isplitl [Hat] <;> iassumption
  iexact Htok

theorem unscoped_eq (c : Dev nD) : (unscopedSems0 c : sProp 𝕄) = semVal (cellC c (.reg barS)) 0 := by
  unfold unscopedSems0; rw [bigSep_eq_bigSepL_of_eq [SemLoc.reg barS] (by decide +kernel) (by decide)]; rfl

theorem sems_eq (c : Dev nD) :
    iprop(Pipeline.ownSems0 (Ix := ℕ) (Name := ℕ) (U := UU) (Lvl := ℕ) (Val := Elt F) (τ := τ) osem c ∗ unscopedSems0 c)
      ⊢ (bigSep Finset.univ fun k : Option (Fin 107) => semVal (kcell (c, k)) 0 : sProp 𝕄) := by
  rw [unscoped_eq, opt_eq]
  unfold Pipeline.ownSems0
  iintro ⟨HS, HB⟩
  isplitl [HB]; · iexact HB
  iexact HS

theorem core_alloc (c : Dev nD) :
    iprop(Pipeline.ownSems0 (Ix := ℕ) (Name := ℕ) (U := UU) (Lvl := ℕ) (Val := Elt F) (τ := τ) osem c ∗ unscopedSems0 c ∗ G (F := F) X Wt c)
      ⊢ |={Set.univ}=> iprop((bigSep Finset.univ fun k => rec (F := F) X Wt (kcell (c, k))) ∗ mineOf (F := F) c) := by
  unfold G mineOf
  iintro ⟨Hos, Hus, Hst, ⟨Hat, Hr⟩, Htok⟩
  ihave Hv := (sems_eq (F := F) c) $$ [Hos Hus]
  · isplitl [Hos] <;> iassumption
  imod (show iprop((bigSep Finset.univ fun k : Option (Fin 107) => semVal (kcell (c, k)) 0) ∗ bigSep Finset.univ fun k : Option (Fin 107) => roundState ER (Rd (F := F) X Wt) (kcell (c, k)) 0)
      ⊢ (|={Set.univ}=> bigSep Finset.univ fun k => iprop(∃ κ : ℕ, cellInv ER (Rd (F := F) X Wt) κ (kcell (c, k))) : sProp 𝕄) from by
        rw [← bigSep_sep']
        exact (bigSep_mono fun k _ => (Rounds.body_intro ER (Rd (F := F) X Wt) (kcell (c, k))).trans inv_alloc).trans (bigSep_fupd _ _)) $$ [Hv Hst] with Hinv
  · isplitl [Hv] <;> iassumption
  imodintro
  isplitl [Hinv Hr]
  · unfold rec
    rw [bigSep_sep']
    isplitl [Hinv]; · iexact Hinv
    iexact Hr
  isplitl [Hat]; · iexact Hat
  iexact Htok

/-- What all know goes to each with what it holds alone. -/
theorem share_known {R : sProp 𝕄} [BI.Persistent R] (S : Finset (Dev nD)) (Φ : Dev nD → sProp 𝕄) :
    iprop(R ∗ bigSep S Φ) ⊢ bigSep S fun c => iprop(R ∗ Φ c) := by
  rw [bigSep_sep']
  exact sep_mono_left (BI.bigSep_of_persistent S R)

theorem regroup :
    (bigSep Finset.univ fun c : Dev nD => iprop((bigSep Finset.univ fun k => rec (F := F) X Wt (kcell (c, k))) ∗ mineOf (F := F) c) : sProp 𝕄)
      ⊢ bigSep Finset.univ (G' (F := F) X Wt) := by
  rw [bigSep_sep', ← bigSep_univ_prod (fun ck : Dev nD × Option (Fin 107) => rec (F := F) X Wt (kcell ck))]
  exact share_known (R := recs (F := F) X Wt) Finset.univ (mineOf (F := F))

/-- The semaphores of all devices at once. -/
theorem glob : (bigSep Finset.univ fun c => iprop(Pipeline.ownSems0 (Ix := ℕ) (Name := ℕ) (U := UU) (Lvl := ℕ) (Val := Elt F) (τ := τ) osem c ∗ unscopedSems0 c ∗ G (F := F) X Wt c) : sProp 𝕄)
    ⊢ |={Set.univ}=> bigSep Finset.univ (G' (F := F) X Wt) :=
  ((bigSep_mono fun c _ => core_alloc X Wt c).trans (bigSep_fupd _ _)).trans (BI.fupd_mono (regroup X Wt))

/-! ## Closing the semaphores -/

theorem close (c : Dev nD) {sm : SemLoc sig} (h : Mine sm) {n : ℕ} (hn : nRounds c (kindOf sm) ≤ n) :
    iprop(Cx (F := F) X Wt ∗ pos (F := F) c sm n) ⊢ (|={Set.univ}=> semVal (cellC c sm) 0 : sProp 𝕄) := by
  iintro ⟨#HC, Hp⟩
  ihave Hr := (Cx_rec X Wt c h) $$ HC
  unfold rec
  icases Hr with ⟨⟨%κ, #Hi⟩, -⟩
  iapply (Rounds.cell_close ER (Rd (F := F) X Wt) (Set.mem_univ κ) (fun h => h) (R := n) (fun r hr => duties_end X Wt c rfl (Nat.le_trans hn hr)))
  isplitr; · iexact Hi
  unfold pos
  iexact Hp

/-- At the end every semaphore is at zero. -/
theorem close_all (c : Dev nD) :
    iprop(Cx (F := F) X Wt ∗ (pos c (.reg barS) 1 ∗ each c fun sm => pos (F := F) c sm (nRounds c (kindOf sm))))
      ⊢ (|={Set.univ}=> iprop(semVal (cellC c (.reg barS)) 0 ∗ bigSep Finset.univ fun i : Fin 107 => semVal (cellC c (osem i)) 0) : sProp 𝕄) := by
  rw [← each_eq c fun sm => pos (F := F) c sm (nRounds c (kindOf sm))]
  iintro ⟨#HC, Hb, He⟩
  imod (close X Wt c ⟨none, rfl⟩ (n := 1) (by rw [show kindOf (csem none) = .bar from kind_bar]; exact Nat.le_refl 1)) $$ [Hb] with Hb
  · isplitr; · iexact HC
    iexact Hb
  imod (show iprop(Cx (F := F) X Wt ∗ bigSep Finset.univ fun i : Fin 107 => pos (F := F) c (osem i) (nRounds c (kindOf (osem i))))
      ⊢ (|={Set.univ}=> bigSep Finset.univ fun i : Fin 107 => semVal (cellC c (osem i)) 0 : sProp 𝕄) from
        (sep_mono_left (BI.bigSep_of_persistent Finset.univ (Cx (F := F) X Wt))).trans (by
          rw [← bigSep_sep']
          exact (bigSep_mono fun i _ => close X Wt c ⟨some i, rfl⟩ (Nat.le_refl _)).trans (bigSep_fupd _ _))) $$ [He] with He
  · isplitr; · iexact HC
    iexact He
  imodintro
  isplitl [Hb]; · iexact Hb
  iexact He

end Cert.KernelIdeal.Hand

end
-- ==== Proof.KernelIdeal.Launch.lean ====
/- The run of the sixteen devices: the launch, the body on each, and the final memory. -/
module

public import proofs.«01_k».proof.Proof.KernelIdeal.Start
public import Idealize.ShloMosaic.Lib.Pipeline.Quiescent

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (X : Dev nD → Vec F S4096x256 .f32) (Wt : Dev nD → Vec F S256x2048 .f32)

open Idealize.ShloMosaic.Pipeline (Dat Cfg Window BodyObligation cellOf)

variable (m : (l : Loc nD τ sig) → Buf (Elt F) l) (ρ : Dev nD → PrngReg)

/-! ## The pipeline's data -/

/-- The memory the run begins with, every semaphore at zero. -/
def s₀ : MemSt nD τ sig (Elt F) := ⟨m, fun _ => 0, ρ⟩

/-- A device's block of the first input, as staged, -/
def xstg (c : Dev nD) : (cc0_stg0_0 : Ref sig .tc).ty.Contents (Elt F) :=
  (win0_0.blk (0 : Fin 1)).view.read (Elt F) ((s₀ m ρ).mem ((c : Thread nD τ).loc main_arg0))
/-- and of the second. -/
def wstg (c : Dev nD) : (cc0_stg1_0 : Ref sig .tc).ty.Contents (Elt F) :=
  (win0_1.blk (0 : Fin 1)).view.read (Elt F) ((s₀ m ρ).mem ((c : Thread nD τ).loc main_arg1))
/-- The result of device `c`. -/
def outAt (c : Dev nD) : (cc0_stg2_0 : Ref sig .tc).ty.Contents (Elt F) := outV (F := F) (xstg m ρ) (wstg m ρ) c

/-- What a device holds from the launch, its buffers apart. -/
def start (c : Dev nD) : sProp 𝕄 :=
  iprop(Cx (F := F) (xstg m ρ) (wstg m ρ) ∗ pays (It.tok (F := F) c) ∗ pays (It.crd (F := F) c) ∗ selfs (F := F) c
    ∗ (pos c (.reg barS) 0 ∗ each c fun sm => pos (F := F) c sm 0))

def Φ₀ (c : Dev nD) : sProp 𝕄 := iprop(start (F := F) m ρ c ∗ rest (F := F) c)
def Φ₁ (c : Dev nD) : sProp 𝕄 :=
  iprop((semVal (cellC c (.reg barS)) 0 ∗ bigSep Finset.univ fun i : Fin 107 => semVal (cellC c (osem i)) 0) ∗ rest (F := F) c)

def dats (_ : Fin 1) (c : Dev nD) : Dat τ (Elt F) ℕ ℕ UU ℕ cfg0 c where
  A w := (s₀ m ρ).mem ((cfg0.win w).arr.view.loc (c : Thread nD τ))
  after w _ := match w with | ⟨0, _⟩ => xstg m ρ c | ⟨1, _⟩ => wstg m ρ c | ⟨2, _⟩ => outAt m ρ c
  Φ t := match t with | ⟨0, _⟩ => Φ₀ (F := F) m ρ c | ⟨_ + 1, _⟩ => Φ₁ (F := F) c
  q _ := fullShare
  owed t := match t with | ⟨0, _⟩ => O₀ c | ⟨_ + 1, _⟩ => 0

/-- A buffer at any contents. -/
abbrev bufAt (c : Dev nD) (b : Ref sig .tc) : sProp 𝕄 :=
  iprop(∃ f : Buf (Elt F) (((c : Dev nD) : Thread nD τ).loc b), (((c : Thread nD τ).loc b) ↦{fullShare} f))

theorem any_buf (c : Dev nD) (b : Ref sig .tc) :
    bufAt (F := F) c b = (iprop(∃ Y : b.ty.Contents (Elt F), owns (c : Thread nD τ) (Memref.whole b) fullShare Y) : sProp 𝕄) := by
  simp only [owns_whole]

theorem R4_flat (Φ : Fin 4 → sProp 𝕄) : R4 Φ = iprop(Φ 0 ∗ Φ 1 ∗ Φ 2 ∗ Φ 3) := by
  unfold R4 rings
  rw [bigSepL_cons', bigSepL_cons', bigSepL_cons', bigSepL_singleton]

theorem rest_eq (c : Dev nD) : (Pipeline.scopedRest (Ix := ℕ) (Name := ℕ) (U := UU) (Lvl := ℕ) (Val := Elt F) cfg0.spec c : sProp 𝕄)
    = iprop(anyAt (F := F) c agM ∗ anyAt (F := F) c (rcvM 0) ∗ anyAt (F := F) c (rcvM 1) ∗ anyAt (F := F) c (rcvM 2) ∗ anyAt (F := F) c (rcvM 3)
      ∗ anyAt (F := F) c (accM 0) ∗ anyAt (F := F) c (accM 1) ∗ anyAt (F := F) c (accM 2) ∗ anyAt (F := F) c (accM 3)
      ∗ anyAt (F := F) c mxsM ∗ anyAt (F := F) c mxrM) := by
  rw [show anyAt (F := F) c agM = bufAt c cc0_scratch0 from (any_buf c cc0_scratch0).symm,
    show anyAt (F := F) c (rcvM 0) = bufAt c cc0_scratch1 from (any_buf c cc0_scratch1).symm,
    show anyAt (F := F) c (rcvM 1) = bufAt c cc0_scratch2 from (any_buf c cc0_scratch2).symm,
    show anyAt (F := F) c (rcvM 2) = bufAt c cc0_scratch3 from (any_buf c cc0_scratch3).symm,
    show anyAt (F := F) c (rcvM 3) = bufAt c cc0_scratch4 from (any_buf c cc0_scratch4).symm,
    show anyAt (F := F) c (accM 0) = bufAt c cc0_scratch5 from (any_buf c cc0_scratch5).symm,
    show anyAt (F := F) c (accM 1) = bufAt c cc0_scratch6 from (any_buf c cc0_scratch6).symm,
    show anyAt (F := F) c (accM 2) = bufAt c cc0_scratch7 from (any_buf c cc0_scratch7).symm,
    show anyAt (F := F) c (accM 3) = bufAt c cc0_scratch8 from (any_buf c cc0_scratch8).symm,
    show anyAt (F := F) c mxsM = bufAt c cc0_scratch9 from (any_buf c cc0_scratch9).symm,
    show anyAt (F := F) c mxrM = bufAt c cc0_scratch10 from (any_buf c cc0_scratch10).symm]
  exact scopedRest0_eq c

theorem rest_in (c : Dev nD) : (Pipeline.scopedRest (Ix := ℕ) (Name := ℕ) (U := UU) (Lvl := ℕ) (Val := Elt F) cfg0.spec c : sProp 𝕄) ⊢ rest (F := F) c := by
  rw [rest_eq]
  unfold rest AA
  rw [R4_flat, R4_flat]
  iintro ⟨H0, H1, H2, H3, H4, H5, H6, H7, H8, H9, H10⟩
  isplitl [H0]; · iexact H0
  isplitl [H1 H2 H3 H4]
  · isplitl [H1]; · iexact H1
    isplitl [H2]; · iexact H2
    isplitl [H3]; · iexact H3
    iexact H4
  isplitl [H5 H6 H7 H8]
  · isplitl [H5]; · iexact H5
    isplitl [H6]; · iexact H6
    isplitl [H7]; · iexact H7
    iexact H8
  isplitl [H9]; · iexact H9
  iexact H10

theorem rest_out (c : Dev nD) : rest (F := F) c ⊢ (Pipeline.scopedRest (Ix := ℕ) (Name := ℕ) (U := UU) (Lvl := ℕ) (Val := Elt F) cfg0.spec c : sProp 𝕄) := by
  rw [rest_eq]
  unfold rest AA
  rw [R4_flat, R4_flat]
  iintro ⟨H0, ⟨H1, H2, H3, H4⟩, ⟨H5, H6, H7, H8⟩, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The body -/

def bodyPre (c : Dev nD) : sProp 𝕄 :=
  iprop(Φ₀ (F := F) m ρ c ∗ (dats m ρ 0 c).owesAt 0 t0_0.castSucc
    ∗ (∃ d, owns (c : Thread nD τ) xM fullShare ((dats m ρ 0 c).before (0 : Fin 3) t0_0 d))
    ∗ (∃ d, owns (c : Thread nD τ) wM fullShare ((dats m ρ 0 c).before (1 : Fin 3) t0_0 d))
    ∗ (∃ d, owns (c : Thread nD τ) oM fullShare ((dats m ρ 0 c).before (2 : Fin 3) t0_0 d)))

def bodyPost (c : Dev nD) : sProp 𝕄 :=
  iprop(Φ₁ (F := F) c ∗ (dats m ρ 0 c).owesAt 0 t0_0.succ
    ∗ owns (c : Thread nD τ) xM fullShare (xstg m ρ c) ∗ owns (c : Thread nD τ) wM fullShare (wstg m ρ c) ∗ owns (c : Thread nD τ) oM fullShare (outAt m ρ c))

theorem before_x (c : Dev nD) (d) : (dats (F := F) m ρ 0 c).before (0 : Fin 3) t0_0 d = xstg m ρ c := by
  unfold Dat.before; rw [if_pos (fetch0_0 t0_0)]; rfl
theorem before_w (c : Dev nD) (d) : (dats (F := F) m ρ 0 c).before (1 : Fin 3) t0_0 d = wstg m ρ c := by
  unfold Dat.before; rw [if_pos (fetch0_1 t0_0)]; rfl

theorem pre_in (c : Dev nD) : bodyPre (F := F) m ρ c ⊢ bodyIn (F := F) (xstg m ρ) (wstg m ρ) c := by
  unfold bodyPre Φ₀ start bodyIn St inp anyAt
  simp only [before_x, before_w]
  unfold Dat.owesAt Pipeline.owesWithin
  iintro ⟨⟨⟨#HC, Ht, Hc, Hs, Hp⟩, Hr⟩, ⟨%W, %hW, HO⟩, ⟨%d0, Hx⟩, ⟨%d1, Hw⟩, ⟨%d2, Ho⟩⟩
  isplitl [HO]
  · isplitr; · iexact HC
    iexists W
    iexact HO
  isplitl [Ht]; · iexact Ht
  isplitl [Hc]; · iexact Hc
  isplitl [Hs]; · iexact Hs
  isplitl [Hp]; · iexact Hp
  isplitl [Hx Hw Ho]
  · isplitl [Hx Hw]
    · isplitl [Hx]; · iexact Hx
      iexact Hw
    iexists ((dats m ρ 0 c).before (2 : Fin 3) t0_0 d2)
    iexact Ho
  iexact Hr

theorem out_post (c : Dev nD) : bodyOut (F := F) (xstg m ρ) (wstg m ρ) c ⊢ (|={Set.univ}=> bodyPost (F := F) m ρ c : sProp 𝕄) := by
  unfold bodyOut St inp bodyPost Φ₁
  iintro ⟨⟨#HC, %W, HO⟩, Hp, ⟨⟨Hx, Hw⟩, Ho⟩, Hr⟩
  imod (close_all (xstg m ρ) (wstg m ρ) c) $$ [Hp] with Hz
  · isplitr; · iexact HC
    iexact Hp
  imodintro
  isplitl [Hz Hr]
  · isplitl [Hz]; · iexact Hz
    iexact Hr
  isplitl [HO]
  · unfold Dat.owesAt Pipeline.owesWithin
    iexists W
    isplitr; · ipureintro; exact fun _ _ => Or.inl trivial
    iexact HO
  isplitl [Hx]; · iexact Hx
  isplitl [Hw]; · iexact Hw
  iexact Ho

theorem sound_body (c : Dev nD) :
    bodyPre (F := F) m ρ c ⊢ WP c (bodyAt0 (F := F) t0_0) (fun _ => bodyPost (F := F) m ρ c) := by
  rw [bodyAt_loop]
  unfold loopBody WP
  rw [wp_deviceId]
  refine BIBase.Entails.trans (pre_in m ρ c) ?_
  iintro H
  iapply (body_rule (xstg m ρ) (wstg m ρ) c)
  isplitl [H]; · iexact H
  iintro H
  unfold WP
  rw [wp_ret]
  iapply (out_post m ρ c)
  iexact H

/-- The body table's row is the body. -/
theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m ρ 0 c) (defs₀ (F := F)) 𝒱₀ 0 Set.univ := fun t => by
  rw [fin_N0 t, bigSep_W0, bigSep_W0, row]
  exact triple_restated (sound_body m ρ c) rfl .rfl fun _ => .rfl

/-! ## The launch -/

def u₀ : UU := (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts (SiteBlocks.L 3000) SiteBlocks.lv
        ∗ Pipeline.launchCred O₀ c ∗ prngReg c (ρ c) ∗ G' (F := F) (xstg m ρ) (wstg m ρ) c)
      ⊢ |={Set.univ}=> iprop(start (F := F) m ρ c ∗ emp) := by
  unfold G' mineOf recs
  rw [opt_eq]
  iintro ⟨-, Hlev, Hcr, -, HR, ⟨Hb, He⟩, Ht, Hs⟩
  ihave Hc := (creds_pays (F := F) c) $$ Hcr
  ihave He := (show (bigSep Finset.univ fun i : Fin 107 => atPos ER (kcell (c, some i)) 0 ∅ 0 : sProp 𝕄) ⊢ each c fun sm => pos (F := F) c sm 0 from
    Entails.of_eq (each_eq c fun sm => pos (F := F) c sm 0)) $$ He
  ihave Ht := (pays_eq (It.tok (F := F) c)) $$ Ht
  imodintro
  unfold start Cx
  isplitl
  · isplitl [HR Hlev]
    · isplitl [HR]; · iexact HR
      iexact Hlev
    isplitl [Ht]; · iexact Ht
    isplitl [Hc]; · iexact Hc
    isplitl [Hs]; · iexact Hs
    isplitl [Hb]; · iexact Hb
    iexact He
  · iempintro

theorem phi0_intro (c : Dev nD) :
    iprop(start (F := F) m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (F := F) m ρ c from rfl]
  unfold Φ₀
  iintro ⟨Hs, -, Hr⟩
  isplitl [Hs]; · iexact Hs
  iapply (rest_in c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, unscoped_eq]
  unfold Φ₁ Pipeline.ownSems0
  iintro ⟨⟨Hb, He⟩, Hr⟩
  isplitl [Hb]; · iexact Hb
  isplitl [He]; · iexact He
  iapply (rest_out c); iexact Hr

theorem all_lev : ∀ x ∈ allIts, 0 < x.lev ∧ x.lev < 3000 := by decide +kernel

theorem waits (c : Dev nD) : (levAts (SiteBlocks.L 3000) SiteBlocks.lv : sProp 𝕄) ⊢ Pipeline.cellsWaits cfgs (dats m ρ) 0 0 c :=
  Pipeline.cellsWaits_intro cfgs (dats m ρ) 0 0 c fun w s t => by
    rcases t with ⟨_ | _, ht⟩
    · exact may_wait c _ allIts 0 (by omega) all_lev
    · exact may_wait c _ [] 0 (by omega) (fun x hx => absurd hx List.not_mem_nil)

theorem ownSemFacts : Pipeline.OwnSemFacts cfg0.spec osem := by decide +kernel

theorem share_eq (c : Dev nD) (w : Fin cfg0.W) : (dats (F := F) m ρ 0 c).share w = fullShare := by
  unfold Dat.share; split <;> rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- For any float values, from any memory with every semaphore at zero, every weakly fair run of the sixteen devices ends,
    with each device's arrays at the stated contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun c => (main_chain c).trans rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := SiteBlocks.L 3000) (lv := SiteBlocks.lv) (hL := SiteBlocks.hL 3000) (hwaits := waits m ρ)
    (G := G (F := F) (xstg m ρ) (wstg m ρ)) (G' := G' (F := F) (xstg m ρ) (wstg m ρ)) (u₀ := u₀)
    (hu₀ := by
      unfold u₀
      iintro Hu
      ihave H := (ownU_pair _ _) $$ Hu
      icases H with ⟨HP, HX⟩
      imod (fund_all (xstg m ρ) (wstg m ρ)) $$ HX with HG
      imodintro
      isplitl [HP] <;> iassumption)
    (hglob := glob (xstg m ρ) (wstg m ρ))
    (hA := fun _ _ => rfl) (hpf := fun _ k => k.elim0)
    (X := start m ρ) (Y := fun c => unscopedSems0 c) (Z := fun _ => iprop(emp))
    (hX := start_intro m ρ)
    (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

/-- The same run, read at the arguments, which it leaves unchanged. -/
theorem frame_run : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩) (run_main m ρ)

end Cert.KernelIdeal.Hand

end
-- ==== Proof.Value.Scale.lean ====
/- Over the extended reals: a maximum by its upper bounds, and the quantiser with its clip and without. -/
module

public import Idealize.ShloMosaic.Lib.IdealHost
public import Idealize.ShloMosaic.PureOps.Reduce
public import Idealize.ShloMosaic.PureOps.Ideal.Laws

@[expose] public section

noncomputable section

namespace Cert.Hand

open Idealize.ShloMosaic

/-- The pattern of 448 as an extended real. -/
theorem ofBits_448 : Ideal.ofBits .f32 0x43E00000#32 = ((448 : ℝ) : EReal) := by
  simp [Ideal.ofBits, Ideal.ieee, -EReal.coe_mul]; norm_num
/-- The pattern of −448. -/
theorem ofBits_neg_448 : Ideal.ofBits .f32 0xC3E00000#32 = ((-448 : ℝ) : EReal) := by
  simp [Ideal.ofBits, Ideal.ieee, -EReal.coe_mul, -EReal.coe_neg]; norm_num
/-- The pattern of minus infinity. -/
theorem ofBits_bot : Ideal.ofBits .f32 0xFF800000#32 = ⊥ := by
  simp [Ideal.ofBits, Ideal.ieee]

/-- A fold of maxima is at most `b` just when its start and every entry are. -/
theorem fold_le {ι : Type} (S : Finset ι) (f : ι → EReal) (a b : EReal) :
    S.fold (FloatOps.maximumf (F := Ideal) (φ := .f32)) a f ≤ b ↔ a ≤ b ∧ ∀ i ∈ S, f i ≤ b :=
  Finset.fold_max_le b

/-- A vector reduction by maximum to one entry is at most `b` just when every entry of the source is. -/
theorem red_le {s t : Shape} {axes : List (Fin s.rank)} [Subsingleton t.Idx] (x : FVec Ideal s .f32)
    (h : s.Reduces axes t) (hφ : FKind.Formats .f32) (hacc : 0xFF800000#32 = FKind.maximumf.neutral .f32 hφ) (j : t.Idx) (b : EReal) :
    multiReduction .maximumf axes t x 0xFF800000#32 h hφ hacc j ≤ b ↔ ∀ i, x i ≤ b := by
  rw [multiReduction_maximumf_eq_fold, fold_le]
  refine ⟨fun H i => H.2 i (Finset.mem_filter.2 ⟨Finset.mem_univ _, Subsingleton.elim _ _⟩), fun H => ⟨?_, fun i _ => H i⟩⟩
  show Ideal.ofBits .f32 0xFF800000#32 ≤ b
  rw [ofBits_bot]; exact bot_le

/-- The same of a reduction on the host. -/
theorem hostRed_le {s t u : Shape} {axes : List (Fin s.rank)} [Subsingleton t.Idx] (x : FVec Ideal s .f32) (init : FVec Ideal u .f32)
    (hi : ∀ k, init k = ⊥) (h : s.ReducesTo axes t) (hu : 0 < u.numel) (j : t.Idx) (b : EReal) :
    Host.reduce (FloatOps.maximumf (F := Ideal) (φ := .f32)) x init h hu j ≤ b ↔ ∀ i, x i ≤ b := by
  rw [Host.reduce_eq_fold, fold_le]
  refine ⟨fun H i => H.2 i (Finset.mem_filter.2 ⟨Finset.mem_univ _, Subsingleton.elim _ _⟩), fun H => ⟨?_, fun i _ => H i⟩⟩
  rw [hi]; exact bot_le

/-- Between zero and the greatest value `M`, the quotient by the scale `M / 448` needs no clip to ±448:
    with the clip and without, the product with the scale is the same. -/
theorem quant_eq (y M : EReal) (hy : 0 ≤ y) (hM : y ≤ M) :
    min ((448 : ℝ) : EReal) (max ((-448 : ℝ) : EReal) (Ideal.div y (Ideal.div M ((448 : ℝ) : EReal)))) * Ideal.div M ((448 : ℝ) : EReal)
      = Ideal.div y (Ideal.div M ((448 : ℝ) : EReal)) * Ideal.div M ((448 : ℝ) : EReal) := by
  have hM0 : 0 ≤ M := hy.trans hM
  rw [Ideal.div_coe (by norm_num : (448 : ℝ) ≠ 0) M]
  induction M using EReal.rec with
  | bot => exact absurd hM0 (by simp)
  | top =>
    have e : (⊤ : EReal) * ((1 / 448 : ℝ) : EReal) = ⊤ := EReal.top_mul_coe_of_pos (by norm_num)
    rw [e]
    have e2 : Ideal.div y ⊤ = 0 := by
      unfold Ideal.div; rw [if_neg (by simp)]; simp
    rw [e2]
    have e3 : min ((448 : ℝ) : EReal) (max ((-448 : ℝ) : EReal) 0) = 0 := by
      rw [max_eq_right, min_eq_right]
      · exact EReal.coe_nonneg.2 (by norm_num)
      · exact EReal.coe_nonpos.2 (by norm_num)
    rw [e3]
  | coe M =>
    rw [← EReal.coe_mul]
    have hM' : 0 ≤ M := EReal.coe_nonneg.1 hM0
    rcases hM'.eq_or_lt with h0 | hpos
    · rw [← h0]; simp
    · have hs : M * (1 / 448) ≠ 0 := by positivity
      have hs' : 0 < M * (1 / 448) := by positivity
      rw [Ideal.div_coe hs]
      lift y to ℝ using ⟨ne_top_of_le_ne_top (EReal.coe_ne_top M) hM, ne_bot_of_le_ne_bot EReal.zero_ne_bot hy⟩
      have hy' : 0 ≤ y := EReal.coe_nonneg.1 hy
      have hyM : y ≤ M := EReal.coe_le_coe_iff.1 hM
      rw [← EReal.coe_mul, max_eq_right, min_eq_right]
      · refine EReal.coe_le_coe_iff.2 ?_
        rw [mul_one_div, div_le_iff₀ hs']; linarith
      · refine EReal.coe_le_coe_iff.2 ?_
        have : 0 ≤ y * (1 / (M * (1 / 448))) := by positivity
        linarith

end Cert.Hand

end
-- ==== Proof.Value.Sums.lean ====
/- The values the kernel moves, over the extended reals: the sums, the greatest value, the scale and the result. -/
module

public import proofs.«01_k».proof.Proof.KernelIdeal.Split
public import proofs.«01_k».proof.Proof.Value.Scale
public import Idealize.ShloMosaic.Lib.Pointwise

@[expose] public section

noncomputable section

namespace Cert.KernelIdeal.Hand

open Idealize.ShloMosaic Idealize.ShloMosaic.TcCoe
open Cert.KernelIdeal.Gen Cert.Hand

variable (X : Dev nD → Vec Ideal S4096x256 .f32) (Wt : Dev nD → Vec Ideal S256x2048 .f32)

/-- Device `c`'s share of the product at row `i` and column `j`. -/
def part (c : Dev nD) (i : Fin 4096) (j : Fin 2048) : EReal := ∑ k : Fin 256, X c (ix2 i k) * Wt c (ix2 k j)
/-- The product at row `i` and column `j`: the sum of the devices' shares. -/
def prod (i : Fin 4096) (j : Fin 2048) : EReal := ∑ c : Dev nD, part X Wt c i j

theorem row_lt (r : Fin 4) (k : Dev nD) (i : Fin 64) : rowOf r k.val + i.val < 4096 := by
  have hk : k.val < 16 := k.isLt
  have hr : (bix r).val < 4 := (bix r).isLt
  unfold rowOf; omega

/-- Row `i` of chunk `k` of ring `r`, in the whole array. -/
def rowF (r : Fin 4) (k : Dev nD) (i : Fin 64) : Fin 4096 := ⟨rowOf r k.val + i.val, row_lt r k i⟩

theorem xr_apply (c : Dev nD) (r : Fin 4) (k : Dev nD) (i : Fin 64) (l : Fin 256) : xr X c r k (ix2 i l) = X c (ix2 (rowF r k i) l) := by
  refine congrArg (X c) (funext fun a => Fin.ext ?_)
  match a with
  | ⟨0, _⟩ => show rowOf r k.val + 1 * i.val = rowOf r k.val + i.val; omega
  | ⟨1, _⟩ => show 0 + 1 * l.val = l.val; omega

theorem pay2_apply (x : Vec Ideal S64x256 .f32) (w : Vec Ideal S256x2048 .f32) (i : Fin 64) (j : Fin 2048) :
    k0_pay2 (F := Ideal) x w (ix2 i j) = ∑ k : Fin 256, x (ix2 i k) * w (ix2 k j) := by
  pointwise [k0_pay2]

theorem pay76_apply (x y : Vec Ideal S64x2048 .f32) (i : Fin 64) (j : Fin 2048) :
    k0_pay76 (F := Ideal) x y (ix2 i j) = x (ix2 i j) + y (ix2 i j) := by
  pointwise [k0_pay76]

theorem Pv_apply (c : Dev nD) (r : Fin 4) (n : Nat) (i : Fin 64) (j : Fin 2048) :
    Pv X Wt c r n (ix2 i j) = part X Wt c (rowF r (chF r c n) i) j := by
  unfold Pv part; rw [pay2_apply]
  exact Finset.sum_congr rfl fun k _ => by rw [xr_apply]

/-- What a device sends at step `n` is the sum of the shares of the `n + 1` devices behind it. -/
theorem V_apply (r : Fin 4) (i : Fin 64) (j : Fin 2048) : ∀ (n : Nat) (hn : n < 16) (c : Dev nD),
    V X Wt n c r (ix2 i j) = ∑ t ∈ Finset.range (n + 1), part X Wt (chF r c t) (rowF r (chF r c n) i) j
  | 0, _, c => by
    rw [show V X Wt 0 c r = Pv X Wt c r 0 from rfl, Pv_apply, Finset.sum_range_one, chF_zero]
  | n + 1, hn, c => by
    rw [show V X Wt (n + 1) c r = k0_pay76 (V X Wt n (frmD r c) r) (Pv X Wt c r (n + 1)) from rfl, pay76_apply, V_apply r i j n (by omega),
      Pv_apply, Finset.sum_range_succ' _ (n + 1), chF_zero, chF_frmD r c (by omega)]
    congr 1
    exact Finset.sum_congr rfl fun t ht => by rw [chF_frmD r c (by have := Finset.mem_range.1 ht; omega)]

theorem turn : ∀ (r : Fin 4) (c : Dev nD), Function.Bijective fun t : Fin 16 => chF r c t.val := by decide +kernel

/-- The chunk that stays on a device holds the product. -/
theorem Sv_apply (c : Dev nD) (r : Fin 4) (i : Fin 64) (j : Fin 2048) :
    Sv X Wt c r (ix2 i j) = prod X Wt (rowF r (chF r c 15) i) j := by
  unfold Sv prod
  rw [V_apply X Wt r i j 15 (by omega) c, Finset.sum_range]
  exact (turn r c).sum_comp fun d => part X Wt d (rowF r (chF r c 15) i) j

end Cert.KernelIdeal.Hand

end
-- ==== Proof.Value.Maxima.lean ====
/- Over the extended reals: the greatest value each device finds, the scale and the result. -/
module

public import proofs.«01_k».proof.Proof.Value.Sums
public import Idealize.ShloMosaic.Lib.Pointwise

@[expose] public section

noncomputable section

namespace Cert.KernelIdeal.Hand

open Idealize.ShloMosaic Idealize.ShloMosaic.TcCoe
open Cert.KernelIdeal.Gen Cert.Hand

variable (X : Dev nD → Vec Ideal S4096x256 .f32) (Wt : Dev nD → Vec Ideal S256x2048 .f32)

/-! ## The greatest value -/

theorem cast_le {s t : Shape} (x : FVec Ideal s .f32) (h : s.ShapeCasts t) (b : EReal) : (∀ i, shapeCast t x h i ≤ b) ↔ ∀ i, x i ≤ b := by
  refine ⟨fun H i => ?_, fun H i => H _⟩
  have := H ((Shape.reshapeEquiv h).symm i)
  rwa [show shapeCast t x h ((Shape.reshapeEquiv h).symm i) = x i from congrArg x (Equiv.apply_symm_apply _ _)] at this

instance : Subsingleton S1.Idx := ⟨fun a b => funext fun k => Fin.ext (by
  have ha := (a k).isLt; have hb := (b k).isLt
  match k with
  | ⟨0, _⟩ => have ha : (a 0).val < 1 := ha; have hb : (b 0).val < 1 := hb; show (a 0).val = (b 0).val; omega)⟩

theorem ext_le (v : FVec Ideal S1 .f32) (b : EReal) (P : Prop) (h : ∀ j, v j ≤ b ↔ P) :
    (extractAt ![0, 0, 0] (shapeCast S1x1x1 v shapeCasts_S1_S1x1x1) inpos_S1x1x1_p0_0_0 : Ideal .f32) ≤ b ↔ P := h _

theorem pay143_le (x : Vec Ideal S64x2048 .f32) (b : EReal) : k0_pay143 (F := Ideal) x ≤ b ↔ ∀ i, x i ≤ b := by
  unfold k0_pay143
  dsimp only
  exact ext_le _ b _ fun j => (red_le _ reduces_S1x64x2048_S1 (.inl rfl) rfl j b).trans (cast_le x _ b)

theorem smax (a b : EReal) : Scalar.maximumf (F := Ideal) (φ := .f32) a b = max a b := rfl

theorem pay142_eq (x y z : Vec Ideal S64x2048 .f32) :
    k0_pay142 (F := Ideal) x y z = max (max (max (Ideal.ofBits .f32 0x00000000#32) (k0_pay143 (F := Ideal) x)) (k0_pay143 (F := Ideal) y)) (k0_pay143 (F := Ideal) z) := by
  rw [← smax, ← smax, ← smax]
  unfold k0_pay142 k0_pay143
  rfl

theorem pay144_eq (a b : EReal) : k0_pay144 (F := Ideal) a b = max a b := rfl

theorem pay153_eq (a : EReal) : k0_pay153 (F := Ideal) a = Ideal.div a (Ideal.ofBits .f32 0x43E00000#32) := rfl

theorem mymax_eq (c : Dev nD) : mymax X Wt c = max (max (max (max 0 (k0_pay143 (F := Ideal) (Sv X Wt c 0))) (k0_pay143 (F := Ideal) (Sv X Wt c 1)))
    (k0_pay143 (F := Ideal) (Sv X Wt c 2))) (k0_pay143 (F := Ideal) (Sv X Wt c 3)) := by
  unfold mymax
  rw [pay144_eq, pay142_eq, Ideal.ofBits_zero_f32]

/-- A device's own maximum is at most `b` just when zero and every entry it holds are. -/
theorem mymax_le (c : Dev nD) (b : EReal) : mymax X Wt c ≤ b ↔ 0 ≤ b ∧ ∀ r i, Sv X Wt c r i ≤ b := by
  rw [mymax_eq]
  simp only [max_le_iff, pay143_le]
  constructor
  · rintro ⟨⟨⟨⟨h, h0⟩, h1⟩, h2⟩, h3⟩
    refine ⟨h, fun r => ?_⟩
    match r with
    | 0 => exact h0
    | 1 => exact h1
    | 2 => exact h2
    | 3 => exact h3
  · rintro ⟨h, H⟩
    exact ⟨⟨⟨⟨h, H 0⟩, H 1⟩, H 2⟩, H 3⟩

theorem pay145_at (a b : EReal) (i : S8x128.Idx) : k0_pay145 (F := Ideal) a b i = max a b := rfl

theorem pay146_eq (a : EReal) (v : Vec Ideal S1x1x1 .f32) (m : EReal) (h : ∀ i, v i = m) : k0_pay146 (F := Ideal) a v = max a m := by
  unfold k0_pay146
  exact congrArg (max a) (h _)

theorem step_eq (a : EReal) (e : Dev nD) : k0_pay146 (F := Ideal) a (mxOne X Wt e) = max a (mymax X Wt e) := by
  refine pay146_eq a _ _ fun i => ?_
  unfold mxOne mxv mymax
  rw [pay145_at, pay144_eq]

theorem foldMax_le (c : Dev nD) (b : EReal) : ∀ (l : List (Fin 15)) (a : EReal),
    foldMax X Wt c l a ≤ b ↔ a ≤ b ∧ ∀ i ∈ l, mymax X Wt (mxD c i) ≤ b
  | [], a => by simp [foldMax]
  | i :: l, a => by
    rw [show foldMax X Wt c (i :: l) a = foldMax X Wt c l (k0_pay146 (F := Ideal) a (mxOne X Wt (mxD c i))) from rfl, foldMax_le c b l, step_eq, max_le_iff,
      List.forall_mem_cons, and_assoc]

theorem mxD_all : ∀ (c e : Dev nD), e = c ∨ ∃ i ∈ steps, mxD c i = e := by decide +kernel

/-- The greatest value that device `c` finds, over all devices. -/
def gmax (c : Dev nD) : EReal := foldMax X Wt c steps (mymax X Wt c)

theorem own_row : ∀ (r : Fin 4) (k : Dev nD), chF r (chF r k 1) 15 = k := by decide +kernel

theorem row_split (x : S4096x2048.Idx) : rowF (rgOf x) (ckOf x) ⟨(x 0).val % 64, Nat.mod_lt _ (by decide)⟩ = x 0 := by
  have key : ∀ q : Fin 4, (bix (bix q)).val = q.val := by decide
  have h : (bix (rgOf x)).val = (x 0).val / 1024 := key _
  refine Fin.ext ?_
  show 1024 * (bix (rgOf x)).val + 64 * ((x 0).val / 64 % 16) + (x 0).val % 64 = (x 0).val
  rw [h]
  have : (x 0).val < 4096 := (x 0).isLt
  omega

theorem Sv_ix (c : Dev nD) (r : Fin 4) (i : S64x2048.Idx) : Sv X Wt c r i = prod X Wt (rowF r (chF r c 15) (i 0)) (i 1) :=
  (congrArg (Sv X Wt c r) (eq_ix2 i)).trans (Sv_apply X Wt c r (i 0) (i 1))

/-- The sum at the place of entry `x` on the device that owns it. -/
theorem Sv_at (x : S4096x2048.Idx) : Sv X Wt (chF (rgOf x) (ckOf x) 1) (rgOf x) (inCh x) = prod X Wt (x 0) (x 1) := by
  rw [Sv_ix, own_row]
  exact congrArg (fun q => prod X Wt q (x 1)) (row_split x)

/-- The greatest value is at most `b` just when zero and every entry of the product are. -/
theorem gmax_le (c : Dev nD) (b : EReal) : gmax X Wt c ≤ b ↔ 0 ≤ b ∧ ∀ x : S4096x2048.Idx, prod X Wt (x 0) (x 1) ≤ b := by
  unfold gmax
  rw [foldMax_le]
  constructor
  · rintro ⟨h, H⟩
    have all : ∀ e, mymax X Wt e ≤ b := fun e => by
      rcases mxD_all c e with rfl | ⟨i, hi, rfl⟩
      · exact h
      · exact H i hi
    refine ⟨((mymax_le X Wt c b).1 h).1, fun x => ?_⟩
    rw [← Sv_at]
    exact ((mymax_le X Wt _ b).1 (all _)).2 _ _
  · rintro ⟨h, H⟩
    have all : ∀ e, mymax X Wt e ≤ b := fun e => (mymax_le X Wt e b).2 ⟨h, fun r i => by
      rw [Sv_ix]
      exact H (ix2 (rowF r (chF r e 15) (i 0)) (i 1))⟩
    exact ⟨all c, fun i _ => all _⟩

theorem scl_eq (c : Dev nD) : scl X Wt c = Ideal.div (gmax X Wt c) ((448 : ℝ) : EReal) := by
  unfold scl gmax
  rw [pay153_eq, ofBits_448]

theorem Dv_apply (c : Dev nD) (r : Fin 4) (e : Dev nD) (i : S64x2048.Idx) :
    Dv X Wt c r e i = Ideal.div (max (Sv X Wt e r i) 0) (scl X Wt e) * scl X Wt c := by
  rw [← Ideal.ofBits_zero_f32]
  unfold Dv qv
  pointwise [k0_pay166, k0_pay158, k0_pay157]

/-- A device's result: the product cut at zero, divided by the scale and multiplied by it, whatever `M` has the same
    upper bounds as zero and the product. -/
theorem outV_apply (c : Dev nD) (M : EReal) (hM : ∀ b, M ≤ b ↔ 0 ≤ b ∧ ∀ x : S4096x2048.Idx, prod X Wt (x 0) (x 1) ≤ b) (x : S4096x2048.Idx) :
    outV X Wt c x = Ideal.div (max (prod X Wt (x 0) (x 1)) 0) (Ideal.div M ((448 : ℝ) : EReal)) * Ideal.div M ((448 : ℝ) : EReal) := by
  have e : ∀ d, gmax X Wt d = M := fun d => eq_of_forall_ge_iff fun b => (gmax_le X Wt d b).trans (hM b).symm
  unfold outV
  rw [Dv_apply, Sv_at, scl_eq, scl_eq, e, e]

end Cert.KernelIdeal.Hand

end
-- ==== Proof.Value.Reference.lean ====
/- The reference's run over any float values: its result array is its kernel's value of the host's two arrays. -/
module

public import proofs.«01_k».proof.Proof.Gen.ReferenceIdeal.Value
public import Idealize.ShloMosaic.Lib.Pipeline.Value
public import Idealize.ShloMosaic.Lib.StableHlo.Run
public import Idealize.ShloMosaic.Lib.Claim

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The product, cut at zero, -/
def relu (a : Vec F S4096x4096 .f32) (b : Vec F S4096x2048 .f32) : Vec F S4096x2048 .f32 :=
  maximumf (Host.dotGeneral dot_S4096x4096_S4096x2048_S4096x2048_1_0_0_1_n_n none a b) (broadcastInDim S4096x2048 ![] bcast_S_S4096x2048 (constant S_ .f32 0x00000000#32))
/-- its greatest absolute value, -/
def top (r : Vec F S4096x2048 .f32) : Vec F S_ .f32 :=
  Host.reduce FloatOps.maximumf (Host.absf r) (constant S_ .f32 0xFF800000#32) reducesTo_S4096x2048_S_d0_1 h_S_
/-- and the scale. -/
def scaleOf (g : Vec F S_ .f32) : Vec F S1x1 .f32 := shapeCast S1x1 (Host.divf g (constant S_ .f32 0x43E00000#32)) shapeCasts_S_S1x1

theorem V_relu (c : Dev nD) : V m c main_v2 = relu (m ((c : Thread nD τ).loc main_arg0)) (m ((c : Thread nD τ).loc main_arg1)) := by
  unfold_abbrev_sides
  after_results
  unfold relu
  rfl

theorem V_scale (c : Dev nD) : V m c main_v6 = scaleOf (top (relu (m ((c : Thread nD τ).loc main_arg0)) (m ((c : Thread nD τ).loc main_arg1)))) := by
  unfold_abbrev_sides
  after_results
  unfold scaleOf top relu
  rfl

/-! ## The result array -/

theorem read_blk0 (t : Fin cfg0.N) (f : main_v2.ty.Contents (Elt F)) : (win0_0.blk t).view.read (Elt F) f = f := by
  funext i
  show f _ = f i
  refine congrArg f (funext fun a => Fin.ext ?_)
  match a with
  | ⟨0, _⟩ => exact (by simp : 0 * 4096 + 1 * (i 0).val = (i 0).val)
  | ⟨1, _⟩ => exact (by simp : 0 * 2048 + 1 * (i 1).val = (i 1).val)

theorem read_blk1 (t : Fin cfg0.N) (f : main_v6.ty.Contents (Elt F)) : (win0_1.blk t).view.read (Elt F) f = f := by
  funext i
  show f _ = f i
  refine congrArg f (funext fun a => Fin.ext ?_)
  match a with
  | ⟨0, _⟩ => exact (by simp : 0 * 1 + 1 * (i 0).val = (i 0).val)
  | ⟨1, _⟩ => exact (by simp : 0 * 1 + 1 * (i 1).val = (i 1).val)

theorem read_blk2 (t : Fin cfg0.N) (f : main_v7.ty.Contents (Elt F)) : (win0_2.blk t).view.read (Elt F) f = f := by
  funext i
  show f _ = f i
  refine congrArg f (funext fun a => Fin.ext ?_)
  match a with
  | ⟨0, _⟩ => exact (by simp : 0 * 4096 + 1 * (i 0).val = (i 0).val)
  | ⟨1, _⟩ => exact (by simp : 0 * 2048 + 1 * (i 1).val = (i 1).val)

theorem in_blk2 (t : Fin cfg0.N) (i : S4096x2048.Idx) : i ∈ ((cfg0.win 2).blk t).view.set := by
  show i ∈ ((View.whole main_v7).slice (win0_2.rect t)).set
  rw [View.set_slice_whole, Rect.mem_set_unit]
  intro a
  match a with
  | ⟨0, _⟩ => exact ⟨by show 0 * 4096 ≤ _; omega, by have : (i 0).val < 4096 := (i 0).isLt; show (i 0).val < 0 * 4096 + 4096; omega⟩
  | ⟨1, _⟩ => exact ⟨by show 0 * 2048 ≤ _; omega, by have : (i 1).val < 2048 := (i 1).isLt; show (i 1).val < 0 * 2048 + 2048; omega⟩

theorem hz : (![0, 0] : Fin 2 → Nat) = fun _ => 0 := funext fun a => by fin_cases a <;> rfl

/-- What the reference's result array ends holding. -/
def refV (a : Vec F S4096x4096 .f32) (b : Vec F S4096x2048 .f32) : Vec F S4096x2048 .f32 := k0_pay1 (scaleOf (top (relu a b))) (relu a b)

theorem cut_id (t : Fin cfg0.N) (f : Vec F S4096x2048 .f32) : (cfg0.win 2).cut (grid0.coords t) f = f := rfl

theorem flushed_eq (c : Dev nD) (t : Fin cfg0.N) :
    (dats m 0 c).flushed 2 t = ((cfg0.win 2).blk t).view.read (Elt F) (refV (m ((c : Thread nD τ).loc main_arg0)) (m ((c : Thread nD τ).loc main_arg1))) := by
  rw [Value.flushed2, cut_id]
  refine Eq.trans ?_ (read_blk2 t _).symm
  unfold out0_2
  rw [View.canon_unit_zero hz, View.ld_unit_zero hz, View.ld_unit_zero hz]
  unfold refV
  have e0 : iblk m c 0 t = relu (m ((c : Thread nD τ).loc main_arg0)) (m ((c : Thread nD τ).loc main_arg1)) := (read_blk0 t _).trans (V_relu m c)
  have e1 : iblk m c 1 t = scaleOf (top (relu (m ((c : Thread nD τ).loc main_arg0)) (m ((c : Thread nD τ).loc main_arg1)))) := (read_blk1 t _).trans (V_scale m c)
  rw [e0, e1]

theorem final (c : Dev nD) : (dats m 0 c).arrAt 2 cfg0.N = refV (m ((c : Thread nD τ).loc main_arg0)) (m ((c : Thread nD τ).loc main_arg1)) :=
  (dats m 0 c).arrAt_eq_of_cover 2 _ (fun t _ => flushed_eq m c t) fun i => ⟨⟨0, by decide⟩, flush0_2 _, in_blk2 _ i⟩

/-- The reference's run: its result array at the stated value, the arguments unchanged. -/
theorem run : θ_run defs (onTc (τ := τ) (main (F := F))) ⟨m, fun _ => 0, ρ⟩ fun r => ∀ c : Dev nD,
      r.2.mem ((c : Thread nD τ).loc main_v7) = refV (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.ReferenceIdeal.Hand

end
-- ==== Proof.Value.Kernel.lean ====
/- The kernel's run over any float values, read at its result. -/
module

public import proofs.«01_k».proof.Proof.KernelIdeal.Launch
public import Idealize.ShloMosaic.Lib.Pipeline.Value

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem read_blk0 (t : Fin cfg0.N) (f : main_arg0.ty.Contents (Elt F)) : (win0_0.blk t).view.read (Elt F) f = f := by
  funext i
  show f _ = f i
  refine congrArg f (funext fun a => Fin.ext ?_)
  match a with
  | ⟨0, _⟩ => exact (by simp : 0 * 4096 + 1 * (i 0).val = (i 0).val)
  | ⟨1, _⟩ => exact (by simp : 0 * 256 + 1 * (i 1).val = (i 1).val)

theorem read_blk1 (t : Fin cfg0.N) (f : main_arg1.ty.Contents (Elt F)) : (win0_1.blk t).view.read (Elt F) f = f := by
  funext i
  show f _ = f i
  refine congrArg f (funext fun a => Fin.ext ?_)
  match a with
  | ⟨0, _⟩ => exact (by simp : 0 * 256 + 1 * (i 0).val = (i 0).val)
  | ⟨1, _⟩ => exact (by simp : 0 * 2048 + 1 * (i 1).val = (i 1).val)

theorem read_blk2 (t : Fin cfg0.N) (f : main_v1.ty.Contents (Elt F)) : (win0_2.blk t).view.read (Elt F) f = f := by
  funext i
  show f _ = f i
  refine congrArg f (funext fun a => Fin.ext ?_)
  match a with
  | ⟨0, _⟩ => exact (by simp : 0 * 4096 + 1 * (i 0).val = (i 0).val)
  | ⟨1, _⟩ => exact (by simp : 0 * 2048 + 1 * (i 1).val = (i 1).val)

theorem in_blk2 (t : Fin cfg0.N) (i : S4096x2048.Idx) : i ∈ ((cfg0.win 2).blk t).view.set := by
  show i ∈ ((View.whole main_v1).slice (win0_2.rect t)).set
  rw [View.set_slice_whole, Rect.mem_set_unit]
  intro a
  match a with
  | ⟨0, _⟩ => exact ⟨by show 0 * 4096 ≤ _; omega, by have : (i 0).val < 4096 := (i 0).isLt; show (i 0).val < 0 * 4096 + 4096; omega⟩
  | ⟨1, _⟩ => exact ⟨by show 0 * 2048 ≤ _; omega, by have : (i 1).val < 2048 := (i 1).isLt; show (i 1).val < 0 * 2048 + 2048; omega⟩

/-- A device's result array ends holding the result of the body. -/
theorem final (c : Dev nD) : finalA m ρ c (2 : Fin 3) = outV (F := F) (fun d : Dev nD => m ((d.tc : Thread nD τ).loc main_arg0)) (fun d : Dev nD => m ((d.tc : Thread nD τ).loc main_arg1)) c := by
  have ex : xstg m ρ = fun d : Dev nD => m ((d.tc : Thread nD τ).loc main_arg0) := funext fun d => read_blk0 t0_0 _
  have ew : wstg m ρ = fun d : Dev nD => m ((d.tc : Thread nD τ).loc main_arg1) := funext fun d => read_blk1 t0_0 _
  have e : finalA m ρ c (2 : Fin 3) = outAt m ρ c :=
    (dats m ρ 0 c).arrAt_eq_of_cover (2 : Fin 3) (outAt m ρ c) (fun t _ => (read_blk2 t (outAt m ρ c)).symm) fun i => ⟨t0_0, flush0_2 _, in_blk2 _ i⟩
  rw [e, outAt, ex, ew]

/-- The kernel's run: each device's result at the stated value, the arguments unchanged. -/
theorem run : θ_run defs (onTc (τ := τ) (main (F := F))) ⟨m, fun _ => 0, ρ⟩ fun r => ∀ c : Dev nD,
      r.2.mem ((c.tc : Thread nD τ).loc main_v1) = outV (F := F) (fun d : Dev nD => m ((d.tc : Thread nD τ).loc main_arg0)) (fun d : Dev nD => m ((d.tc : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c (2 : Fin 3)).trans (final m ρ c), (h.1 c (0 : Fin 3)).trans (finalA_x m ρ c),
    (h.1 c (1 : Fin 3)).trans (finalA_w m ρ c)⟩) (run_main m ρ)

end Cert.KernelIdeal.Hand

end
-- ==== Proof.Value.Algebra.lean ====
/- Over the extended reals: the reference's result at an entry, and that it is the kernel's. -/
module

public import proofs.«01_k».proof.Defs
public import proofs.«01_k».proof.Proof.Value.Maxima
public import proofs.«01_k».proof.Proof.Value.Reference
public import proofs.«01_k».proof.Proof.Value.Kernel
public import Idealize.ShloMosaic.Lib.StackMember
public import Idealize.ShloMosaic.Lib.Layout

@[expose] public section

noncomputable section

namespace Cert.ReferenceIdeal.Hand

open Cert.ReferenceIdeal Cert.ReferenceIdeal.Gen Cert.Hand Idealize.ShloMosaic Idealize.ShloMosaic.TcCoe

variable (a : Vec Ideal S4096x4096 .f32) (b : Vec Ideal S4096x2048 .f32)

/-- The product at an entry. -/
def dotAt (i : Fin 4096) (j : Fin 2048) : EReal := ∑ k : Fin 4096, a (ix2 i k) * b (ix2 k j)

theorem dot_apply (i : Fin 4096) (j : Fin 2048) : (Host.dotGeneral (F := Ideal) (φ₁ := .f32) (φ₂ := .f32) dot_S4096x4096_S4096x2048_S4096x2048_1_0_0_1_n_n none a b (ix2 i j) : EReal) = dotAt a b i j :=
  by unfold dotAt; pointwise []

theorem max_at (x y : FVec Ideal S4096x2048 .f32) (i : S4096x2048.Idx) : (maximumf x y i : EReal) = max (x i) (y i) := rfl

theorem zero_at (i : S4096x2048.Idx) : broadcastInDim S4096x2048 ![] bcast_S_S4096x2048 (constant (F := Ideal) S_ .f32 0x00000000#32) i = 0 :=
  (show _ = Ideal.ofBits .f32 0x00000000#32 from rfl).trans Ideal.ofBits_zero_f32

theorem relu_apply (x : S4096x2048.Idx) : relu a b x = max (dotAt a b (x 0) (x 1)) 0 := by
  unfold relu
  rw [max_at, zero_at]
  exact congrArg (fun q => max q 0) ((congrArg _ (eq_ix2 x)).trans (dot_apply a b (x 0) (x 1)))

instance : Subsingleton S_.Idx := ⟨fun p q => funext fun k => k.elim0⟩

theorem abs_at (r : FVec Ideal S4096x2048 .f32) (i : S4096x2048.Idx) : (Host.absf r i : EReal) = max (r i) (-(r i : EReal)) := rfl

/-- The greatest absolute value has the upper bounds of zero and of the product. -/
theorem top_le (j : S_.Idx) (c : EReal) : top (relu a b) j ≤ c ↔ 0 ≤ c ∧ ∀ x : S4096x2048.Idx, dotAt a b (x 0) (x 1) ≤ c := by
  unfold top
  refine (hostRed_le (Host.absf (F := Ideal) (φ := .f32) (relu a b)) (constant (F := Ideal) S_ .f32 0xFF800000#32) (fun _ => ofBits_bot) reducesTo_S4096x2048_S_d0_1 h_S_ j c).trans ?_
  have e : ∀ x, (Host.absf (F := Ideal) (φ := .f32) (relu a b) x : EReal) = max (dotAt a b (x 0) (x 1)) 0 := fun x => by
    rw [abs_at, relu_apply]
    refine max_eq_left (le_trans ?_ (le_max_right _ _))
    have h : -(max (dotAt a b (x 0) (x 1)) 0) ≤ -(0 : EReal) := EReal.neg_le_neg_iff.2 (le_max_right _ _)
    exact h.trans (le_of_eq neg_zero)
  simp only [e, max_le_iff]
  exact ⟨fun H => ⟨(H (ix2 (0 : Fin 4096) (0 : Fin 2048))).2, fun x => (H x).1⟩, fun H x => ⟨H.2 x, H.1⟩⟩

theorem pay1_at (s : Vec Ideal S1x1 .f32) (r : Vec Ideal S4096x2048 .f32) (x : S4096x2048.Idx) (σ : EReal) (hs : ∀ i, s i = σ) :
    k0_pay1 (F := Ideal) s r x = min (Ideal.ofBits .f32 0x43E00000#32) (max (Ideal.ofBits .f32 0xC3E00000#32) (Ideal.div (r x) σ)) * σ := by
  obtain rfl : s = fun _ => σ := funext hs
  rw [eq_ix2 x]
  pointwise [k0_pay1]

theorem scale_at (g : Vec Ideal S_ .f32) (M : EReal) (h : ∀ j, g j = M) (i : S1x1.Idx) : scaleOf (F := Ideal) g i = Ideal.div M ((448 : ℝ) : EReal) := by
  obtain rfl : g = fun _ => M := funext h
  rw [← ofBits_448]
  rfl

/-- The reference's result at an entry. -/
theorem refV_apply (M : EReal) (hM : ∀ c, M ≤ c ↔ 0 ≤ c ∧ ∀ x : S4096x2048.Idx, dotAt a b (x 0) (x 1) ≤ c) (x : S4096x2048.Idx) :
    refV a b x = Ideal.div (max (dotAt a b (x 0) (x 1)) 0) (Ideal.div M ((448 : ℝ) : EReal)) * Ideal.div M ((448 : ℝ) : EReal) := by
  have hg : ∀ j, top (relu a b) j = M := fun j => eq_of_forall_ge_iff fun c => (top_le a b j c).trans (hM c).symm
  unfold refV
  rw [pay1_at _ _ x _ (scale_at _ M hg), ofBits_448, ofBits_neg_448, relu_apply]
  have h0 := (hM M).1 le_rfl
  exact quant_eq _ _ (le_max_right _ _) (max_le (h0.2 x) h0.1)

end Cert.ReferenceIdeal.Hand

namespace Cert.Hand

open Idealize.ShloMosaic Idealize.ShloMosaic.TcCoe Idealize.SL.Sem
open Cert.ReferenceIdeal.Hand (dotAt refV refV_apply top relu top_le)
open Cert.KernelIdeal.Hand (prod part outV outV_apply)

/-- A sum over the whole contracted axis, device by device. -/
theorem sum_blocks (f : Fin 4096 → EReal) (h : ∀ (c : Fin 16) (k : Fin 256), c.val * 256 + k.val < 4096) :
    ∑ c : Fin 16, ∑ k : Fin 256, f ⟨c.val * 256 + k.val, h c k⟩ = ∑ k : Fin 4096, f k := by
  rw [← Fintype.sum_prod_type' (fun (c : Fin 16) (k : Fin 256) => f ⟨c.val * 256 + k.val, h c k⟩)]
  exact Fintype.sum_equiv (finProdFinEquiv : Fin 16 × Fin 256 ≃ Fin (16 * 256)) _ f fun x => congrArg f (Fin.ext (by
    show x.1.val * 256 + x.2.val = x.2.val + 256 * x.1.val
    omega))

variable (a : Vec Ideal ⟨2, ![4096, 4096]⟩ .f32) (b : Vec Ideal ⟨2, ![4096, 2048]⟩ .f32)

/-- The sum of the devices' shares is the product. -/
theorem prod_eq (i : Fin 4096) (j : Fin 2048) :
    prod (fun c : Fin 16 => Layout.block ⟨2, ![4096, 256]⟩ ⟨2, ![4096, 4096]⟩ 1 16 c a)
      (fun c : Fin 16 => Layout.block ⟨2, ![256, 2048]⟩ ⟨2, ![4096, 2048]⟩ 0 16 c b) i j = dotAt a b i j := by
  have h : ∀ (c : Fin 16) (k : Fin 256), c.val * 256 + k.val < 4096 := fun c k => by omega
  unfold dotAt
  rw [← sum_blocks (fun k => a (ix2 i k) * b (ix2 k j)) h]
  refine Finset.sum_congr rfl fun c _ => Finset.sum_congr rfl fun k _ => ?_
  refine congrArg₂ (· * ·) (congrArg a ?_) (congrArg b ?_)
  · funext q; match q with
    | ⟨0, _⟩ => rfl
    | ⟨1, _⟩ => rfl
  · funext q; match q with
    | ⟨0, _⟩ => rfl
    | ⟨1, _⟩ => rfl

/-- Every device's result is the reference's. -/
theorem value_eq (c : Fin 16) :
    outV (F := Ideal) (fun c : Fin 16 => Layout.block ⟨2, ![4096, 256]⟩ ⟨2, ![4096, 4096]⟩ 1 16 c a)
      (fun c : Fin 16 => Layout.block ⟨2, ![256, 2048]⟩ ⟨2, ![4096, 2048]⟩ 0 16 c b) c = refV a b := by
  obtain ⟨M, hM⟩ : ∃ M : EReal, ∀ d, M ≤ d ↔ 0 ≤ d ∧ ∀ y : Cert.ReferenceIdeal.S4096x2048.Idx, dotAt a b (y 0) (y 1) ≤ d :=
    ⟨_, fun d => top_le a b (fun k => k.elim0) d⟩
  have e := prod_eq a b
  revert e
  generalize (fun c : Fin 16 => Layout.block ⟨2, ![4096, 256]⟩ ⟨2, ![4096, 4096]⟩ 1 16 c a) = X
  generalize (fun c : Fin 16 => Layout.block ⟨2, ![256, 2048]⟩ ⟨2, ![4096, 2048]⟩ 0 16 c b) = W
  intro e
  funext x
  have hK : ∀ d, M ≤ d ↔ 0 ≤ d ∧ ∀ y : Cert.KernelIdeal.S4096x2048.Idx, prod X W (y 0) (y 1) ≤ d := fun d =>
    ⟨fun h => ⟨((hM d).1 h).1, fun y => (e (y 0) (y 1)).le.trans (((hM d).1 h).2 y)⟩,
      fun h => (hM d).2 ⟨h.1, fun y => (e (y 0) (y 1)).ge.trans (h.2 y)⟩⟩
  have h1 := outV_apply X W c M hK x
  have h2 := refV_apply a b M hM x
  have h3 : prod X W (x 0) (x 1) = dotAt a b (x 0) (x 1) := e (x 0) (x 1)
  exact h1.trans ((congrArg (fun q : EReal => Ideal.div (max q 0) (Ideal.div M ((448 : ℝ) : EReal)) * Ideal.div M ((448 : ℝ) : EReal)) h3).trans h2.symm)

theorem algebraic [hK : Cert.KernelIdeal.Facts] [hR : Cert.ReferenceIdeal.Facts] : Cert.algebraic_KernelIdeal_ReferenceIdeal := by
  intro m g m' g' _ hagree
  refine ⟨refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h c).1.trans ?_, (h c).2⟩) (Cert.KernelIdeal.Hand.run (F := Ideal) m g)
    rw [← value_eq _ _ c]
    exact congrArg₂ (fun X W => outV (F := Ideal) X W c) (funext fun d => (hagree d).1) (funext fun d => (hagree d).2)
  · exact (θ_run Cert.ReferenceIdeal.defs _ _).mono (fun _ h => h 0) (Cert.ReferenceIdeal.Hand.run (F := Ideal) m' g')

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Launch
public import proofs.«01_k».proof.Proof.KernelIdeal.Launch
public import proofs.«01_k».proof.Proof.Value.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame_run m ρ, fun m ρ _ => Cert.KernelIdeal.Hand.frame_run m ρ,
  fun m ρ _ => Cert.ReferenceIdeal.Gen.frame m ρ, trivial, Cert.Hand.algebraic⟩

end Cert.Proof

end
